-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_inputs [hPre_finite_inputs : Cert.Pre_finite_inputs.Facts] (m : (ℓ : Loc Cert.InprojIdeal.nD Cert.InprojIdeal.τ Cert.InprojIdeal.sig) → Buf (Elt Ideal) ℓ) : Prop :=
  ∀ c : Dev Cert.InprojIdeal.nD,
    (Cert.Pre_finite_inputs.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3))) = (fun _ => 1#1)

def Pre_InprojReferenceIdeal (m : (ℓ : Loc Cert.InprojReferenceIdeal.nD Cert.InprojReferenceIdeal.τ Cert.InprojReferenceIdeal.sig) → Buf (Elt Ideal) ℓ) : Prop :=
  True

def Pre_InprojReferenceIdeal_finite_inputs [hPre_finite_inputs : Cert.Pre_finite_inputs.Facts] (m : (ℓ : Loc Cert.InprojReferenceIdeal.nD Cert.InprojReferenceIdeal.τ Cert.InprojReferenceIdeal.sig) → Buf (Elt Ideal) ℓ) : Prop :=
  ∀ c : Dev Cert.InprojReferenceIdeal.nD,
    (Cert.Pre_finite_inputs.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3))) = (fun _ => 1#1)

def Pre_OutprojFirst (m : (ℓ : Loc Cert.OutprojFirst.nD Cert.OutprojFirst.τ Cert.OutprojFirst.sig) → Buf (Elt Bits) ℓ) : Prop :=
  True

def Pre_OutprojFirstIdeal (m : (ℓ : Loc Cert.OutprojFirstIdeal.nD Cert.OutprojFirstIdeal.τ Cert.OutprojFirstIdeal.sig) → Buf (Elt Ideal) ℓ) : Prop :=
  True

def Pre_OutprojFirstReferenceIdeal (m : (ℓ : Loc Cert.OutprojFirstReferenceIdeal.nD Cert.OutprojFirstReferenceIdeal.τ Cert.OutprojFirstReferenceIdeal.sig) → Buf (Elt Ideal) ℓ) : Prop :=
  True

def Pre_InprojSecond (m : (ℓ : Loc Cert.InprojSecond.nD Cert.InprojSecond.τ Cert.InprojSecond.sig) → Buf (Elt Bits) ℓ) : Prop :=
  True

def Pre_InprojSecondIdeal (m : (ℓ : Loc Cert.InprojSecondIdeal.nD Cert.InprojSecondIdeal.τ Cert.InprojSecondIdeal.sig) → Buf (Elt Ideal) ℓ) : Prop :=
  True

def Pre_InprojSecondIdeal_finite_rows [hPre_finite_rows : Cert.Pre_finite_rows.Facts] (m : (ℓ : Loc Cert.InprojSecondIdeal.nD Cert.InprojSecondIdeal.τ Cert.InprojSecondIdeal.sig) → Buf (Elt Ideal) ℓ) : Prop :=
  ∀ c : Dev Cert.InprojSecondIdeal.nD,
    (Cert.Pre_finite_rows.fn (F := Ideal) (m ((c.tc : Thread Cert.InprojSecondIdeal.nD Cert.InprojSecondIdeal.τ).loc Cert.InprojSecondIdeal.main_arg0)) (m ((c.tc : Thread Cert.InprojSecondIdeal.nD Cert.InprojSecondIdeal.τ).loc Cert.InprojSecondIdeal.main_arg1)) (m ((c.tc : Thread Cert.InprojSecondIdeal.nD Cert.InprojSecondIdeal.τ).loc Cert.InprojSecondIdeal.main_arg2))) = (fun _ => 1#1)

def Pre_InprojSecondReferenceIdeal (m : (ℓ : Loc Cert.InprojSecondReferenceIdeal.nD Cert.InprojSecondReferenceIdeal.τ Cert.InprojSecondReferenceIdeal.sig) → Buf (Elt Ideal) ℓ) : Prop :=
  True

def Pre_InprojSecondReferenceIdeal_finite_rows [hPre_finite_rows : Cert.Pre_finite_rows.Facts] (m : (ℓ : Loc Cert.InprojSecondReferenceIdeal.nD Cert.InprojSecondReferenceIdeal.τ Cert.InprojSecondReferenceIdeal.sig) → Buf (Elt Ideal) ℓ) : Prop :=
  ∀ c : Dev Cert.InprojSecondReferenceIdeal.nD,
    (Cert.Pre_finite_rows.fn (F := Ideal) (m ((c.tc : Thread Cert.InprojSecondReferenceIdeal.nD Cert.InprojSecondReferenceIdeal.τ).loc Cert.InprojSecondReferenceIdeal.main_arg0)) (m ((c.tc : Thread Cert.InprojSecondReferenceIdeal.nD Cert.InprojSecondReferenceIdeal.τ).loc Cert.InprojSecondReferenceIdeal.main_arg1)) (m ((c.tc : Thread Cert.InprojSecondReferenceIdeal.nD Cert.InprojSecondReferenceIdeal.τ).loc Cert.InprojSecondReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojIdeal_pre_finite_inputs [hInprojIdeal : Cert.InprojIdeal.Facts] [hPre_finite_inputs : Cert.Pre_finite_inputs.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_inputs m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3))
      ∧ r.2.sem = fun _ => 0)

def quiescent_InprojReferenceIdeal_pre_finite_inputs [hInprojReferenceIdeal : Cert.InprojReferenceIdeal.Facts] [hPre_finite_inputs : Cert.Pre_finite_inputs.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal_finite_inputs m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3))
      ∧ r.2.sem = fun _ => 0)

def quiescent_OutprojFirst [hOutprojFirst : Cert.OutprojFirst.Facts] : Prop :=
  ∀ (m : (ℓ : Loc Cert.OutprojFirst.nD Cert.OutprojFirst.τ Cert.OutprojFirst.sig) → Buf (Elt Bits) ℓ) (g : Dev Cert.OutprojFirst.nD → PrngReg), Pre_OutprojFirst m →
    θ_run (Cert.OutprojFirst.defs (F := Bits)) (onTc (τ := Cert.OutprojFirst.τ) (Cert.OutprojFirst.main (F := Bits))) ⟨m, fun _ => 0, g⟩ (fun r => (∀ c : Dev Cert.OutprojFirst.nD,
      r.2.mem ((c.tc : Thread Cert.OutprojFirst.nD Cert.OutprojFirst.τ).loc Cert.OutprojFirst.main_arg0) = m ((c.tc : Thread Cert.OutprojFirst.nD Cert.OutprojFirst.τ).loc Cert.OutprojFirst.main_arg0)
      ∧ r.2.mem ((c.tc : Thread Cert.OutprojFirst.nD Cert.OutprojFirst.τ).loc Cert.OutprojFirst.main_arg1) = m ((c.tc : Thread Cert.OutprojFirst.nD Cert.OutprojFirst.τ).loc Cert.OutprojFirst.main_arg1)
      ∧ r.2.mem ((c.tc : Thread Cert.OutprojFirst.nD Cert.OutprojFirst.τ).loc Cert.OutprojFirst.main_arg2) = m ((c.tc : Thread Cert.OutprojFirst.nD Cert.OutprojFirst.τ).loc Cert.OutprojFirst.main_arg2)
      ∧ r.2.mem ((c.tc : Thread Cert.OutprojFirst.nD Cert.OutprojFirst.τ).loc Cert.OutprojFirst.main_arg3) = m ((c.tc : Thread Cert.OutprojFirst.nD Cert.OutprojFirst.τ).loc Cert.OutprojFirst.main_arg3)
      ∧ r.2.mem ((c.tc : Thread Cert.OutprojFirst.nD Cert.OutprojFirst.τ).loc Cert.OutprojFirst.main_arg4) = m ((c.tc : Thread Cert.OutprojFirst.nD Cert.OutprojFirst.τ).loc Cert.OutprojFirst.main_arg4)
      ∧ r.2.mem ((c.tc : Thread Cert.OutprojFirst.nD Cert.OutprojFirst.τ).loc Cert.OutprojFirst.main_arg5) = m ((c.tc : Thread Cert.OutprojFirst.nD Cert.OutprojFirst.τ).loc Cert.OutprojFirst.main_arg5))
      ∧ r.2.sem = fun _ => 0)

def quiescent_OutprojFirstIdeal [hOutprojFirstIdeal : Cert.OutprojFirstIdeal.Facts] : Prop :=
  ∀ (m : (ℓ : Loc Cert.OutprojFirstIdeal.nD Cert.OutprojFirstIdeal.τ Cert.OutprojFirstIdeal.sig) → Buf (Elt Ideal) ℓ) (g : Dev Cert.OutprojFirstIdeal.nD → PrngReg), Pre_OutprojFirstIdeal m →
    θ_run (Cert.OutprojFirstIdeal.defs (F := Ideal)) (onTc (τ := Cert.OutprojFirstIdeal.τ) (Cert.OutprojFirstIdeal.main (F := Ideal))) ⟨m, fun _ => 0, g⟩ (fun r => (∀ c : Dev Cert.OutprojFirstIdeal.nD,
      r.2.mem ((c.tc : Thread Cert.OutprojFirstIdeal.nD Cert.OutprojFirstIdeal.τ).loc Cert.OutprojFirstIdeal.main_arg0) = m ((c.tc : Thread Cert.OutprojFirstIdeal.nD Cert.OutprojFirstIdeal.τ).loc Cert.OutprojFirstIdeal.main_arg0)
      ∧ r.2.mem ((c.tc : Thread Cert.OutprojFirstIdeal.nD Cert.OutprojFirstIdeal.τ).loc Cert.OutprojFirstIdeal.main_arg1) = m ((c.tc : Thread Cert.OutprojFirstIdeal.nD Cert.OutprojFirstIdeal.τ).loc Cert.OutprojFirstIdeal.main_arg1)
      ∧ r.2.mem ((c.tc : Thread Cert.OutprojFirstIdeal.nD Cert.OutprojFirstIdeal.τ).loc Cert.OutprojFirstIdeal.main_arg2) = m ((c.tc : Thread Cert.OutprojFirstIdeal.nD Cert.OutprojFirstIdeal.τ).loc Cert.OutprojFirstIdeal.main_arg2)
      ∧ r.2.mem ((c.tc : Thread Cert.OutprojFirstIdeal.nD Cert.OutprojFirstIdeal.τ).loc Cert.OutprojFirstIdeal.main_arg3) = m ((c.tc : Thread Cert.OutprojFirstIdeal.nD Cert.OutprojFirstIdeal.τ).loc Cert.OutprojFirstIdeal.main_arg3)
      ∧ r.2.mem ((c.tc : Thread Cert.OutprojFirstIdeal.nD Cert.OutprojFirstIdeal.τ).loc Cert.OutprojFirstIdeal.main_arg4) = m ((c.tc : Thread Cert.OutprojFirstIdeal.nD Cert.OutprojFirstIdeal.τ).loc Cert.OutprojFirstIdeal.main_arg4)
      ∧ r.2.mem ((c.tc : Thread Cert.OutprojFirstIdeal.nD Cert.OutprojFirstIdeal.τ).loc Cert.OutprojFirstIdeal.main_arg5) = m ((c.tc : Thread Cert.OutprojFirstIdeal.nD Cert.OutprojFirstIdeal.τ).loc Cert.OutprojFirstIdeal.main_arg5))
      ∧ r.2.sem = fun _ => 0)

def quiescent_OutprojFirstReferenceIdeal [hOutprojFirstReferenceIdeal : Cert.OutprojFirstReferenceIdeal.Facts] : Prop :=
  ∀ (m : (ℓ : Loc Cert.OutprojFirstReferenceIdeal.nD Cert.OutprojFirstReferenceIdeal.τ Cert.OutprojFirstReferenceIdeal.sig) → Buf (Elt Ideal) ℓ) (g : Dev Cert.OutprojFirstReferenceIdeal.nD → PrngReg), Pre_OutprojFirstReferenceIdeal m →
    θ_run (Cert.OutprojFirstReferenceIdeal.defs (F := Ideal)) (onTc (τ := Cert.OutprojFirstReferenceIdeal.τ) (Cert.OutprojFirstReferenceIdeal.main (F := Ideal))) ⟨m, fun _ => 0, g⟩ (fun r => (∀ c : Dev Cert.OutprojFirstReferenceIdeal.nD,
      r.2.mem ((c.tc : Thread Cert.OutprojFirstReferenceIdeal.nD Cert.OutprojFirstReferenceIdeal.τ).loc Cert.OutprojFirstReferenceIdeal.main_arg0) = m ((c.tc : Thread Cert.OutprojFirstReferenceIdeal.nD Cert.OutprojFirstReferenceIdeal.τ).loc Cert.OutprojFirstReferenceIdeal.main_arg0)
      ∧ r.2.mem ((c.tc : Thread Cert.OutprojFirstReferenceIdeal.nD Cert.OutprojFirstReferenceIdeal.τ).loc Cert.OutprojFirstReferenceIdeal.main_arg1) = m ((c.tc : Thread Cert.OutprojFirstReferenceIdeal.nD Cert.OutprojFirstReferenceIdeal.τ).loc Cert.OutprojFirstReferenceIdeal.main_arg1)
      ∧ r.2.mem ((c.tc : Thread Cert.OutprojFirstReferenceIdeal.nD Cert.OutprojFirstReferenceIdeal.τ).loc Cert.OutprojFirstReferenceIdeal.main_arg2) = m ((c.tc : Thread Cert.OutprojFirstReferenceIdeal.nD Cert.OutprojFirstReferenceIdeal.τ).loc Cert.OutprojFirstReferenceIdeal.main_arg2)
      ∧ r.2.mem ((c.tc : Thread Cert.OutprojFirstReferenceIdeal.nD Cert.OutprojFirstReferenceIdeal.τ).loc Cert.OutprojFirstReferenceIdeal.main_arg3) = m ((c.tc : Thread Cert.OutprojFirstReferenceIdeal.nD Cert.OutprojFirstReferenceIdeal.τ).loc Cert.OutprojFirstReferenceIdeal.main_arg3)
      ∧ r.2.mem ((c.tc : Thread Cert.OutprojFirstReferenceIdeal.nD Cert.OutprojFirstReferenceIdeal.τ).loc Cert.OutprojFirstReferenceIdeal.main_arg4) = m ((c.tc : Thread Cert.OutprojFirstReferenceIdeal.nD Cert.OutprojFirstReferenceIdeal.τ).loc Cert.OutprojFirstReferenceIdeal.main_arg4)
      ∧ r.2.mem ((c.tc : Thread Cert.OutprojFirstReferenceIdeal.nD Cert.OutprojFirstReferenceIdeal.τ).loc Cert.OutprojFirstReferenceIdeal.main_arg5) = m ((c.tc : Thread Cert.OutprojFirstReferenceIdeal.nD Cert.OutprojFirstReferenceIdeal.τ).loc Cert.OutprojFirstReferenceIdeal.main_arg5))
      ∧ r.2.sem = fun _ => 0)

def quiescent_InprojSecond [hInprojSecond : Cert.InprojSecond.Facts] : Prop :=
  ∀ (m : (ℓ : Loc Cert.InprojSecond.nD Cert.InprojSecond.τ Cert.InprojSecond.sig) → Buf (Elt Bits) ℓ) (g : Dev Cert.InprojSecond.nD → PrngReg), Pre_InprojSecond m →
    θ_run (Cert.InprojSecond.defs (F := Bits)) (onTc (τ := Cert.InprojSecond.τ) (Cert.InprojSecond.main (F := Bits))) ⟨m, fun _ => 0, g⟩ (fun r => (∀ c : Dev Cert.InprojSecond.nD,
      r.2.mem ((c.tc : Thread Cert.InprojSecond.nD Cert.InprojSecond.τ).loc Cert.InprojSecond.main_arg0) = m ((c.tc : Thread Cert.InprojSecond.nD Cert.InprojSecond.τ).loc Cert.InprojSecond.main_arg0)
      ∧ r.2.mem ((c.tc : Thread Cert.InprojSecond.nD Cert.InprojSecond.τ).loc Cert.InprojSecond.main_arg1) = m ((c.tc : Thread Cert.InprojSecond.nD Cert.InprojSecond.τ).loc Cert.InprojSecond.main_arg1)
      ∧ r.2.mem ((c.tc : Thread Cert.InprojSecond.nD Cert.InprojSecond.τ).loc Cert.InprojSecond.main_arg2) = m ((c.tc : Thread Cert.InprojSecond.nD Cert.InprojSecond.τ).loc Cert.InprojSecond.main_arg2))
      ∧ r.2.sem = fun _ => 0)

def quiescent_InprojSecondIdeal [hInprojSecondIdeal : Cert.InprojSecondIdeal.Facts] : Prop :=
  ∀ (m : (ℓ : Loc Cert.InprojSecondIdeal.nD Cert.InprojSecondIdeal.τ Cert.InprojSecondIdeal.sig) → Buf (Elt Ideal) ℓ) (g : Dev Cert.InprojSecondIdeal.nD → PrngReg), Pre_InprojSecondIdeal m →
    θ_run (Cert.InprojSecondIdeal.defs (F := Ideal)) (onTc (τ := Cert.InprojSecondIdeal.τ) (Cert.InprojSecondIdeal.main (F := Ideal))) ⟨m, fun _ => 0, g⟩ (fun r => (∀ c : Dev Cert.InprojSecondIdeal.nD,
      r.2.mem ((c.tc : Thread Cert.InprojSecondIdeal.nD Cert.InprojSecondIdeal.τ).loc Cert.InprojSecondIdeal.main_arg0) = m ((c.tc : Thread Cert.InprojSecondIdeal.nD Cert.InprojSecondIdeal.τ).loc Cert.InprojSecondIdeal.main_arg0)
      ∧ r.2.mem ((c.tc : Thread Cert.InprojSecondIdeal.nD Cert.InprojSecondIdeal.τ).loc Cert.InprojSecondIdeal.main_arg1) = m ((c.tc : Thread Cert.InprojSecondIdeal.nD Cert.InprojSecondIdeal.τ).loc Cert.InprojSecondIdeal.main_arg1)
      ∧ r.2.mem ((c.tc : Thread Cert.InprojSecondIdeal.nD Cert.InprojSecondIdeal.τ).loc Cert.InprojSecondIdeal.main_arg2) = m ((c.tc : Thread Cert.InprojSecondIdeal.nD Cert.InprojSecondIdeal.τ).loc Cert.InprojSecondIdeal.main_arg2))
      ∧ r.2.sem = fun _ => 0)

def quiescent_InprojSecondIdeal_pre_finite_rows [hInprojSecondIdeal : Cert.InprojSecondIdeal.Facts] [hPre_finite_rows : Cert.Pre_finite_rows.Facts] : Prop :=
  ∀ (m : (ℓ : Loc Cert.InprojSecondIdeal.nD Cert.InprojSecondIdeal.τ Cert.InprojSecondIdeal.sig) → Buf (Elt Ideal) ℓ) (g : Dev Cert.InprojSecondIdeal.nD → PrngReg), Pre_InprojSecondIdeal_finite_rows m →
    θ_run (Cert.InprojSecondIdeal.defs (F := Ideal)) (onTc (τ := Cert.InprojSecondIdeal.τ) (Cert.InprojSecondIdeal.main (F := Ideal))) ⟨m, fun _ => 0, g⟩ (fun r => (∀ c : Dev Cert.InprojSecondIdeal.nD,
      r.2.mem ((c.tc : Thread Cert.InprojSecondIdeal.nD Cert.InprojSecondIdeal.τ).loc Cert.InprojSecondIdeal.main_arg0) = m ((c.tc : Thread Cert.InprojSecondIdeal.nD Cert.InprojSecondIdeal.τ).loc Cert.InprojSecondIdeal.main_arg0)
      ∧ r.2.mem ((c.tc : Thread Cert.InprojSecondIdeal.nD Cert.InprojSecondIdeal.τ).loc Cert.InprojSecondIdeal.main_arg1) = m ((c.tc : Thread Cert.InprojSecondIdeal.nD Cert.InprojSecondIdeal.τ).loc Cert.InprojSecondIdeal.main_arg1)
      ∧ r.2.mem ((c.tc : Thread Cert.InprojSecondIdeal.nD Cert.InprojSecondIdeal.τ).loc Cert.InprojSecondIdeal.main_arg2) = m ((c.tc : Thread Cert.InprojSecondIdeal.nD Cert.InprojSecondIdeal.τ).loc Cert.InprojSecondIdeal.main_arg2))
      ∧ r.2.sem = fun _ => 0)

def quiescent_InprojSecondReferenceIdeal [hInprojSecondReferenceIdeal : Cert.InprojSecondReferenceIdeal.Facts] : Prop :=
  ∀ (m : (ℓ : Loc Cert.InprojSecondReferenceIdeal.nD Cert.InprojSecondReferenceIdeal.τ Cert.InprojSecondReferenceIdeal.sig) → Buf (Elt Ideal) ℓ) (g : Dev Cert.InprojSecondReferenceIdeal.nD → PrngReg), Pre_InprojSecondReferenceIdeal m →
    θ_run (Cert.InprojSecondReferenceIdeal.defs (F := Ideal)) (onTc (τ := Cert.InprojSecondReferenceIdeal.τ) (Cert.InprojSecondReferenceIdeal.main (F := Ideal))) ⟨m, fun _ => 0, g⟩ (fun r => (∀ c : Dev Cert.InprojSecondReferenceIdeal.nD,
      r.2.mem ((c.tc : Thread Cert.InprojSecondReferenceIdeal.nD Cert.InprojSecondReferenceIdeal.τ).loc Cert.InprojSecondReferenceIdeal.main_arg0) = m ((c.tc : Thread Cert.InprojSecondReferenceIdeal.nD Cert.InprojSecondReferenceIdeal.τ).loc Cert.InprojSecondReferenceIdeal.main_arg0)
      ∧ r.2.mem ((c.tc : Thread Cert.InprojSecondReferenceIdeal.nD Cert.InprojSecondReferenceIdeal.τ).loc Cert.InprojSecondReferenceIdeal.main_arg1) = m ((c.tc : Thread Cert.InprojSecondReferenceIdeal.nD Cert.InprojSecondReferenceIdeal.τ).loc Cert.InprojSecondReferenceIdeal.main_arg1)
      ∧ r.2.mem ((c.tc : Thread Cert.InprojSecondReferenceIdeal.nD Cert.InprojSecondReferenceIdeal.τ).loc Cert.InprojSecondReferenceIdeal.main_arg2) = m ((c.tc : Thread Cert.InprojSecondReferenceIdeal.nD Cert.InprojSecondReferenceIdeal.τ).loc Cert.InprojSecondReferenceIdeal.main_arg2))
      ∧ r.2.sem = fun _ => 0)

def quiescent_InprojSecondReferenceIdeal_pre_finite_rows [hInprojSecondReferenceIdeal : Cert.InprojSecondReferenceIdeal.Facts] [hPre_finite_rows : Cert.Pre_finite_rows.Facts] : Prop :=
  ∀ (m : (ℓ : Loc Cert.InprojSecondReferenceIdeal.nD Cert.InprojSecondReferenceIdeal.τ Cert.InprojSecondReferenceIdeal.sig) → Buf (Elt Ideal) ℓ) (g : Dev Cert.InprojSecondReferenceIdeal.nD → PrngReg), Pre_InprojSecondReferenceIdeal_finite_rows m →
    θ_run (Cert.InprojSecondReferenceIdeal.defs (F := Ideal)) (onTc (τ := Cert.InprojSecondReferenceIdeal.τ) (Cert.InprojSecondReferenceIdeal.main (F := Ideal))) ⟨m, fun _ => 0, g⟩ (fun r => (∀ c : Dev Cert.InprojSecondReferenceIdeal.nD,
      r.2.mem ((c.tc : Thread Cert.InprojSecondReferenceIdeal.nD Cert.InprojSecondReferenceIdeal.τ).loc Cert.InprojSecondReferenceIdeal.main_arg0) = m ((c.tc : Thread Cert.InprojSecondReferenceIdeal.nD Cert.InprojSecondReferenceIdeal.τ).loc Cert.InprojSecondReferenceIdeal.main_arg0)
      ∧ r.2.mem ((c.tc : Thread Cert.InprojSecondReferenceIdeal.nD Cert.InprojSecondReferenceIdeal.τ).loc Cert.InprojSecondReferenceIdeal.main_arg1) = m ((c.tc : Thread Cert.InprojSecondReferenceIdeal.nD Cert.InprojSecondReferenceIdeal.τ).loc Cert.InprojSecondReferenceIdeal.main_arg1)
      ∧ r.2.mem ((c.tc : Thread Cert.InprojSecondReferenceIdeal.nD Cert.InprojSecondReferenceIdeal.τ).loc Cert.InprojSecondReferenceIdeal.main_arg2) = m ((c.tc : Thread Cert.InprojSecondReferenceIdeal.nD Cert.InprojSecondReferenceIdeal.τ).loc Cert.InprojSecondReferenceIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v171_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v171_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)) →
    ∃ (v0 : (c : Dev Cert.OutprojIdeal.nD) → Buf (Elt Ideal) ((c.tc : Thread Cert.OutprojIdeal.nD Cert.OutprojIdeal.τ).loc Cert.OutprojIdeal.main_v9)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v9) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v16) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5))

def preserves_Inproj_InprojIdeal : Prop :=
  True

def algebraic_InprojIdeal_InprojReferenceIdeal_pre_finite_inputs [hInprojIdeal : Cert.InprojIdeal.Facts] [hInprojReferenceIdeal : Cert.InprojReferenceIdeal.Facts] [hPre_finite_inputs : Cert.Pre_finite_inputs.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal_finite_inputs m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v13)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v13) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v51) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3))

def preserves_OutprojFirst_OutprojFirstIdeal : Prop :=
  True

def algebraic_OutprojFirstIdeal_OutprojFirstReferenceIdeal [hOutprojFirstIdeal : Cert.OutprojFirstIdeal.Facts] [hOutprojFirstReferenceIdeal : Cert.OutprojFirstReferenceIdeal.Facts] : Prop :=
  ∀ (m : (ℓ : Loc Cert.OutprojFirstIdeal.nD Cert.OutprojFirstIdeal.τ Cert.OutprojFirstIdeal.sig) → Buf (Elt Ideal) ℓ) (g : Dev Cert.OutprojFirstIdeal.nD → PrngReg)
    (m' : (ℓ : Loc Cert.OutprojFirstReferenceIdeal.nD Cert.OutprojFirstReferenceIdeal.τ Cert.OutprojFirstReferenceIdeal.sig) → Buf (Elt Ideal) ℓ) (g' : Dev Cert.OutprojFirstReferenceIdeal.nD → PrngReg), Pre_OutprojFirstIdeal m →
    (∀ c : Dev Cert.OutprojFirstIdeal.nD,
      m' ((c.tc : Thread Cert.OutprojFirstReferenceIdeal.nD Cert.OutprojFirstReferenceIdeal.τ).loc Cert.OutprojFirstReferenceIdeal.main_arg0) = m ((c.tc : Thread Cert.OutprojFirstIdeal.nD Cert.OutprojFirstIdeal.τ).loc Cert.OutprojFirstIdeal.main_arg0)
      ∧ m' ((c.tc : Thread Cert.OutprojFirstReferenceIdeal.nD Cert.OutprojFirstReferenceIdeal.τ).loc Cert.OutprojFirstReferenceIdeal.main_arg1) = m ((c.tc : Thread Cert.OutprojFirstIdeal.nD Cert.OutprojFirstIdeal.τ).loc Cert.OutprojFirstIdeal.main_arg1)
      ∧ m' ((c.tc : Thread Cert.OutprojFirstReferenceIdeal.nD Cert.OutprojFirstReferenceIdeal.τ).loc Cert.OutprojFirstReferenceIdeal.main_arg2) = m ((c.tc : Thread Cert.OutprojFirstIdeal.nD Cert.OutprojFirstIdeal.τ).loc Cert.OutprojFirstIdeal.main_arg2)
      ∧ m' ((c.tc : Thread Cert.OutprojFirstReferenceIdeal.nD Cert.OutprojFirstReferenceIdeal.τ).loc Cert.OutprojFirstReferenceIdeal.main_arg3) = m ((c.tc : Thread Cert.OutprojFirstIdeal.nD Cert.OutprojFirstIdeal.τ).loc Cert.OutprojFirstIdeal.main_arg3)
      ∧ m' ((c.tc : Thread Cert.OutprojFirstReferenceIdeal.nD Cert.OutprojFirstReferenceIdeal.τ).loc Cert.OutprojFirstReferenceIdeal.main_arg4) = m ((c.tc : Thread Cert.OutprojFirstIdeal.nD Cert.OutprojFirstIdeal.τ).loc Cert.OutprojFirstIdeal.main_arg4)
      ∧ m' ((c.tc : Thread Cert.OutprojFirstReferenceIdeal.nD Cert.OutprojFirstReferenceIdeal.τ).loc Cert.OutprojFirstReferenceIdeal.main_arg5) = m ((c.tc : Thread Cert.OutprojFirstIdeal.nD Cert.OutprojFirstIdeal.τ).loc Cert.OutprojFirstIdeal.main_arg5)) →
    ∃ (v0 : (c : Dev Cert.OutprojFirstIdeal.nD) → Buf (Elt Ideal) ((c.tc : Thread Cert.OutprojFirstIdeal.nD Cert.OutprojFirstIdeal.τ).loc Cert.OutprojFirstIdeal.main_v9_0)) (v1 : (c : Dev Cert.OutprojFirstIdeal.nD) → Buf (Elt Ideal) ((c.tc : Thread Cert.OutprojFirstIdeal.nD Cert.OutprojFirstIdeal.τ).loc Cert.OutprojFirstIdeal.main_v9_1)),
      θ_run (Cert.OutprojFirstIdeal.defs (F := Ideal)) (onTc (τ := Cert.OutprojFirstIdeal.τ) (Cert.OutprojFirstIdeal.main (F := Ideal))) ⟨m, fun _ => 0, g⟩ (fun r => ∀ c : Dev Cert.OutprojFirstIdeal.nD,
          r.2.mem ((c.tc : Thread Cert.OutprojFirstIdeal.nD Cert.OutprojFirstIdeal.τ).loc Cert.OutprojFirstIdeal.main_v9_0) = v0 c
          ∧ r.2.mem ((c.tc : Thread Cert.OutprojFirstIdeal.nD Cert.OutprojFirstIdeal.τ).loc Cert.OutprojFirstIdeal.main_v9_1) = v1 c
          ∧ r.2.mem ((c.tc : Thread Cert.OutprojFirstIdeal.nD Cert.OutprojFirstIdeal.τ).loc Cert.OutprojFirstIdeal.main_arg0) = m ((c.tc : Thread Cert.OutprojFirstIdeal.nD Cert.OutprojFirstIdeal.τ).loc Cert.OutprojFirstIdeal.main_arg0)
          ∧ r.2.mem ((c.tc : Thread Cert.OutprojFirstIdeal.nD Cert.OutprojFirstIdeal.τ).loc Cert.OutprojFirstIdeal.main_arg1) = m ((c.tc : Thread Cert.OutprojFirstIdeal.nD Cert.OutprojFirstIdeal.τ).loc Cert.OutprojFirstIdeal.main_arg1)
          ∧ r.2.mem ((c.tc : Thread Cert.OutprojFirstIdeal.nD Cert.OutprojFirstIdeal.τ).loc Cert.OutprojFirstIdeal.main_arg2) = m ((c.tc : Thread Cert.OutprojFirstIdeal.nD Cert.OutprojFirstIdeal.τ).loc Cert.OutprojFirstIdeal.main_arg2)
          ∧ r.2.mem ((c.tc : Thread Cert.OutprojFirstIdeal.nD Cert.OutprojFirstIdeal.τ).loc Cert.OutprojFirstIdeal.main_arg3) = m ((c.tc : Thread Cert.OutprojFirstIdeal.nD Cert.OutprojFirstIdeal.τ).loc Cert.OutprojFirstIdeal.main_arg3)
          ∧ r.2.mem ((c.tc : Thread Cert.OutprojFirstIdeal.nD Cert.OutprojFirstIdeal.τ).loc Cert.OutprojFirstIdeal.main_arg4) = m ((c.tc : Thread Cert.OutprojFirstIdeal.nD Cert.OutprojFirstIdeal.τ).loc Cert.OutprojFirstIdeal.main_arg4)
          ∧ r.2.mem ((c.tc : Thread Cert.OutprojFirstIdeal.nD Cert.OutprojFirstIdeal.τ).loc Cert.OutprojFirstIdeal.main_arg5) = m ((c.tc : Thread Cert.OutprojFirstIdeal.nD Cert.OutprojFirstIdeal.τ).loc Cert.OutprojFirstIdeal.main_arg5))
      ∧ θ_run (Cert.OutprojFirstReferenceIdeal.defs (F := Ideal)) (onTc (τ := Cert.OutprojFirstReferenceIdeal.τ) (Cert.OutprojFirstReferenceIdeal.main (F := Ideal))) ⟨m', fun _ => 0, g'⟩ (fun r => ∀ c : Dev Cert.OutprojFirstReferenceIdeal.nD,
          r.2.mem ((c.tc : Thread Cert.OutprojFirstReferenceIdeal.nD Cert.OutprojFirstReferenceIdeal.τ).loc Cert.OutprojFirstReferenceIdeal.main_v3) = v0 c
          ∧ r.2.mem ((c.tc : Thread Cert.OutprojFirstReferenceIdeal.nD Cert.OutprojFirstReferenceIdeal.τ).loc Cert.OutprojFirstReferenceIdeal.main_v18) = v1 c
          ∧ r.2.mem ((c.tc : Thread Cert.OutprojFirstReferenceIdeal.nD Cert.OutprojFirstReferenceIdeal.τ).loc Cert.OutprojFirstReferenceIdeal.main_arg0) = m' ((c.tc : Thread Cert.OutprojFirstReferenceIdeal.nD Cert.OutprojFirstReferenceIdeal.τ).loc Cert.OutprojFirstReferenceIdeal.main_arg0)
          ∧ r.2.mem ((c.tc : Thread Cert.OutprojFirstReferenceIdeal.nD Cert.OutprojFirstReferenceIdeal.τ).loc Cert.OutprojFirstReferenceIdeal.main_arg1) = m' ((c.tc : Thread Cert.OutprojFirstReferenceIdeal.nD Cert.OutprojFirstReferenceIdeal.τ).loc Cert.OutprojFirstReferenceIdeal.main_arg1)
          ∧ r.2.mem ((c.tc : Thread Cert.OutprojFirstReferenceIdeal.nD Cert.OutprojFirstReferenceIdeal.τ).loc Cert.OutprojFirstReferenceIdeal.main_arg2) = m' ((c.tc : Thread Cert.OutprojFirstReferenceIdeal.nD Cert.OutprojFirstReferenceIdeal.τ).loc Cert.OutprojFirstReferenceIdeal.main_arg2)
          ∧ r.2.mem ((c.tc : Thread Cert.OutprojFirstReferenceIdeal.nD Cert.OutprojFirstReferenceIdeal.τ).loc Cert.OutprojFirstReferenceIdeal.main_arg3) = m' ((c.tc : Thread Cert.OutprojFirstReferenceIdeal.nD Cert.OutprojFirstReferenceIdeal.τ).loc Cert.OutprojFirstReferenceIdeal.main_arg3)
          ∧ r.2.mem ((c.tc : Thread Cert.OutprojFirstReferenceIdeal.nD Cert.OutprojFirstReferenceIdeal.τ).loc Cert.OutprojFirstReferenceIdeal.main_arg4) = m' ((c.tc : Thread Cert.OutprojFirstReferenceIdeal.nD Cert.OutprojFirstReferenceIdeal.τ).loc Cert.OutprojFirstReferenceIdeal.main_arg4)
          ∧ r.2.mem ((c.tc : Thread Cert.OutprojFirstReferenceIdeal.nD Cert.OutprojFirstReferenceIdeal.τ).loc Cert.OutprojFirstReferenceIdeal.main_arg5) = m' ((c.tc : Thread Cert.OutprojFirstReferenceIdeal.nD Cert.OutprojFirstReferenceIdeal.τ).loc Cert.OutprojFirstReferenceIdeal.main_arg5))

def preserves_InprojSecond_InprojSecondIdeal : Prop :=
  True

def algebraic_InprojSecondIdeal_InprojSecondReferenceIdeal_pre_finite_rows [hInprojSecondIdeal : Cert.InprojSecondIdeal.Facts] [hInprojSecondReferenceIdeal : Cert.InprojSecondReferenceIdeal.Facts] [hPre_finite_rows : Cert.Pre_finite_rows.Facts] : Prop :=
  ∀ (m : (ℓ : Loc Cert.InprojSecondIdeal.nD Cert.InprojSecondIdeal.τ Cert.InprojSecondIdeal.sig) → Buf (Elt Ideal) ℓ) (g : Dev Cert.InprojSecondIdeal.nD → PrngReg)
    (m' : (ℓ : Loc Cert.InprojSecondReferenceIdeal.nD Cert.InprojSecondReferenceIdeal.τ Cert.InprojSecondReferenceIdeal.sig) → Buf (Elt Ideal) ℓ) (g' : Dev Cert.InprojSecondReferenceIdeal.nD → PrngReg), Pre_InprojSecondIdeal_finite_rows m →
    (∀ c : Dev Cert.InprojSecondIdeal.nD,
      m' ((c.tc : Thread Cert.InprojSecondReferenceIdeal.nD Cert.InprojSecondReferenceIdeal.τ).loc Cert.InprojSecondReferenceIdeal.main_arg0) = m ((c.tc : Thread Cert.InprojSecondIdeal.nD Cert.InprojSecondIdeal.τ).loc Cert.InprojSecondIdeal.main_arg0)
      ∧ m' ((c.tc : Thread Cert.InprojSecondReferenceIdeal.nD Cert.InprojSecondReferenceIdeal.τ).loc Cert.InprojSecondReferenceIdeal.main_arg1) = m ((c.tc : Thread Cert.InprojSecondIdeal.nD Cert.InprojSecondIdeal.τ).loc Cert.InprojSecondIdeal.main_arg1)
      ∧ m' ((c.tc : Thread Cert.InprojSecondReferenceIdeal.nD Cert.InprojSecondReferenceIdeal.τ).loc Cert.InprojSecondReferenceIdeal.main_arg2) = m ((c.tc : Thread Cert.InprojSecondIdeal.nD Cert.InprojSecondIdeal.τ).loc Cert.InprojSecondIdeal.main_arg2)) →
    ∃ (v0 : (c : Dev Cert.InprojSecondIdeal.nD) → Buf (Elt Ideal) ((c.tc : Thread Cert.InprojSecondIdeal.nD Cert.InprojSecondIdeal.τ).loc Cert.InprojSecondIdeal.main_v13)),
      θ_run (Cert.InprojSecondIdeal.defs (F := Ideal)) (onTc (τ := Cert.InprojSecondIdeal.τ) (Cert.InprojSecondIdeal.main (F := Ideal))) ⟨m, fun _ => 0, g⟩ (fun r => ∀ c : Dev Cert.InprojSecondIdeal.nD,
          r.2.mem ((c.tc : Thread Cert.InprojSecondIdeal.nD Cert.InprojSecondIdeal.τ).loc Cert.InprojSecondIdeal.main_v13) = v0 c
          ∧ r.2.mem ((c.tc : Thread Cert.InprojSecondIdeal.nD Cert.InprojSecondIdeal.τ).loc Cert.InprojSecondIdeal.main_arg0) = m ((c.tc : Thread Cert.InprojSecondIdeal.nD Cert.InprojSecondIdeal.τ).loc Cert.InprojSecondIdeal.main_arg0)
          ∧ r.2.mem ((c.tc : Thread Cert.InprojSecondIdeal.nD Cert.InprojSecondIdeal.τ).loc Cert.InprojSecondIdeal.main_arg1) = m ((c.tc : Thread Cert.InprojSecondIdeal.nD Cert.InprojSecondIdeal.τ).loc Cert.InprojSecondIdeal.main_arg1)
          ∧ r.2.mem ((c.tc : Thread Cert.InprojSecondIdeal.nD Cert.InprojSecondIdeal.τ).loc Cert.InprojSecondIdeal.main_arg2) = m ((c.tc : Thread Cert.InprojSecondIdeal.nD Cert.InprojSecondIdeal.τ).loc Cert.InprojSecondIdeal.main_arg2))
      ∧ θ_run (Cert.InprojSecondReferenceIdeal.defs (F := Ideal)) (onTc (τ := Cert.InprojSecondReferenceIdeal.τ) (Cert.InprojSecondReferenceIdeal.main (F := Ideal))) ⟨m', fun _ => 0, g'⟩ (fun r => ∀ c : Dev Cert.InprojSecondReferenceIdeal.nD,
          r.2.mem ((c.tc : Thread Cert.InprojSecondReferenceIdeal.nD Cert.InprojSecondReferenceIdeal.τ).loc Cert.InprojSecondReferenceIdeal.main_v38) = v0 c
          ∧ r.2.mem ((c.tc : Thread Cert.InprojSecondReferenceIdeal.nD Cert.InprojSecondReferenceIdeal.τ).loc Cert.InprojSecondReferenceIdeal.main_arg0) = m' ((c.tc : Thread Cert.InprojSecondReferenceIdeal.nD Cert.InprojSecondReferenceIdeal.τ).loc Cert.InprojSecondReferenceIdeal.main_arg0)
          ∧ r.2.mem ((c.tc : Thread Cert.InprojSecondReferenceIdeal.nD Cert.InprojSecondReferenceIdeal.τ).loc Cert.InprojSecondReferenceIdeal.main_arg1) = m' ((c.tc : Thread Cert.InprojSecondReferenceIdeal.nD Cert.InprojSecondReferenceIdeal.τ).loc Cert.InprojSecondReferenceIdeal.main_arg1)
          ∧ r.2.mem ((c.tc : Thread Cert.InprojSecondReferenceIdeal.nD Cert.InprojSecondReferenceIdeal.τ).loc Cert.InprojSecondReferenceIdeal.main_arg2) = m' ((c.tc : Thread Cert.InprojSecondReferenceIdeal.nD Cert.InprojSecondReferenceIdeal.τ).loc Cert.InprojSecondReferenceIdeal.main_arg2))

def Claim : Prop :=
  ∃ (hKernel : Cert.Kernel.Facts) (hKernelIdeal : Cert.KernelIdeal.Facts) (hReferenceIdeal : Cert.ReferenceIdeal.Facts) (hOutproj : Cert.Outproj.Facts) (hOutprojIdeal : Cert.OutprojIdeal.Facts) (hOutprojReferenceIdeal : Cert.OutprojReferenceIdeal.Facts) (hInproj : Cert.Inproj.Facts) (hInprojIdeal : Cert.InprojIdeal.Facts) (hInprojReferenceIdeal : Cert.InprojReferenceIdeal.Facts) (hOutprojFirst : Cert.OutprojFirst.Facts) (hOutprojFirstIdeal : Cert.OutprojFirstIdeal.Facts) (hOutprojFirstReferenceIdeal : Cert.OutprojFirstReferenceIdeal.Facts) (hInprojSecond : Cert.InprojSecond.Facts) (hInprojSecondIdeal : Cert.InprojSecondIdeal.Facts) (hInprojSecondReferenceIdeal : Cert.InprojSecondReferenceIdeal.Facts) (hPre_finite_scores : Cert.Pre_finite_scores.Facts) (hPre_finite_inputs : Cert.Pre_finite_inputs.Facts) (hPre_finite_rows : Cert.Pre_finite_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_Inproj (hInproj := hInproj)
    ∧ quiescent_InprojIdeal (hInprojIdeal := hInprojIdeal)
    ∧ quiescent_InprojIdeal_pre_finite_inputs (hInprojIdeal := hInprojIdeal) (hPre_finite_inputs := hPre_finite_inputs)
    ∧ quiescent_InprojReferenceIdeal (hInprojReferenceIdeal := hInprojReferenceIdeal)
    ∧ quiescent_InprojReferenceIdeal_pre_finite_inputs (hInprojReferenceIdeal := hInprojReferenceIdeal) (hPre_finite_inputs := hPre_finite_inputs)
    ∧ quiescent_OutprojFirst (hOutprojFirst := hOutprojFirst)
    ∧ quiescent_OutprojFirstIdeal (hOutprojFirstIdeal := hOutprojFirstIdeal)
    ∧ quiescent_OutprojFirstReferenceIdeal (hOutprojFirstReferenceIdeal := hOutprojFirstReferenceIdeal)
    ∧ quiescent_InprojSecond (hInprojSecond := hInprojSecond)
    ∧ quiescent_InprojSecondIdeal (hInprojSecondIdeal := hInprojSecondIdeal)
    ∧ quiescent_InprojSecondIdeal_pre_finite_rows (hInprojSecondIdeal := hInprojSecondIdeal) (hPre_finite_rows := hPre_finite_rows)
    ∧ quiescent_InprojSecondReferenceIdeal (hInprojSecondReferenceIdeal := hInprojSecondReferenceIdeal)
    ∧ quiescent_InprojSecondReferenceIdeal_pre_finite_rows (hInprojSecondReferenceIdeal := hInprojSecondReferenceIdeal) (hPre_finite_rows := hPre_finite_rows)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Outproj_OutprojIdeal
    ∧ algebraic_OutprojIdeal_OutprojReferenceIdeal (hOutprojIdeal := hOutprojIdeal) (hOutprojReferenceIdeal := hOutprojReferenceIdeal)
    ∧ preserves_Inproj_InprojIdeal
    ∧ algebraic_InprojIdeal_InprojReferenceIdeal_pre_finite_inputs (hInprojIdeal := hInprojIdeal) (hInprojReferenceIdeal := hInprojReferenceIdeal) (hPre_finite_inputs := hPre_finite_inputs)
    ∧ preserves_OutprojFirst_OutprojFirstIdeal
    ∧ algebraic_OutprojFirstIdeal_OutprojFirstReferenceIdeal (hOutprojFirstIdeal := hOutprojFirstIdeal) (hOutprojFirstReferenceIdeal := hOutprojFirstReferenceIdeal)
    ∧ preserves_InprojSecond_InprojSecondIdeal
    ∧ algebraic_InprojSecondIdeal_InprojSecondReferenceIdeal_pre_finite_rows (hInprojSecondIdeal := hInprojSecondIdeal) (hInprojSecondReferenceIdeal := hInprojSecondReferenceIdeal) (hPre_finite_rows := hPre_finite_rows)
-- ==== Pre_finite_inputs.lean ====
abbrev S2x16384x2048 : Shape := ⟨3, ![2, 16384, 2048]⟩
abbrev S2048 : Shape := ⟨1, ![2048]⟩
abbrev S2048x7552 : Shape := ⟨2, ![2048, 7552]⟩
abbrev S768 : Shape := ⟨1, ![768]⟩
abbrev S_ : Shape := ⟨0, ![]⟩

class Facts : Prop where
  bcast_S_S2x16384x2048 : S_.BroadcastsInDim S2x16384x2048 (![] : Fin 0 → Fin S2x16384x2048.rank)
  reducesTo_S2x16384x2048_S_d0_1_2 : S2x16384x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x7552 : S_.BroadcastsInDim S2048x7552 (![] : Fin 0 → Fin S2048x7552.rank)
  reducesTo_S2048x7552_S_d0_1 : S2048x7552.ReducesTo [0, 1] S_

variable [Facts]

def fn {F : FTy → Type} [FloatOps F] (main_arg0 : FVec F S2x16384x2048 .f32) (main_arg1 : FVec F S2048 .f32) (main_arg2 : FVec F S2048x7552 .f32) (main_arg3 : FVec F S768 .f32) : IVec S_ 1 :=
  let main_v0 : FVec F S2x16384x2048 .f32 := Host.absf main_arg0
  let main_cst : FVec F S_ .f32 := constant S_ .f32 0x7F800000#32
  let main_v1 : FVec F S2x16384x2048 .f32 := broadcastInDim S2x16384x2048 ![] bcast_S_S2x16384x2048 main_cst
  let main_v2 : IVec S2x16384x2048 1 := cmpf .olt main_v0 main_v1
  let main_c : IVec S_ 1 := constantI S_ 1 1#1
  let main_v3 : IVec S_ 1 := (fun x v => Host.reduce IntOp.andi x v reducesTo_S2x16384x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x7552 .f32 := Host.absf main_arg2
  let main_cst_2 : FVec F S_ .f32 := constant S_ .f32 0x7F800000#32
  let main_v10 : FVec F S2048x7552 .f32 := broadcastInDim S2048x7552 ![] bcast_S_S2048x7552 main_cst_2
  let main_v11 : IVec S2048x7552 1 := cmpf .olt main_v9 main_v10
  let main_c_3 : IVec S_ 1 := constantI S_ 1 1#1
  let main_v12 : IVec S_ 1 := (fun x v => Host.reduce IntOp.andi x v reducesTo_S2048x7552_S_d0_1 h_S_) main_v11 main_c_3
  let main_v13 : IVec S_ 1 := andi main_v8 main_v12
  main_v13
-- ==== Pre_finite_rows.lean ====
abbrev S2x16384x2048 : Shape := ⟨3, ![2, 16384, 2048]⟩
abbrev S2048x7552 : Shape := ⟨2, ![2048, 7552]⟩
abbrev S768 : Shape := ⟨1, ![768]⟩
abbrev S_ : Shape := ⟨0, ![]⟩

class Facts : Prop where
  bcast_S_S2x16384x2048 : S_.BroadcastsInDim S2x16384x2048 (![] : Fin 0 → Fin S2x16384x2048.rank)
  reducesTo_S2x16384x2048_S_d0_1_2 : S2x16384x2048.ReducesTo [0, 1, 2] S_
  h_S_ : 0 < S_.numel
  bcast_S_S2048x7552 : S_.BroadcastsInDim S2048x7552 (![] : Fin 0 → Fin S2048x7552.rank)
  reducesTo_S2048x7552_S_d0_1 : S2048x7552.ReducesTo [0, 1] S_

variable [Facts]

def fn {F : FTy → Type} [FloatOps F] (main_arg0 : FVec F S2x16384x2048 .f32) (main_arg1 : FVec F S2048x7552 .f32) (main_arg2 : FVec F S768 .f32) : IVec S_ 1 :=
  let main_v0 : FVec F S2x16384x2048 .f32 := Host.absf main_arg0
  let main_cst : FVec F S_ .f32 := constant S_ .f32 0x7F800000#32
  let main_v1 : FVec F S2x16384x2048 .f32 := broadcastInDim S2x16384x2048 ![] bcast_S_S2x16384x2048 main_cst
  let main_v2 : IVec S2x16384x2048 1 := cmpf .olt main_v0 main_v1
  let main_c : IVec S_ 1 := constantI S_ 1 1#1
  let main_v3 : IVec S_ 1 := (fun x v => Host.reduce IntOp.andi x v reducesTo_S2x16384x2048_S_d0_1_2 h_S_) main_v2 main_c
  let main_v4 : FVec F S2048x7552 .f32 := Host.absf main_arg1
  let main_cst_0 : FVec F S_ .f32 := constant S_ .f32 0x7F800000#32
  let main_v5 : FVec F S2048x7552 .f32 := broadcastInDim S2048x7552 ![] bcast_S_S2048x7552 main_cst_0
  let main_v6 : IVec S2048x7552 1 := cmpf .olt main_v4 main_v5
  let main_c_1 : IVec S_ 1 := constantI S_ 1 1#1
  let main_v7 : IVec S_ 1 := (fun x v => Host.reduce IntOp.andi x v reducesTo_S2048x7552_S_d0_1 h_S_) main_v6 main_c_1
  let main_v8 : IVec S_ 1 := andi main_v3 main_v7
  main_v8
-- ==== Pre_finite_scores.lean ====
abbrev S2x16384x7552 : Shape := ⟨3, ![2, 16384, 7552]⟩
abbrev S5x257 : Shape := ⟨2, ![5, 257]⟩
abbrev S2x16384x1280 : Shape := ⟨3, ![2, 16384, 1280]⟩
abbrev S_ : Shape := ⟨0, ![]⟩

class Facts : Prop where
  slices_S2x16384x7552_S2x16384x1280_0_0_3072 : S2x16384x7552.Slices ![0, 0, 3072] S2x16384x1280
  bcast_S_S2x16384x1280 : S_.BroadcastsInDim S2x16384x1280 (![] : Fin 0 → Fin S2x16384x1280.rank)
  reducesTo_S2x16384x1280_S_d0_1_2 : S2x16384x1280.ReducesTo [0, 1, 2] S_
  h_S_ : 0 < S_.numel
  bcast_S_S5x257 : S_.BroadcastsInDim S5x257 (![] : Fin 0 → Fin S5x257.rank)
  reducesTo_S5x257_S_d0_1 : S5x257.ReducesTo [0, 1] S_

variable [Facts]

def fn {F : FTy → Type} [FloatOps F] (main_arg0 : FVec F S2x16384x7552 .f32) (main_arg1 : FVec F S5x257 .f32) : IVec S_ 1 :=
  let main_v0 : FVec F S2x16384x1280 .f32 := (extractStridedSlice S2x16384x1280 ![0, 0, 3072] · slices_S2x16384x7552_S2x16384x1280_0_0_3072) main_arg0
  let main_v1 : FVec F S2x16384x1280 .f32 := Host.absf main_v0
  let main_cst : FVec F S_ .f32 := constant S_ .f32 0x7F800000#32
  let main_v2 : FVec F S2x16384x1280 .f32 := broadcastInDim S2x16384x1280 ![] bcast_S_S2x16384x1280 main_cst
  let main_v3 : IVec S2x16384x1280 1 := cmpf .olt main_v1 main_v2
  let main_c : IVec S_ 1 := constantI S_ 1 1#1
  let main_v4 : IVec S_ 1 := (fun x v => Host.reduce IntOp.andi x v reducesTo_S2x16384x1280_S_d0_1_2 h_S_) main_v3 main_c
  let main_v5 : FVec F S5x257 .f32 := Host.absf main_arg1
  let main_cst_0 : FVec F S_ .f32 := constant S_ .f32 0x7F800000#32
  let main_v6 : FVec F S5x257 .f32 := broadcastInDim S5x257 ![] bcast_S_S5x257 main_cst_0
  let main_v7 : IVec S5x257 1 := cmpf .olt main_v5 main_v6
  let main_c_1 : IVec S_ 1 := constantI S_ 1 1#1
  let main_v8 : IVec S_ 1 := (fun x v => Host.reduce IntOp.andi x v reducesTo_S5x257_S_d0_1 h_S_) main_v7 main_c_1
  let main_v9 : IVec S_ 1 := andi main_v4 main_v8
  main_v9
-- ==== Kernel.lean ====
abbrev S2x16384x7552 : Shape := ⟨3, ![2, 16384, 7552]⟩
abbrev S5x257 : Shape := ⟨2, ![5, 257]⟩
abbrev S1x1x768 : Shape := ⟨3, ![1, 1, 768]⟩
abbrev S2x16384x768 : Shape := ⟨3, ![2, 16384, 768]⟩
abbrev S2x16384x640 : Shape := ⟨3, ![2, 16384, 640]⟩
abbrev S2x16384x320 : Shape := ⟨3, ![2, 16384, 320]⟩
abbrev S2x16384x1280 : Shape := ⟨3, ![2, 16384, 1280]⟩
abbrev S2x16384x3072 : Shape := ⟨3, ![2, 16384, 3072]⟩
abbrev S_ : Shape := ⟨0, ![]⟩
abbrev S2x16384x128 : Shape := ⟨3, ![2, 16384, 128]⟩
abbrev S2x16384x7680 : Shape := ⟨3, ![2, 16384, 7680]⟩
abbrev S32768x60x128 : Shape := ⟨3, ![32768, 60, 128]⟩
abbrev S60x32768x128 : Shape := ⟨3, ![60, 32768, 128]⟩
abbrev S31 : Shape := ⟨1, ![31]⟩
abbrev S1 : Shape := ⟨1, ![1]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S5x1 : Shape := ⟨2, ![5, 1]⟩
abbrev S5x1x1 : Shape := ⟨3, ![5, 1, 1]⟩
abbrev S5x64x64 : Shape := ⟨3, ![5, 64, 64]⟩
abbrev S5x127 : Shape := ⟨2, ![5, 127]⟩
abbrev S5x128 : Shape := ⟨2, ![5, 128]⟩
abbrev S1x5x1x128 : Shape := ⟨4, ![1, 5, 1, 128]⟩
abbrev S1x5x66x128 : Shape := ⟨4, ![1, 5, 66, 128]⟩
abbrev S5x8448 : Shape := ⟨2, ![5, 8448]⟩
abbrev S5x8256 : Shape := ⟨2, ![5, 8256]⟩
abbrev S5x64x129 : Shape := ⟨3, ![5, 64, 129]⟩
abbrev S5x64 : Shape := ⟨2, ![5, 64]⟩
abbrev S5x63 : Shape := ⟨2, ![5, 63]⟩
abbrev S5x64x768 : Shape := ⟨3, ![5, 64, 768]⟩
abbrev S5x256x768 : Shape := ⟨3, ![5, 256, 768]⟩
abbrev S1x5x256x768 : Shape := ⟨4, ![1, 5, 256, 768]⟩
abbrev S3x5x256x768 : Shape := ⟨4, ![3, 5, 256, 768]⟩
abbrev S5 : Shape := ⟨1, ![5]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S5x256x256 : Shape := ⟨3, ![5, 256, 256]⟩
abbrev S128 : Shape := ⟨1, ![128]⟩
abbrev S1x128 : Shape := ⟨2, ![1, 128]⟩
abbrev S5x256 : Shape := ⟨2, ![5, 256]⟩
abbrev S5x256x1 : Shape := ⟨3, ![5, 256, 1]⟩
abbrev S5x1x128 : Shape := ⟨3, ![5, 1, 128]⟩
abbrev S5x256x128 : Shape := ⟨3, ![5, 256, 128]⟩
abbrev S32768x640 : Shape := ⟨2, ![32768, 640]⟩
abbrev S5x512x128 : Shape := ⟨3, ![5, 512, 128]⟩
abbrev S512x128 : Shape := ⟨2, ![512, 128]⟩
abbrev S512x640 : Shape := ⟨2, ![512, 640]⟩
abbrev S5x128x128 : Shape := ⟨3, ![5, 128, 128]⟩
abbrev S256x128 : Shape := ⟨2, ![256, 128]⟩
abbrev S768x128 : Shape := ⟨2, ![768, 128]⟩
abbrev S1x256x128 : Shape := ⟨3, ![1, 256, 128]⟩
abbrev S1x128x128 : Shape := ⟨3, ![1, 128, 128]⟩
abbrev S128x128 : Shape := ⟨2, ![128, 128]⟩
abbrev S1x1x256x256 : Shape := ⟨4, ![1, 1, 256, 256]⟩
abbrev S256x768 : Shape := ⟨2, ![256, 768]⟩
abbrev S768x256 : Shape := ⟨2, ![768, 256]⟩

abbrev nBuf : Space → Nat
  | .hbm => 285
  | .vmem => 40
  | .smem => 0
  | _ => 0

abbrev hbmTy0_0 (i : Nat) : BufTy := match i % 128 with
  | 0 => ⟨S2x16384x7552, .f32⟩
  | 1 => ⟨S5x257, .f32⟩
  | 2 => ⟨S1x1x768, .i1⟩
  | 3 => ⟨S1x1x768, .i1⟩
  | 4 => ⟨S2x16384x768, .f32⟩
  | 5 => ⟨S2x16384x768, .f32⟩
  | 6 => ⟨S2x16384x768, .f32⟩
  | 7 => ⟨S2x16384x768, .f32⟩
  | 8 => ⟨S2x16384x640, .f32⟩
  | 9 => ⟨S2x16384x640, .f32⟩
  | 10 => ⟨S2x16384x640, .f32⟩
  | 11 => ⟨S2x16384x640, .f32⟩
  | 12 => ⟨S2x16384x320, .f32⟩
  | 13 => ⟨S2x16384x320, .f32⟩
  | 14 => ⟨S2x16384x640, .f32⟩
  | 15 => ⟨S2x16384x640, .f32⟩
  | 16 => ⟨S2x16384x1280, .f32⟩
  | 17 => ⟨S2x16384x640, .f32⟩
  | 18 => ⟨S2x16384x3072, .f32⟩
  | 19 => ⟨S_, .f32⟩
  | 20 => ⟨S2x16384x128, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S2x16384x640, .f32⟩
  | 28 => ⟨S2x16384x640, .f32⟩
  | 29 => ⟨S2x16384x640, .f32⟩
  | 30 => ⟨S2x16384x640, .f32⟩
  | 31 => ⟨S_, .f32⟩
  | 32 => ⟨S2x16384x640, .f32⟩
  | 33 => ⟨S2x16384x640, .f32⟩
  | 34 => ⟨S_, .f32⟩
  | 35 => ⟨S2x16384x640, .f32⟩
  | 36 => ⟨S2x16384x640, .f32⟩
  | 37 => ⟨S2x16384x640, .f32⟩
  | 38 => ⟨S2x16384x640, .f32⟩
  | 39 => ⟨S2x16384x640, .f32⟩
  | 40 => ⟨S_, .f32⟩
  | 41 => ⟨S2x16384x640, .f32⟩
  | 42 => ⟨S2x16384x640, .f32⟩
  | 43 => ⟨S_, .f32⟩
  | 44 => ⟨S2x16384x640, .f32⟩
  | 45 => ⟨S2x16384x640, .f32⟩
  | 46 => ⟨S2x16384x640, .f32⟩
  | 47 => ⟨S2x16384x7680, .f32⟩
  | 48 => ⟨S32768x60x128, .f32⟩
  | 49 => ⟨S60x32768x128, .f32⟩
  | 50 => ⟨S60x32768x128, .bf16⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S31, .f32⟩
  | 59 => ⟨S_, .f32⟩
  | 60 => ⟨S31, .f32⟩
  | 61 => ⟨S31, .f32⟩
  | 62 => ⟨S1, .f32⟩
  | 63 => ⟨S_, .f32⟩
  | 64 => ⟨S31, .f32⟩
  | 65 => ⟨S31, .f32⟩
  | 66 => ⟨S31, .f32⟩
  | 67 => ⟨S31, .f32⟩
  | 68 => ⟨S1, .f32⟩
  | 69 => ⟨S31, .f32⟩
  | 70 => ⟨S31, .f32⟩
  | 71 => ⟨S31, .f32⟩
  | 72 => ⟨S1, .f32⟩
  | 73 => ⟨S32, .f32⟩
  | 74 => ⟨S32, .f32⟩
  | 75 => ⟨S_, .f32⟩
  | 76 => ⟨S32, .f32⟩
  | 77 => ⟨S32, .f32⟩
  | 78 => ⟨S16384, .f32⟩
  | 79 => ⟨S16384x1, .f32⟩
  | 80 => ⟨S1x32, .f32⟩
  | 81 => ⟨S16384x32, .f32⟩
  | 82 => ⟨S16384x32, .f32⟩
  | 83 => ⟨S16384x32, .f32⟩
  | 84 => ⟨S16384x32, .f32⟩
  | 85 => ⟨S16384x32, .f32⟩
  | 86 => ⟨S1x16384x1x32, .f32⟩
  | 87 => ⟨S1x16384x4x32, .f32⟩
  | 88 => ⟨S16384x128, .f32⟩
  | 89 => ⟨S16384x32, .f32⟩
  | 90 => ⟨S16384x64, .f32⟩
  | 91 => ⟨S1x16384x1x64, .f32⟩
  | 92 => ⟨S1x16384x2x64, .f32⟩
  | 93 => ⟨S16384x128, .f32⟩
  | 94 => ⟨S_, .f32⟩
  | 95 => ⟨S_, .f32⟩
  | 96 => ⟨S_, .f32⟩
  | 97 => ⟨S_, .f32⟩
  | 98 => ⟨S5x257, .f32⟩
  | 99 => ⟨S5x257, .f32⟩
  | 100 => ⟨S5x1, .f32⟩
  | 101 => ⟨S5x1x1, .f32⟩
  | 102 => ⟨S5x64x64, .f32⟩
  | 103 => ⟨S5x127, .f32⟩
  | 104 => ⟨S5x127, .f32⟩
  | 105 => ⟨S_, .f32⟩
  | 106 => ⟨S5x1, .f32⟩
  | 107 => ⟨S5x128, .f32⟩
  | 108 => ⟨S1x5x1x128, .f32⟩
  | 109 => ⟨S1x5x66x128, .f32⟩
  | 110 => ⟨S5x8448, .f32⟩
  | 111 => ⟨S5x8256, .f32⟩
  | 112 => ⟨S5x64x129, .f32⟩
  | 113 => ⟨S5x64x64, .f32⟩
  | 114 => ⟨S5x64x64, .f32⟩
  | 115 => ⟨S5x127, .f32⟩
  | 116 => ⟨S5x127, .f32⟩
  | 117 => ⟨S_, .f32⟩
  | 118 => ⟨S5x1, .f32⟩
  | 119 => ⟨S5x128, .f32⟩
  | 120 => ⟨S1x5x1x128, .f32⟩
  | 121 => ⟨S1x5x66x128, .f32⟩
  | 122 => ⟨S5x8448, .f32⟩
  | 123 => ⟨S5x8256, .f32⟩
  | 124 => ⟨S5x64x129, .f32⟩
  | 125 => ⟨S5x64x64, .f32⟩
  | 126 => ⟨S5x64x64, .f32⟩
  | 127 => ⟨S5x64, .f32⟩
  | _ => ⟨S2x16384x7552, .f32⟩

abbrev hbmTy0_1 (i : Nat) : BufTy := match i % 128 with
  | 0 => ⟨S5x63, .f32⟩
  | 1 => ⟨S5x127, .f32⟩
  | 2 => ⟨S5x127, .f32⟩
  | 3 => ⟨S_, .f32⟩
  | 4 => ⟨S5x1, .f32⟩
  | 5 => ⟨S5x128, .f32⟩
  | 6 => ⟨S1x5x1x128, .f32⟩
  | 7 => ⟨S1x5x66x128, .f32⟩
  | 8 => ⟨S5x8448, .f32⟩
  | 9 => ⟨S5x8256, .f32⟩
  | 10 => ⟨S5x64x129, .f32⟩
  | 11 => ⟨S5x64x64, .f32⟩
  | 12 => ⟨S5x64x64, .f32⟩
  | 13 => ⟨S_, .f32⟩
  | 14 => ⟨S5x64x64, .f32⟩
  | 15 => ⟨S5x64x768, .f32⟩
  | 16 => ⟨S5x64x768, .f32⟩
  | 17 => ⟨S5x64x768, .f32⟩
  | 18 => ⟨S5x64x768, .f32⟩
  | 19 => ⟨S5x256x768, .f32⟩
  | 20 => ⟨S_, .f32⟩
  | 21 => ⟨S_, .f32⟩
  | 22 => ⟨S5x256x768, .i1⟩
  | 23 => ⟨S5x256x768, .f32⟩
  | 24 => ⟨S5x256x768, .f32⟩
  | 25 => ⟨S_, .f32⟩
  | 26 => ⟨S_, .f32⟩
  | 27 => ⟨S5x256x768, .i1⟩
  | 28 => ⟨S5x256x768, .f32⟩
  | 29 => ⟨S5x256x768, .f32⟩
  | 30 => ⟨S1x5x256x768, .f32⟩
  | 31 => ⟨S1x5x256x768, .f32⟩
  | 32 => ⟨S1x5x256x768, .f32⟩
  | 33 => ⟨S3x5x256x768, .f32⟩
  | 34 => ⟨S5, .f32⟩
  | 35 => ⟨S_, .f32⟩
  | 36 => ⟨S5, .f32⟩
  | 37 => ⟨S5, .f32⟩
  | 38 => ⟨S_, .f32⟩
  | 39 => ⟨S5, .f32⟩
  | 40 => ⟨S5, .f32⟩
  | 41 => ⟨S5, .f32⟩
  | 42 => ⟨S5, .f32⟩
  | 43 => ⟨S5, .f32⟩
  | 44 => ⟨S256, .f32⟩
  | 45 => ⟨S256x1, .f32⟩
  | 46 => ⟨S1x256, .f32⟩
  | 47 => ⟨S256x256, .f32⟩
  | 48 => ⟨S256x256, .f32⟩
  | 49 => ⟨S256x256, .f32⟩
  | 50 => ⟨S_, .f32⟩
  | 51 => ⟨S256x256, .f32⟩
  | 52 => ⟨S256x256, .i1⟩
  | 53 => ⟨S5x1x1, .f32⟩
  | 54 => ⟨S_, .f32⟩
  | 55 => ⟨S256x256, .f32⟩
  | 56 => ⟨S256x256, .f32⟩
  | 57 => ⟨S1x256x256, .f32⟩
  | 58 => ⟨S5x256x256, .f32⟩
  | 59 => ⟨S5x256x256, .f32⟩
  | 60 => ⟨S5x256x256, .f32⟩
  | 61 => ⟨S5x256x256, .f32⟩
  | 62 => ⟨S_, .f32⟩
  | 63 => ⟨S_, .f32⟩
  | 64 => ⟨S5x256x256, .i1⟩
  | 65 => ⟨S5x256x256, .f32⟩
  | 66 => ⟨S5x256x256, .f32⟩
  | 67 => ⟨S128, .i32⟩
  | 68 => ⟨S_, .i32⟩
  | 69 => ⟨S_, .i32⟩
  | 70 => ⟨S128, .i32⟩
  | 71 => ⟨S128, .i32⟩
  | 72 => ⟨S128, .i32⟩
  | 73 => ⟨S_, .i32⟩
  | 74 => ⟨S128, .i32⟩
  | 75 => ⟨S128, .i1⟩
  | 76 => ⟨S128, .i32⟩
  | 77 => ⟨S128, .i32⟩
  | 78 => ⟨S_, .i32⟩
  | 79 => ⟨S128, .i32⟩
  | 80 => ⟨S128, .i1⟩
  | 81 => ⟨S128, .i1⟩
  | 82 => ⟨S_, .i32⟩
  | 83 => ⟨S128, .i32⟩
  | 84 => ⟨S128, .i32⟩
  | 85 => ⟨S128, .i32⟩
  | 86 => ⟨S1x128, .i32⟩
  | 87 => ⟨S5, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S5, .i32⟩
  | 95 => ⟨S5, .i32⟩
  | 96 => ⟨S_, .i32⟩
  | 97 => ⟨S5, .i32⟩
  | 98 => ⟨S5, .i1⟩
  | 99 => ⟨S_, .i32⟩
  | 100 => ⟨S5, .i32⟩
  | 101 => ⟨S5, .i1⟩
  | 102 => ⟨S_, .i32⟩
  | 103 => ⟨S_, .i1⟩
  | 104 => ⟨S5, .i1⟩
  | 105 => ⟨S5, .i1⟩
  | 106 => ⟨S5, .i1⟩
  | 107 => ⟨S5, .i32⟩
  | 108 => ⟨S5, .i32⟩
  | 109 => ⟨S5, .i32⟩
  | 110 => ⟨S5x1, .i32⟩
  | 111 => ⟨S5x128, .i32⟩
  | 112 => ⟨S5x128, .i32⟩
  | 113 => ⟨S5x128, .i1⟩
  | 114 => ⟨S5x128, .f32⟩
  | 115 => ⟨S5x1, .f32⟩
  | 116 => ⟨S_, .f32⟩
  | 117 => ⟨S256, .f32⟩
  | 118 => ⟨S256, .f32⟩
  | 119 => ⟨S1x256, .f32⟩
  | 120 => ⟨S5x256, .f32⟩
  | 121 => ⟨S5x256, .f32⟩
  | 122 => ⟨S5x256, .f32⟩
  | 123 => ⟨S5x256, .f32⟩
  | 124 => ⟨S5x256x1, .f32⟩
  | 125 => ⟨S5x1x128, .f32⟩
  | 126 => ⟨S5x256x128, .f32⟩
  | 127 => ⟨S5x256x128, .f32⟩
  | _ => ⟨S2x16384x7552, .f32⟩

abbrev hbmTy0_2 (i : Nat) : BufTy := match i % 128 with
  | 0 => ⟨S5x256x128, .f32⟩
  | 1 => ⟨S5x1, .f32⟩
  | 2 => ⟨S_, .f32⟩
  | 3 => ⟨S256, .f32⟩
  | 4 => ⟨S256, .f32⟩
  | 5 => ⟨S1x256, .f32⟩
  | 6 => ⟨S5x256, .f32⟩
  | 7 => ⟨S5x256, .f32⟩
  | 8 => ⟨S5x256, .f32⟩
  | 9 => ⟨S5x256, .f32⟩
  | 10 => ⟨S5x256x1, .f32⟩
  | 11 => ⟨S5x1x128, .f32⟩
  | 12 => ⟨S5x256x128, .f32⟩
  | 13 => ⟨S5x256x128, .f32⟩
  | 14 => ⟨S5x256x128, .f32⟩
  | 15 => ⟨S_, .f32⟩
  | 16 => ⟨S5x256x128, .f32⟩
  | 17 => ⟨S5x256x128, .f32⟩
  | 18 => ⟨S_, .f32⟩
  | 19 => ⟨S5x128, .f32⟩
  | 20 => ⟨S5x128, .f32⟩
  | 21 => ⟨S_, .f32⟩
  | 22 => ⟨S5, .f32⟩
  | 23 => ⟨S5, .f32⟩
  | 24 => ⟨S5, .f32⟩
  | 25 => ⟨S5x1, .f32⟩
  | 26 => ⟨S5x128, .f32⟩
  | 27 => ⟨S32768x640, .bf16⟩
  | 28 => ⟨S32768x640, .bf16⟩
  | _ => ⟨S2x16384x7552, .f32⟩

abbrev hbmTy (i : Nat) : BufTy := match i / 128 with
  | 0 => hbmTy0_0 i
  | 1 => hbmTy0_1 i
  | 2 => hbmTy0_2 i
  | _ => ⟨S2x16384x7552, .f32⟩

abbrev bufTy : (tb : Table) → Fin (tcTables nBuf tb) → BufTy
  | .hbm, ⟨i, _⟩ => hbmTy i
  | .local _ .vmem, ⟨0, _⟩ => ⟨S5x512x128, .bf16⟩
  | .local _ .vmem, ⟨1, _⟩ => ⟨S5x512x128, .bf16⟩
  | .local _ .vmem, ⟨2, _⟩ => ⟨S5x256x128, .bf16⟩
  | .local _ .vmem, ⟨3, _⟩ => ⟨S5x256x128, .bf16⟩
  | .local _ .vmem, ⟨4, _⟩ => ⟨S5x256x128, .bf16⟩
  | .local _ .vmem, ⟨5, _⟩ => ⟨S5x256x128, .bf16⟩
  | .local _ .vmem, ⟨6, _⟩ => ⟨S5x512x128, .bf16⟩
  | .local _ .vmem, ⟨7, _⟩ => ⟨S5x512x128, .bf16⟩
  | .local _ .vmem, ⟨8, _⟩ => ⟨S5x256x128, .bf16⟩
  | .local _ .vmem, ⟨9, _⟩ => ⟨S5x256x128, .bf16⟩
  | .local _ .vmem, ⟨10, _⟩ => ⟨S5x256x128, .bf16⟩
  | .local _ .vmem, ⟨11, _⟩ => ⟨S5x256x128, .bf16⟩
  | .local _ .vmem, ⟨12, _⟩ => ⟨S5x512x128, .bf16⟩
  | .local _ .vmem, ⟨13, _⟩ => ⟨S5x512x128, .bf16⟩
  | .local _ .vmem, ⟨14, _⟩ => ⟨S5x512x128, .bf16⟩
  | .local _ .vmem, ⟨15, _⟩ => ⟨S5x512x128, .bf16⟩
  | .local _ .vmem, ⟨16, _⟩ => ⟨S1x5x256x768, .f32⟩
  | .local _ .vmem, ⟨17, _⟩ => ⟨S1x5x256x768, .f32⟩
  | .local _ .vmem, ⟨18, _⟩ => ⟨S1x5x256x768, .f32⟩
  | .local _ .vmem, ⟨19, _⟩ => ⟨S1x5x256x768, .f32⟩
  | .local _ .vmem, ⟨20, _⟩ => ⟨S5x512x128, .bf16⟩
  | .local _ .vmem, ⟨21, _⟩ => ⟨S5x512x128, .bf16⟩
  | .local _ .vmem, ⟨22, _⟩ => ⟨S5x512x128, .bf16⟩
  | .local _ .vmem, ⟨23, _⟩ => ⟨S5x512x128, .bf16⟩
  | .local _ .vmem, ⟨24, _⟩ => ⟨S5x512x128, .bf16⟩
  | .local _ .vmem, ⟨25, _⟩ => ⟨S5x512x128, .bf16⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S5x256x256, .f32⟩
  | .local _ .vmem, ⟨31, _⟩ => ⟨S5x256x128, .f32⟩
  | .local _ .vmem, ⟨32, _⟩ => ⟨S5x256x128, .f32⟩
  | .local _ .vmem, ⟨33, _⟩ => ⟨S5x128, .f32⟩
  | .local _ .vmem, ⟨34, _⟩ => ⟨S5x128, .f32⟩
  | .local _ .vmem, ⟨35, _⟩ => ⟨S512x640, .bf16⟩
  | .local _ .vmem, ⟨36, _⟩ => ⟨S512x640, .bf16⟩
  | .local _ .vmem, ⟨37, _⟩ => ⟨S512x640, .bf16⟩
  | .local _ .vmem, ⟨38, _⟩ => ⟨S512x640, .bf16⟩
  | .local _ .vmem, ⟨39, _⟩ => ⟨S5x128x128, .f32⟩
  | _, _ => ⟨S2x16384x7552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_cst_5 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_cst : Ref sig .tc := ⟨.hbm, 56, rfl⟩
abbrev main_call2_v3 : Ref sig .tc := ⟨.hbm, 57, rfl⟩
abbrev main_call2_v4 : Ref sig .tc := ⟨.hbm, 58, rfl⟩
abbrev main_call2_cst_0 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_cst_1 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_v15 : Ref sig .tc := ⟨.hbm, 71, rfl⟩
abbrev main_call2_v16 : Ref sig .tc := ⟨.hbm, 72, rfl⟩
abbrev main_v27 : Ref sig .tc := ⟨.hbm, 73, rfl⟩
abbrev main_v28 : Ref sig .tc := ⟨.hbm, 74, rfl⟩
abbrev main_cst_6 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_7 : Ref sig .tc := ⟨.hbm, 94, rfl⟩
abbrev main_v47 : Ref sig .tc := ⟨.hbm, 95, rfl⟩
abbrev main_cst_8 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_9 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_10 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_11 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_12 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_13 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_v95 : Ref sig .tc := ⟨.hbm, 152, rfl⟩
abbrev main_cst_14 : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_15 : Ref sig .tc := ⟨.hbm, 163, rfl⟩
abbrev main_v102 : Ref sig .tc := ⟨.hbm, 164, rfl⟩
abbrev main_v103 : Ref sig .tc := ⟨.hbm, 165, rfl⟩
abbrev main_cst_16 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_17 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_18 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_cst_19 : Ref sig .tc := ⟨.hbm, 190, rfl⟩
abbrev main_call5_v0 : Ref sig .tc := ⟨.hbm, 191, rfl⟩
abbrev main_call5_v1 : Ref sig .tc := ⟨.hbm, 192, rfl⟩
abbrev main_call5_v2 : Ref sig .tc := ⟨.hbm, 193, rfl⟩
abbrev main_v125 : Ref sig .tc := ⟨.hbm, 194, rfl⟩
abbrev main_v126 : Ref sig .tc := ⟨.hbm, 195, rfl⟩
abbrev main_c_20 : Ref sig .tc := ⟨.hbm, 196, rfl⟩
abbrev main_call6_v0 : Ref sig .tc := ⟨.hbm, 197, rfl⟩
abbrev main_call6_v1 : Ref sig .tc := ⟨.hbm, 198, rfl⟩
abbrev main_call6_v2 : Ref sig .tc := ⟨.hbm, 199, rfl⟩
abbrev main_call6_v3 : Ref sig .tc := ⟨.hbm, 200, rfl⟩
abbrev main_call6_v4 : Ref sig .tc := ⟨.hbm, 201, rfl⟩
abbrev main_call6_v5 : Ref sig .tc := ⟨.hbm, 202, rfl⟩
abbrev main_call6_v6 : Ref sig .tc := ⟨.hbm, 203, rfl⟩
abbrev main_call6_v7 : Ref sig .tc := ⟨.hbm, 204, rfl⟩
abbrev main_call6_v8 : Ref sig .tc := ⟨.hbm, 205, rfl⟩
abbrev main_call6_c : Ref sig .tc := ⟨.hbm, 206, rfl⟩
abbrev main_call6_v9 : Ref sig .tc := ⟨.hbm, 207, rfl⟩
abbrev main_call6_v10 : Ref sig .tc := ⟨.hbm, 208, rfl⟩
abbrev main_call6_v11 : Ref sig .tc := ⟨.hbm, 209, rfl⟩
abbrev main_call6_c_0 : Ref sig .tc := ⟨.hbm, 210, rfl⟩
abbrev main_call6_v12 : Ref sig .tc := ⟨.hbm, 211, rfl⟩
abbrev main_call6_v13 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_c_21 : Ref sig .tc := ⟨.hbm, 216, rfl⟩
abbrev main_call7_v0 : Ref sig .tc := ⟨.hbm, 217, rfl⟩
abbrev main_call7_c : Ref sig .tc := ⟨.hbm, 218, rfl⟩
abbrev main_call7_v1 : Ref sig .tc := ⟨.hbm, 219, rfl⟩
abbrev main_call7_c_0 : Ref sig .tc := ⟨.hbm, 220, rfl⟩
abbrev main_call7_v2 : Ref sig .tc := ⟨.hbm, 221, rfl⟩
abbrev main_call7_v3 : Ref sig .tc := ⟨.hbm, 222, rfl⟩
abbrev main_call7_v4 : Ref sig .tc := ⟨.hbm, 223, rfl⟩
abbrev main_call7_c_1 : Ref sig .tc := ⟨.hbm, 224, rfl⟩
abbrev main_call7_v5 : Ref sig .tc := ⟨.hbm, 225, rfl⟩
abbrev main_call7_v6 : Ref sig .tc := ⟨.hbm, 226, rfl⟩
abbrev main_call7_c_2 : Ref sig .tc := ⟨.hbm, 227, rfl⟩
abbrev main_call7_v7 : Ref sig .tc := ⟨.hbm, 228, rfl⟩
abbrev main_call7_v8 : Ref sig .tc := ⟨.hbm, 229, rfl⟩
abbrev main_call7_c_3 : Ref sig .tc := ⟨.hbm, 230, rfl⟩
abbrev main_call7_v9 : Ref sig .tc := ⟨.hbm, 231, rfl⟩
abbrev main_call7_v10 : Ref sig .tc := ⟨.hbm, 232, rfl⟩
abbrev main_call7_v11 : Ref sig .tc := ⟨.hbm, 233, rfl⟩
abbrev main_call7_v12 : Ref sig .tc := ⟨.hbm, 234, rfl⟩
abbrev main_call7_v13 : Ref sig .tc := ⟨.hbm, 235, rfl⟩
abbrev main_call7_v14 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_cst_22 : Ref sig .tc := ⟨.hbm, 244, rfl⟩
abbrev main_v137 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_cst_23 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_v160 : Ref sig .tc := ⟨.hbm, 269, rfl⟩
abbrev main_v161 : Ref sig .tc := ⟨.hbm, 270, rfl⟩
abbrev main_cst_24 : Ref sig .tc := ⟨.hbm, 271, rfl⟩
abbrev main_v162 : Ref sig .tc := ⟨.hbm, 272, rfl⟩
abbrev main_v163 : Ref sig .tc := ⟨.hbm, 273, rfl⟩
abbrev main_cst_25 : Ref sig .tc := ⟨.hbm, 274, rfl⟩
abbrev main_v164 : Ref sig .tc := ⟨.hbm, 275, rfl⟩
abbrev main_v165 : Ref sig .tc := ⟨.hbm, 276, rfl⟩
abbrev main_cst_26 : Ref sig .tc := ⟨.hbm, 277, rfl⟩
abbrev main_v166 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171_0 : Ref sig .tc := ⟨.hbm, 283, rfl⟩
abbrev main_v171_1 : Ref sig .tc := ⟨.hbm, 284, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem18_0 : DmaSem sig := 33
abbrev cc0_sem19_0 : DmaSem sig := 34
abbrev cc0_sem20_0 : DmaSem sig := 35
abbrev cc0_sem20_1 : DmaSem sig := 36
abbrev cc0_sem21_0 : DmaSem sig := 37
abbrev cc0_sem21_1 : DmaSem sig := 38

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  let c0_i32_0 : BitVec 32 := 0#32
  ![c5_i32.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c2_i32_0 : BitVec 32 := 2#32
  let v2 : BitVec 32 := Scalar.subi v1 c2_i32_0
  let c0_i32 : BitVec 32 := 0#32
  let v3 : BitVec 32 := Scalar.maxsi v2 c0_i32
  let v4 : BitVec 32 := Scalar.addi v0 v3
  let c6_i32 : BitVec 32 := 6#32
  let c0_i32_1 : BitVec 32 := 0#32
  let c0_i32_2 : BitVec 32 := 0#32
  ![c6_i32.toNat, v4.toNat, c0_i32_1.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c6_i32 : BitVec 32 := 6#32
  let c0_i32_0 : BitVec 32 := 0#32
  let c0_i32_1 : BitVec 32 := 0#32
  ![c6_i32.toNat, v4.toNat, c0_i32_0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c6_i32 : BitVec 32 := 6#32
  let c0_i32 : BitVec 32 := 0#32
  let c0_i32_0 : BitVec 32 := 0#32
  ![c6_i32.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c2_i32_0 : BitVec 32 := 2#32
  let v2 : BitVec 32 := Scalar.subi v1 c2_i32_0
  let c0_i32 : BitVec 32 := 0#32
  let v3 : BitVec 32 := Scalar.maxsi v2 c0_i32
  let v4 : BitVec 32 := Scalar.addi v0 v3
  let c7_i32 : BitVec 32 := 7#32
  let c0_i32_1 : BitVec 32 := 0#32
  let c0_i32_2 : BitVec 32 := 0#32
  ![c7_i32.toNat, v4.toNat, c0_i32_1.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c7_i32 : BitVec 32 := 7#32
  let c0_i32_0 : BitVec 32 := 0#32
  let c0_i32_1 : BitVec 32 := 0#32
  ![c7_i32.toNat, v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c7_i32 : BitVec 32 := 7#32
  let c0_i32 : BitVec 32 := 0#32
  let c0_i32_0 : BitVec 32 := 0#32
  ![c7_i32.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let c0_i32 : BitVec 32 := 0#32
  let c0_i32_0 : BitVec 32 := 0#32
  ![c8_i32.toNat, v1.toNat, c0_i32.toNat]

def cc0_transform_8 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c2_i32_0 : BitVec 32 := 2#32
  let v2 : BitVec 32 := Scalar.minsi v1 c2_i32_0
  let c0_i32_1 : BitVec 32 := 0#32
  let c0_i32_2 : BitVec 32 := 0#32
  let c0_i32_3 : BitVec 32 := 0#32
  let c0_i32_4 : BitVec 32 := 0#32
  ![v2.toNat, c0_i32_1.toNat, c0_i32_2.toNat, c0_i32_3.toNat]

def cc0_transform_9 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c2_i32_0 : BitVec 32 := 2#32
  let v2 : BitVec 32 := Scalar.minsi v1 c2_i32_0
  let c0_i32 : BitVec 32 := 0#32
  let c0_i32_1 : BitVec 32 := 0#32
  let c0_i32_2 : BitVec 32 := 0#32
  let c0_i32_3 : BitVec 32 := 0#32
  ![v2.toNat, c0_i32.toNat, c0_i32_1.toNat, c0_i32_2.toNat]

def cc0_transform_10 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c9_i32 : BitVec 32 := 9#32
  let c0_i32 : BitVec 32 := 0#32
  let c0_i32_0 : BitVec 32 := 0#32
  ![c9_i32.toNat, v1.toNat, c0_i32.toNat]

def cc0_transform_11 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c10_i32 : BitVec 32 := 10#32
  let c0_i32 : BitVec 32 := 0#32
  let c0_i32_0 : BitVec 32 := 0#32
  ![c10_i32.toNat, v1.toNat, c0_i32.toNat]

def cc0_transform_12 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c11_i32 : BitVec 32 := 11#32
  let c0_i32 : BitVec 32 := 0#32
  let c0_i32_0 : BitVec 32 := 0#32
  ![c11_i32.toNat, v1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S5x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S5x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S5x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S5x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S5x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x5x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x5x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S5x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S5x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S5x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S5x256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S5x256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S5x256x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S5x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S5x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S512x640 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S512x640 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== ReferenceIdeal.lean ====
abbrev S2x16384x7552 : Shape := ⟨3, ![2, 16384, 7552]⟩
abbrev S5x257 : Shape := ⟨2, ![5, 257]⟩
abbrev S2x16384x768 : Shape := ⟨3, ![2, 16384, 768]⟩
abbrev S2x16384x640 : Shape := ⟨3, ![2, 16384, 640]⟩
abbrev S2x16384x320 : Shape := ⟨3, ![2, 16384, 320]⟩
abbrev S2x256x64x5x128 : Shape := ⟨5, ![2, 256, 64, 5, 128]⟩
abbrev S2x5x256x64x128 : Shape := ⟨5, ![2, 5, 256, 64, 128]⟩
abbrev S256 : Shape := ⟨1, ![256]⟩
abbrev S256x1 : Shape := ⟨2, ![256, 1]⟩
abbrev S9 : Shape := ⟨1, ![9]⟩
abbrev S1x9 : Shape := ⟨2, ![1, 9]⟩
abbrev S256x9 : Shape := ⟨2, ![256, 9]⟩
abbrev S_ : Shape := ⟨0, ![]⟩
abbrev S2x5x264x64x128 : Shape := ⟨5, ![2, 5, 264, 64, 128]⟩
abbrev S256x9x1 : Shape := ⟨3, ![256, 9, 1]⟩
abbrev S2x5x256x9x64x128 : Shape := ⟨6, ![2, 5, 256, 9, 64, 128]⟩
abbrev S2x5x256x576x128 : Shape := ⟨5, ![2, 5, 256, 576, 128]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S5x64x576 : Shape := ⟨3, ![5, 64, 576]⟩
abbrev S256x576 : Shape := ⟨2, ![256, 576]⟩
abbrev S2x5x256x64x576 : Shape := ⟨5, ![2, 5, 256, 64, 576]⟩
abbrev S1x5x1x64x576 : Shape := ⟨5, ![1, 5, 1, 64, 576]⟩
abbrev S1x1x256x1x576 : Shape := ⟨5, ![1, 1, 256, 1, 576]⟩
abbrev S2x5x256x64 : Shape := ⟨4, ![2, 5, 256, 64]⟩
abbrev S2x5x256x64x1 : Shape := ⟨5, ![2, 5, 256, 64, 1]⟩
abbrev S32768x640 : Shape := ⟨2, ![32768, 640]⟩

abbrev nBuf : Space → Nat
  | .hbm => 153
  | .vmem => 0
  | .smem => 0
  | _ => 0

abbrev hbmTy0_0 (i : Nat) : BufTy := match i % 128 with
  | 0 => ⟨S2x16384x7552, .f32⟩
  | 1 => ⟨S5x257, .f32⟩
  | 2 => ⟨S2x16384x768, .f32⟩
  | 3 => ⟨S2x16384x768, .f32⟩
  | 4 => ⟨S2x16384x768, .f32⟩
  | 5 => ⟨S2x16384x768, .f32⟩
  | 6 => ⟨S2x16384x640, .f32⟩
  | 7 => ⟨S2x16384x640, .f32⟩
  | 8 => ⟨S2x16384x640, .f32⟩
  | 9 => ⟨S2x16384x640, .f32⟩
  | 10 => ⟨S2x16384x320, .f32⟩
  | 11 => ⟨S2x16384x320, .f32⟩
  | 12 => ⟨S2x16384x640, .f32⟩
  | 13 => ⟨S2x16384x640, .f32⟩
  | 14 => ⟨S2x256x64x5x128, .f32⟩
  | 15 => ⟨S2x5x256x64x128, .f32⟩
  | 16 => ⟨S2x256x64x5x128, .f32⟩
  | 17 => ⟨S2x5x256x64x128, .f32⟩
  | 18 => ⟨S2x256x64x5x128, .f32⟩
  | 19 => ⟨S2x5x256x64x128, .f32⟩
  | 20 => ⟨S256, .i32⟩
  | 21 => ⟨S256x1, .i32⟩
  | 22 => ⟨S9, .i32⟩
  | 23 => ⟨S1x9, .i32⟩
  | 24 => ⟨S256x9, .i32⟩
  | 25 => ⟨S256x9, .i32⟩
  | 26 => ⟨S256x9, .i32⟩
  | 27 => ⟨S_, .i32⟩
  | 28 => ⟨S_, .f32⟩
  | 29 => ⟨S2x5x264x64x128, .f32⟩
  | 30 => ⟨S_, .i32⟩
  | 31 => ⟨S256x9, .i32⟩
  | 32 => ⟨S256x9, .i1⟩
  | 33 => ⟨S_, .i32⟩
  | 34 => ⟨S256x9, .i32⟩
  | 35 => ⟨S256x9, .i32⟩
  | 36 => ⟨S256x9, .i32⟩
  | 37 => ⟨S256x9x1, .i32⟩
  | 38 => ⟨S2x5x256x9x64x128, .f32⟩
  | 39 => ⟨S2x5x256x576x128, .f32⟩
  | 40 => ⟨S_, .i32⟩
  | 41 => ⟨S_, .f32⟩
  | 42 => ⟨S2x5x264x64x128, .f32⟩
  | 43 => ⟨S_, .i32⟩
  | 44 => ⟨S256x9, .i32⟩
  | 45 => ⟨S256x9, .i1⟩
  | 46 => ⟨S_, .i32⟩
  | 47 => ⟨S256x9, .i32⟩
  | 48 => ⟨S256x9, .i32⟩
  | 49 => ⟨S256x9, .i32⟩
  | 50 => ⟨S256x9x1, .i32⟩
  | 51 => ⟨S2x5x256x9x64x128, .f32⟩
  | 52 => ⟨S2x5x256x576x128, .f32⟩
  | 53 => ⟨S64, .i32⟩
  | 54 => ⟨S576, .i32⟩
  | 55 => ⟨S_, .i32⟩
  | 56 => ⟨S576, .i32⟩
  | 57 => ⟨S576, .i32⟩
  | 58 => ⟨S64x1, .i32⟩
  | 59 => ⟨S1x576, .i32⟩
  | 60 => ⟨S64x576, .i32⟩
  | 61 => ⟨S64x576, .i32⟩
  | 62 => ⟨S64x576, .i32⟩
  | 63 => ⟨S_, .i32⟩
  | 64 => ⟨S_, .i32⟩
  | 65 => ⟨S_, .i32⟩
  | 66 => ⟨S64x576, .i32⟩
  | 67 => ⟨S64x576, .i32⟩
  | 68 => ⟨S_, .i32⟩
  | 69 => ⟨S64x576, .i32⟩
  | 70 => ⟨S64x576, .i32⟩
  | 71 => ⟨S_, .i32⟩
  | 72 => ⟨S64x576, .i32⟩
  | 73 => ⟨S64x576, .i32⟩
  | 74 => ⟨S_, .i32⟩
  | 75 => ⟨S64x576, .i32⟩
  | 76 => ⟨S64x576, .i1⟩
  | 77 => ⟨S_, .i32⟩
  | 78 => ⟨S64x576, .i32⟩
  | 79 => ⟨S64x576, .i32⟩
  | 80 => ⟨S64x576, .i32⟩
  | 81 => ⟨S64x576x1, .i32⟩
  | 82 => ⟨S5x64x576, .f32⟩
  | 83 => ⟨S256, .i32⟩
  | 84 => ⟨S256x1, .i32⟩
  | 85 => ⟨S576, .i32⟩
  | 86 => ⟨S1x576, .i32⟩
  | 87 => ⟨S_, .i32⟩
  | 88 => ⟨S_, .i32⟩
  | 89 => ⟨S1x576, .i32⟩
  | 90 => ⟨S1x576, .i32⟩
  | 91 => ⟨S1x576, .i32⟩
  | 92 => ⟨S_, .i32⟩
  | 93 => ⟨S1x576, .i32⟩
  | 94 => ⟨S1x576, .i1⟩
  | 95 => ⟨S1x576, .i32⟩
  | 96 => ⟨S1x576, .i32⟩
  | 97 => ⟨S_, .i32⟩
  | 98 => ⟨S1x576, .i32⟩
  | 99 => ⟨S1x576, .i1⟩
  | 100 => ⟨S1x576, .i1⟩
  | 101 => ⟨S_, .i32⟩
  | 102 => ⟨S1x576, .i32⟩
  | 103 => ⟨S1x576, .i32⟩
  | 104 => ⟨S1x576, .i32⟩
  | 105 => ⟨S256x576, .i32⟩
  | 106 => ⟨S256x576, .i32⟩
  | 107 => ⟨S256x576, .i32⟩
  | 108 => ⟨S_, .i32⟩
  | 109 => ⟨S256x576, .i32⟩
  | 110 => ⟨S256x576, .i1⟩
  | 111 => ⟨S2x5x256x64x576, .f32⟩
  | 112 => ⟨S_, .f32⟩
  | 113 => ⟨S2x5x256x64x576, .f32⟩
  | 114 => ⟨S2x5x256x64x576, .f32⟩
  | 115 => ⟨S1x5x1x64x576, .f32⟩
  | 116 => ⟨S2x5x256x64x576, .f32⟩
  | 117 => ⟨S2x5x256x64x576, .f32⟩
  | 118 => ⟨S1x1x256x1x576, .i1⟩
  | 119 => ⟨S_, .f32⟩
  | 120 => ⟨S_, .f32⟩
  | 121 => ⟨S2x5x256x64x576, .i1⟩
  | 122 => ⟨S2x5x256x64x576, .f32⟩
  | 123 => ⟨S2x5x256x64x576, .f32⟩
  | 124 => ⟨S_, .f32⟩
  | 125 => ⟨S2x5x256x64, .f32⟩
  | 126 => ⟨S_, .f32⟩
  | 127 => ⟨S2x5x256x64, .f32⟩
  | _ => ⟨S2x16384x7552, .f32⟩

abbrev hbmTy0_1 (i : Nat) : BufTy := match i % 128 with
  | 0 => ⟨S2x5x256x64, .f32⟩
  | 1 => ⟨S2x5x256x64x1, .f32⟩
  | 2 => ⟨S2x5x256x64x576, .f32⟩
  | 3 => ⟨S2x5x256x64x576, .f32⟩
  | 4 => ⟨S2x5x256x64x576, .f32⟩
  | 5 => ⟨S_, .f32⟩
  | 6 => ⟨S2x5x256x64, .f32⟩
  | 7 => ⟨S2x5x256x64x1, .f32⟩
  | 8 => ⟨S2x5x256x64x576, .f32⟩
  | 9 => ⟨S2x5x256x64x576, .f32⟩
  | 10 => ⟨S2x5x256x64x128, .f32⟩
  | 11 => ⟨S2x256x64x5x128, .f32⟩
  | 12 => ⟨S2x16384x640, .f32⟩
  | 13 => ⟨S2x16384x640, .f32⟩
  | 14 => ⟨S2x16384x640, .f32⟩
  | 15 => ⟨S_, .f32⟩
  | 16 => ⟨S2x16384x640, .f32⟩
  | 17 => ⟨S2x16384x640, .f32⟩
  | 18 => ⟨S_, .f32⟩
  | 19 => ⟨S2x16384x640, .f32⟩
  | 20 => ⟨S2x16384x640, .f32⟩
  | 21 => ⟨S2x16384x640, .f32⟩
  | 22 => ⟨S2x16384x640, .f32⟩
  | 23 => ⟨S32768x640, .f32⟩
  | 24 => ⟨S32768x640, .bf16⟩
  | _ => ⟨S2x16384x7552, .f32⟩

abbrev hbmTy (i : Nat) : BufTy := match i / 128 with
  | 0 => hbmTy0_0 i
  | 1 => hbmTy0_1 i
  | _ => ⟨S2x16384x7552, .f32⟩

abbrev bufTy : (tb : Table) → Fin (tcTables nBuf tb) → BufTy
  | .hbm, ⟨i, _⟩ => hbmTy i
  | _, _ => ⟨S2x16384x7552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_c : Ref sig .tc := ⟨.hbm, 27, rfl⟩
abbrev main_call0_v0 : Ref sig .tc := ⟨.hbm, 28, rfl⟩
abbrev main_v25 : Ref sig .tc := ⟨.hbm, 29, rfl⟩
abbrev main_c_0 : Ref sig .tc := ⟨.hbm, 30, rfl⟩
abbrev main_v26 : Ref sig .tc := ⟨.hbm, 31, rfl⟩
abbrev main_v27 : Ref sig .tc := ⟨.hbm, 32, rfl⟩
abbrev main_c_1 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c_2 : Ref sig .tc := ⟨.hbm, 40, rfl⟩
abbrev main_call1_v0 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_c_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_6 : Ref sig .tc := ⟨.hbm, 63, rfl⟩
abbrev main_c_7 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v52 : Ref sig .tc := ⟨.hbm, 70, rfl⟩
abbrev main_c_8 : Ref sig .tc := ⟨.hbm, 71, rfl⟩
abbrev main_v53 : Ref sig .tc := ⟨.hbm, 72, rfl⟩
abbrev main_v54 : Ref sig .tc := ⟨.hbm, 73, rfl⟩
abbrev main_c_9 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_11 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_c : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_0 : Ref sig .tc := ⟨.hbm, 101, rfl⟩
abbrev main_call3_v12 : Ref sig .tc := ⟨.hbm, 102, rfl⟩
abbrev main_call3_v13 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_12 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_13 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v79 : Ref sig .tc := ⟨.hbm, 123, rfl⟩
abbrev main_cst_14 : Ref sig .tc := ⟨.hbm, 124, rfl⟩
abbrev main_v80 : Ref sig .tc := ⟨.hbm, 125, rfl⟩
abbrev main_cst_15 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_16 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_call5_v0 : Ref sig .tc := ⟨.hbm, 141, rfl⟩
abbrev main_call5_v1 : Ref sig .tc := ⟨.hbm, 142, rfl⟩
abbrev main_call5_cst : Ref sig .tc := ⟨.hbm, 143, rfl⟩
abbrev main_call5_v2 : Ref sig .tc := ⟨.hbm, 144, rfl⟩
abbrev main_call5_v3 : Ref sig .tc := ⟨.hbm, 145, rfl⟩
abbrev main_call5_cst_0 : Ref sig .tc := ⟨.hbm, 146, rfl⟩
abbrev main_call5_v4 : Ref sig .tc := ⟨.hbm, 147, rfl⟩
abbrev main_call5_v5 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩

abbrev nD : Nat := 1
abbrev τ : Topo := Topo.v7x

variable {F : FTy → Type} [FloatOps F]
-- ==== Outproj.lean ====
abbrev S2x16384x768 : Shape := ⟨3, ![2, 16384, 768]⟩
abbrev S2x16384x640 : Shape := ⟨3, ![2, 16384, 640]⟩
abbrev S2x16384x2048 : Shape := ⟨3, ![2, 16384, 2048]⟩
abbrev S2048x2048 : Shape := ⟨2, ![2048, 2048]⟩
abbrev S2048 : Shape := ⟨1, ![2048]⟩
abbrev S32768x768 : Shape := ⟨2, ![32768, 768]⟩
abbrev S32768x640 : Shape := ⟨2, ![32768, 640]⟩
abbrev S32768x2048 : Shape := ⟨2, ![32768, 2048]⟩
abbrev S1x2048 : Shape := ⟨2, ![1, 2048]⟩
abbrev S512x768 : Shape := ⟨2, ![512, 768]⟩
abbrev S512x640 : Shape := ⟨2, ![512, 640]⟩
abbrev S512x2048 : Shape := ⟨2, ![512, 2048]⟩
abbrev S512 : Shape := ⟨1, ![512]⟩
abbrev S512x1 : Shape := ⟨2, ![512, 1]⟩

abbrev nBuf : Space → Nat
  | .hbm => 16
  | .vmem => 12
  | .smem => 0
  | _ => 0

abbrev bufTy : (tb : Table) → Fin (tcTables nBuf tb) → BufTy
  | .hbm, ⟨0, _⟩ => ⟨S2x16384x768, .f32⟩
  | .hbm, ⟨1, _⟩ => ⟨S2x16384x640, .f32⟩
  | .hbm, ⟨2, _⟩ => ⟨S2x16384x640, .f32⟩
  | .hbm, ⟨3, _⟩ => ⟨S2x16384x2048, .f32⟩
  | .hbm, ⟨4, _⟩ => ⟨S2048x2048, .f32⟩
  | .hbm, ⟨5, _⟩ => ⟨S2048, .f32⟩
  | .hbm, ⟨6, _⟩ => ⟨S32768x768, .f32⟩
  | .hbm, ⟨7, _⟩ => ⟨S32768x768, .bf16⟩
  | .hbm, ⟨8, _⟩ => ⟨S32768x640, .f32⟩
  | .hbm, ⟨9, _⟩ => ⟨S32768x640, .bf16⟩
  | .hbm, ⟨10, _⟩ => ⟨S32768x640, .f32⟩
  | .hbm, ⟨11, _⟩ => ⟨S32768x640, .bf16⟩
  | .hbm, ⟨12, _⟩ => ⟨S32768x2048, .f32⟩
  | .hbm, ⟨13, _⟩ => ⟨S2048x2048, .bf16⟩
  | .hbm, ⟨14, _⟩ => ⟨S1x2048, .f32⟩
  | .hbm, ⟨15, _⟩ => ⟨S32768x2048, .f32⟩
  | .local _ .vmem, ⟨0, _⟩ => ⟨S512x768, .bf16⟩
  | .local _ .vmem, ⟨1, _⟩ => ⟨S512x768, .bf16⟩
  | .local _ .vmem, ⟨2, _⟩ => ⟨S512x640, .bf16⟩
  | .local _ .vmem, ⟨3, _⟩ => ⟨S512x640, .bf16⟩
  | .local _ .vmem, ⟨4, _⟩ => ⟨S512x640, .bf16⟩
  | .local _ .vmem, ⟨5, _⟩ => ⟨S512x640, .bf16⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S2x16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutprojReferenceIdeal.lean ====
abbrev S2x16384x768 : Shape := ⟨3, ![2, 16384, 768]⟩
abbrev S2x16384x640 : Shape := ⟨3, ![2, 16384, 640]⟩
abbrev S2x16384x2048 : Shape := ⟨3, ![2, 16384, 2048]⟩
abbrev S2048x2048 : Shape := ⟨2, ![2048, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2x16384x768, .f32⟩
  | .hbm, ⟨1, _⟩ => ⟨S2x16384x640, .f32⟩
  | .hbm, ⟨2, _⟩ => ⟨S2x16384x640, .f32⟩
  | .hbm, ⟨3, _⟩ => ⟨S2x16384x2048, .f32⟩
  | .hbm, ⟨4, _⟩ => ⟨S2048x2048, .f32⟩
  | .hbm, ⟨5, _⟩ => ⟨S2048, .f32⟩
  | .hbm, ⟨6, _⟩ => ⟨S2x16384x2048, .f32⟩
  | .hbm, ⟨7, _⟩ => ⟨S2x16384x2048, .f32⟩
  | .hbm, ⟨8, _⟩ => ⟨S2x16384x2048, .f32⟩
  | .hbm, ⟨9, _⟩ => ⟨S2x16384x2048, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x2048, .f32⟩
  | .hbm, ⟨21, _⟩ => ⟨S2x16384x2048, .f32⟩
  | .hbm, ⟨22, _⟩ => ⟨S1x1x2048, .f32⟩
  | .hbm, ⟨23, _⟩ => ⟨S2x16384x2048, .f32⟩
  | .hbm, ⟨24, _⟩ => ⟨S2x16384x2048, .f32⟩
  | .hbm, ⟨25, _⟩ => ⟨S32768x2048, .f32⟩
  | _, _ => ⟨S2x16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Inproj.lean ====
abbrev S2x16384x2048 : Shape := ⟨3, ![2, 16384, 2048]⟩
abbrev S2048 : Shape := ⟨1, ![2048]⟩
abbrev S2048x7552 : Shape := ⟨2, ![2048, 7552]⟩
abbrev S768 : Shape := ⟨1, ![768]⟩
abbrev S32768x2048 : Shape := ⟨2, ![32768, 2048]⟩
abbrev S_ : Shape := ⟨0, ![]⟩
abbrev S1x3072 : Shape := ⟨2, ![1, 3072]⟩
abbrev S1x640 : Shape := ⟨2, ![1, 640]⟩
abbrev S1x3840 : Shape := ⟨2, ![1, 3840]⟩
abbrev S1x7552 : Shape := ⟨2, ![1, 7552]⟩
abbrev S1x768 : Shape := ⟨2, ![1, 768]⟩
abbrev S1x2048 : Shape := ⟨2, ![1, 2048]⟩
abbrev S60x32768x128 : Shape := ⟨3, ![60, 32768, 128]⟩
abbrev S1024x2048 : Shape := ⟨2, ![1024, 2048]⟩
abbrev S2048x2560 : Shape := ⟨2, ![2048, 2560]⟩
abbrev S20x1024x128 : Shape := ⟨3, ![20, 1024, 128]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S1024x128 : Shape := ⟨2, ![1024, 128]⟩
abbrev S1x1024x128 : Shape := ⟨3, ![1, 1024, 128]⟩
abbrev S1x128 : Shape := ⟨2, ![1, 128]⟩
abbrev S2048x384 : Shape := ⟨2, ![2048, 384]⟩
abbrev S1024x384 : Shape := ⟨2, ![1024, 384]⟩

abbrev nBuf : Space → Nat
  | .hbm => 23
  | .vmem => 9
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x7552, .f32⟩
  | .hbm, ⟨3, _⟩ => ⟨S768, .f32⟩
  | .hbm, ⟨4, _⟩ => ⟨S32768x2048, .f32⟩
  | .hbm, ⟨5, _⟩ => ⟨S_, .f32⟩
  | .hbm, ⟨6, _⟩ => ⟨S1x3072, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x640, .f32⟩
  | .hbm, ⟨14, _⟩ => ⟨S_, .f32⟩
  | .hbm, ⟨15, _⟩ => ⟨S1x3840, .f32⟩
  | .hbm, ⟨16, _⟩ => ⟨S1x7552, .f32⟩
  | .hbm, ⟨17, _⟩ => ⟨S2048x7552, .f32⟩
  | .hbm, ⟨18, _⟩ => ⟨S2048x7552, .f32⟩
  | .hbm, ⟨19, _⟩ => ⟨S2048x7552, .bf16⟩
  | .hbm, ⟨20, _⟩ => ⟨S1x768, .f32⟩
  | .hbm, ⟨21, _⟩ => ⟨S1x2048, .f32⟩
  | .hbm, ⟨22, _⟩ => ⟨S60x32768x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2560, .bf16⟩
  | .local _ .vmem, ⟨4, _⟩ => ⟨S2048x2560, .bf16⟩
  | .local _ .vmem, ⟨5, _⟩ => ⟨S1x768, .f32⟩
  | .local _ .vmem, ⟨6, _⟩ => ⟨S20x1024x128, .bf16⟩
  | .local _ .vmem, ⟨7, _⟩ => ⟨S20x1024x128, .bf16⟩
  | .local _ .vmem, ⟨8, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 3], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg1 c20_i32
  let c1_i32 : BitVec 32 := 1#32
  let v1 : BitVec 1 := Scalar.cmpi .sgt arg1 c1_i32
  let c1_i32_0 : BitVec 32 := 1#32
  let c0_i32 : BitVec 32 := 0#32
  let v2 : BitVec 32 := Scalar.select v1 c1_i32_0 c0_i32
  let v3 : BitVec 32 := Scalar.subi v0 v2
  let c128_i32 : BitVec 32 := 128#32
  let v4 : BitVec 32 := Scalar.muli v3 c128_i32
  let c0_i32_1 : BitVec 32 := 0#32
  let c0_i32_2 : BitVec 32 := 0#32
  ![c0_i32_1.toNat, v4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S20x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojReferenceIdeal.lean ====
abbrev S2x16384x2048 : Shape := ⟨3, ![2, 16384, 2048]⟩
abbrev S2048 : Shape := ⟨1, ![2048]⟩
abbrev S2048x7552 : Shape := ⟨2, ![2048, 7552]⟩
abbrev S768 : Shape := ⟨1, ![768]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x7552 : Shape := ⟨3, ![2, 16384, 7552]⟩
abbrev S2x16384x768 : Shape := ⟨3, ![2, 16384, 768]⟩
abbrev S2x16384x640 : Shape := ⟨3, ![2, 16384, 640]⟩
abbrev S2x16384x320 : Shape := ⟨3, ![2, 16384, 320]⟩
abbrev S1x1x768 : Shape := ⟨3, ![1, 1, 768]⟩
abbrev S2x16384x128 : Shape := ⟨3, ![2, 16384, 128]⟩
abbrev S2x16384x7680 : Shape := ⟨3, ![2, 16384, 7680]⟩
abbrev S32768x60x128 : Shape := ⟨3, ![32768, 60, 128]⟩
abbrev S60x32768x128 : Shape := ⟨3, ![60, 32768, 128]⟩

abbrev nBuf : Space → Nat
  | .hbm => 98
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x7552, .f32⟩
  | .hbm, ⟨3, _⟩ => ⟨S768, .f32⟩
  | .hbm, ⟨4, _⟩ => ⟨S2x16384x2048, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x2048, .f32⟩
  | .hbm, ⟨16, _⟩ => ⟨S2x16384x2048, .f32⟩
  | .hbm, ⟨17, _⟩ => ⟨S1x1x2048, .f32⟩
  | .hbm, ⟨18, _⟩ => ⟨S2x16384x2048, .f32⟩
  | .hbm, ⟨19, _⟩ => ⟨S2x16384x2048, .f32⟩
  | .hbm, ⟨20, _⟩ => ⟨S2x16384x7552, .f32⟩
  | .hbm, ⟨21, _⟩ => ⟨S2x16384x768, .f32⟩
  | .hbm, ⟨22, _⟩ => ⟨S2x16384x768, .f32⟩
  | .hbm, ⟨23, _⟩ => ⟨S2x16384x768, .f32⟩
  | .hbm, ⟨24, _⟩ => ⟨S2x16384x768, .f32⟩
  | .hbm, ⟨25, _⟩ => ⟨S2x16384x640, .f32⟩
  | .hbm, ⟨26, _⟩ => ⟨S2x16384x640, .f32⟩
  | .hbm, ⟨27, _⟩ => ⟨S2x16384x640, .f32⟩
  | .hbm, ⟨28, _⟩ => ⟨S2x16384x640, .f32⟩
  | .hbm, ⟨29, _⟩ => ⟨S2x16384x320, .f32⟩
  | .hbm, ⟨30, _⟩ => ⟨S2x16384x320, .f32⟩
  | .hbm, ⟨31, _⟩ => ⟨S2x16384x640, .f32⟩
  | .hbm, ⟨32, _⟩ => ⟨S2x16384x640, .f32⟩
  | .hbm, ⟨33, _⟩ => ⟨S_, .f32⟩
  | .hbm, ⟨34, _⟩ => ⟨S768, .f32⟩
  | .hbm, ⟨35, _⟩ => ⟨S768, .f32⟩
  | .hbm, ⟨36, _⟩ => ⟨S2x16384x768, .f32⟩
  | .hbm, ⟨37, _⟩ => ⟨S2x16384x768, .f32⟩
  | .hbm, ⟨38, _⟩ => ⟨S2x16384x768, .f32⟩
  | .hbm, ⟨39, _⟩ => ⟨S_, .f32⟩
  | .hbm, ⟨40, _⟩ => ⟨S2x16384x768, .f32⟩
  | .hbm, ⟨41, _⟩ => ⟨S2x16384x768, .f32⟩
  | .hbm, ⟨42, _⟩ => ⟨S_, .f32⟩
  | .hbm, ⟨43, _⟩ => ⟨S2x16384x768, .f32⟩
  | .hbm, ⟨44, _⟩ => ⟨S2x16384x768, .f32⟩
  | .hbm, ⟨45, _⟩ => ⟨S1x1x768, .f32⟩
  | .hbm, ⟨46, _⟩ => ⟨S2x16384x768, .f32⟩
  | .hbm, ⟨47, _⟩ => ⟨S2x16384x768, .f32⟩
  | .hbm, ⟨48, _⟩ => ⟨S_, .f32⟩
  | .hbm, ⟨49, _⟩ => ⟨S2x16384x128, .f32⟩
  | .hbm, ⟨50, _⟩ => ⟨S2x16384x768, .f32⟩
  | .hbm, ⟨51, _⟩ => ⟨S2x16384x768, .f32⟩
  | .hbm, ⟨52, _⟩ => ⟨S_, .f32⟩
  | .hbm, ⟨53, _⟩ => ⟨S2x16384x768, .f32⟩
  | .hbm, ⟨54, _⟩ => ⟨S2x16384x768, .f32⟩
  | .hbm, ⟨55, _⟩ => ⟨S_, .f32⟩
  | .hbm, ⟨56, _⟩ => ⟨S2x16384x768, .f32⟩
  | .hbm, ⟨57, _⟩ => ⟨S2x16384x768, .f32⟩
  | .hbm, ⟨58, _⟩ => ⟨S2x16384x768, .f32⟩
  | .hbm, ⟨59, _⟩ => ⟨S2x16384x768, .f32⟩
  | .hbm, ⟨60, _⟩ => ⟨S2x16384x768, .f32⟩
  | .hbm, ⟨61, _⟩ => ⟨S_, .f32⟩
  | .hbm, ⟨62, _⟩ => ⟨S2x16384x768, .f32⟩
  | .hbm, ⟨63, _⟩ => ⟨S2x16384x768, .f32⟩
  | .hbm, ⟨64, _⟩ => ⟨S_, .f32⟩
  | .hbm, ⟨65, _⟩ => ⟨S2x16384x768, .f32⟩
  | .hbm, ⟨66, _⟩ => ⟨S2x16384x768, .f32⟩
  | .hbm, ⟨67, _⟩ => ⟨S2x16384x768, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S2x16384x640, .f32⟩
  | .hbm, ⟨75, _⟩ => ⟨S2x16384x640, .f32⟩
  | .hbm, ⟨76, _⟩ => ⟨S2x16384x640, .f32⟩
  | .hbm, ⟨77, _⟩ => ⟨S2x16384x640, .f32⟩
  | .hbm, ⟨78, _⟩ => ⟨S_, .f32⟩
  | .hbm, ⟨79, _⟩ => ⟨S2x16384x640, .f32⟩
  | .hbm, ⟨80, _⟩ => ⟨S2x16384x640, .f32⟩
  | .hbm, ⟨81, _⟩ => ⟨S_, .f32⟩
  | .hbm, ⟨82, _⟩ => ⟨S2x16384x640, .f32⟩
  | .hbm, ⟨83, _⟩ => ⟨S2x16384x640, .f32⟩
  | .hbm, ⟨84, _⟩ => ⟨S2x16384x640, .f32⟩
  | .hbm, ⟨85, _⟩ => ⟨S2x16384x640, .f32⟩
  | .hbm, ⟨86, _⟩ => ⟨S2x16384x640, .f32⟩
  | .hbm, ⟨87, _⟩ => ⟨S_, .f32⟩
  | .hbm, ⟨88, _⟩ => ⟨S2x16384x640, .f32⟩
  | .hbm, ⟨89, _⟩ => ⟨S2x16384x640, .f32⟩
  | .hbm, ⟨90, _⟩ => ⟨S_, .f32⟩
  | .hbm, ⟨91, _⟩ => ⟨S2x16384x640, .f32⟩
  | .hbm, ⟨92, _⟩ => ⟨S2x16384x640, .f32⟩
  | .hbm, ⟨93, _⟩ => ⟨S2x16384x640, .f32⟩
  | .hbm, ⟨94, _⟩ => ⟨S2x16384x7680, .f32⟩
  | .hbm, ⟨95, _⟩ => ⟨S32768x60x128, .f32⟩
  | .hbm, ⟨96, _⟩ => ⟨S60x32768x128, .f32⟩
  | .hbm, ⟨97, _⟩ => ⟨S60x32768x128, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_call2_v0 : Ref sig .tc := ⟨.hbm, 76, rfl⟩
abbrev main_call2_v1 : Ref sig .tc := ⟨.hbm, 77, rfl⟩
abbrev main_call2_cst : Ref sig .tc := ⟨.hbm, 78, rfl⟩
abbrev main_call2_v2 : Ref sig .tc := ⟨.hbm, 79, rfl⟩
abbrev main_call2_v3 : Ref sig .tc := ⟨.hbm, 80, rfl⟩
abbrev main_call2_cst_0 : Ref sig .tc := ⟨.hbm, 81, rfl⟩
abbrev main_call2_v4 : Ref sig .tc := ⟨.hbm, 82, rfl⟩
abbrev main_call2_v5 : Ref sig .tc := ⟨.hbm, 83, rfl⟩
abbrev main_v46 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩

abbrev nD : Nat := 1
abbrev τ : Topo := Topo.v7x

variable {F : FTy → Type} [FloatOps F]
-- ==== OutprojFirst.lean ====
abbrev S2x16384x768 : Shape := ⟨3, ![2, 16384, 768]⟩
abbrev S2x16384x640 : Shape := ⟨3, ![2, 16384, 640]⟩
abbrev S2x16384x2048 : Shape := ⟨3, ![2, 16384, 2048]⟩
abbrev S2048x2048 : Shape := ⟨2, ![2048, 2048]⟩
abbrev S2048 : Shape := ⟨1, ![2048]⟩
abbrev S32768x768 : Shape := ⟨2, ![32768, 768]⟩
abbrev S32768x640 : Shape := ⟨2, ![32768, 640]⟩
abbrev S32768x2048 : Shape := ⟨2, ![32768, 2048]⟩
abbrev S1x2048 : Shape := ⟨2, ![1, 2048]⟩
abbrev S512x768 : Shape := ⟨2, ![512, 768]⟩
abbrev S512x640 : Shape := ⟨2, ![512, 640]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 14
  | .smem => 0
  | _ => 0

abbrev bufTy : (tb : Table) → Fin (tcTables nBuf tb) → BufTy
  | .hbm, ⟨0, _⟩ => ⟨S2x16384x768, .f32⟩
  | .hbm, ⟨1, _⟩ => ⟨S2x16384x640, .f32⟩
  | .hbm, ⟨2, _⟩ => ⟨S2x16384x640, .f32⟩
  | .hbm, ⟨3, _⟩ => ⟨S2x16384x2048, .f32⟩
  | .hbm, ⟨4, _⟩ => ⟨S2048x2048, .f32⟩
  | .hbm, ⟨5, _⟩ => ⟨S2048, .f32⟩
  | .hbm, ⟨6, _⟩ => ⟨S32768x768, .f32⟩
  | .hbm, ⟨7, _⟩ => ⟨S32768x768, .bf16⟩
  | .hbm, ⟨8, _⟩ => ⟨S32768x640, .f32⟩
  | .hbm, ⟨9, _⟩ => ⟨S32768x640, .bf16⟩
  | .hbm, ⟨10, _⟩ => ⟨S32768x640, .f32⟩
  | .hbm, ⟨11, _⟩ => ⟨S32768x640, .bf16⟩
  | .hbm, ⟨12, _⟩ => ⟨S32768x2048, .f32⟩
  | .hbm, ⟨13, _⟩ => ⟨S2048x2048, .bf16⟩
  | .hbm, ⟨14, _⟩ => ⟨S1x2048, .f32⟩
  | .hbm, ⟨15, _⟩ => ⟨S32768x2048, .f32⟩
  | .hbm, ⟨16, _⟩ => ⟨S32768x2048, .bf16⟩
  | .local _ .vmem, ⟨0, _⟩ => ⟨S512x768, .bf16⟩
  | .local _ .vmem, ⟨1, _⟩ => ⟨S512x768, .bf16⟩
  | .local _ .vmem, ⟨2, _⟩ => ⟨S512x640, .bf16⟩
  | .local _ .vmem, ⟨3, _⟩ => ⟨S512x640, .bf16⟩
  | .local _ .vmem, ⟨4, _⟩ => ⟨S512x640, .bf16⟩
  | .local _ .vmem, ⟨5, _⟩ => ⟨S512x640, .bf16⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S2x16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutprojFirstReferenceIdeal.lean ====
abbrev S2x16384x768 : Shape := ⟨3, ![2, 16384, 768]⟩
abbrev S2x16384x640 : Shape := ⟨3, ![2, 16384, 640]⟩
abbrev S2x16384x2048 : Shape := ⟨3, ![2, 16384, 2048]⟩
abbrev S2048x2048 : Shape := ⟨2, ![2048, 2048]⟩
abbrev S2048 : Shape := ⟨1, ![2048]⟩
abbrev S32768x2048 : Shape := ⟨2, ![32768, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x16384x768, .f32⟩
  | .hbm, ⟨1, _⟩ => ⟨S2x16384x640, .f32⟩
  | .hbm, ⟨2, _⟩ => ⟨S2x16384x640, .f32⟩
  | .hbm, ⟨3, _⟩ => ⟨S2x16384x2048, .f32⟩
  | .hbm, ⟨4, _⟩ => ⟨S2048x2048, .f32⟩
  | .hbm, ⟨5, _⟩ => ⟨S2048, .f32⟩
  | .hbm, ⟨6, _⟩ => ⟨S2x16384x2048, .f32⟩
  | .hbm, ⟨7, _⟩ => ⟨S2x16384x2048, .f32⟩
  | .hbm, ⟨8, _⟩ => ⟨S2x16384x2048, .f32⟩
  | .hbm, ⟨9, _⟩ => ⟨S32768x2048, .f32⟩
  | .hbm, ⟨10, _⟩ => ⟨S2x16384x2048, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1, .f32⟩
  | .hbm, ⟨21, _⟩ => ⟨S2x16384x2048, .f32⟩
  | .hbm, ⟨22, _⟩ => ⟨S2x16384x2048, .f32⟩
  | .hbm, ⟨23, _⟩ => ⟨S1x1x2048, .f32⟩
  | .hbm, ⟨24, _⟩ => ⟨S2x16384x2048, .f32⟩
  | .hbm, ⟨25, _⟩ => ⟨S2x16384x2048, .f32⟩
  | .hbm, ⟨26, _⟩ => ⟨S32768x2048, .f32⟩
  | .hbm, ⟨27, _⟩ => ⟨S32768x2048, .bf16⟩
  | _, _ => ⟨S2x16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== InprojSecond.lean ====
abbrev S2x16384x2048 : Shape := ⟨3, ![2, 16384, 2048]⟩
abbrev S2048x7552 : Shape := ⟨2, ![2048, 7552]⟩
abbrev S768 : Shape := ⟨1, ![768]⟩
abbrev S32768x2048 : Shape := ⟨2, ![32768, 2048]⟩
abbrev S_ : Shape := ⟨0, ![]⟩
abbrev S1x3072 : Shape := ⟨2, ![1, 3072]⟩
abbrev S1x640 : Shape := ⟨2, ![1, 640]⟩
abbrev S1x3840 : Shape := ⟨2, ![1, 3840]⟩
abbrev S1x7552 : Shape := ⟨2, ![1, 7552]⟩
abbrev S1x768 : Shape := ⟨2, ![1, 768]⟩
abbrev S60x32768x128 : Shape := ⟨3, ![60, 32768, 128]⟩
abbrev S1024x2048 : Shape := ⟨2, ![1024, 2048]⟩
abbrev S2048x2560 : Shape := ⟨2, ![2048, 2560]⟩
abbrev S20x1024x128 : Shape := ⟨3, ![20, 1024, 128]⟩
abbrev S2048x512 : Shape := ⟨2, ![2048, 512]⟩
abbrev S1024x512 : Shape := ⟨2, ![1024, 512]⟩
abbrev S1024x128 : Shape := ⟨2, ![1024, 128]⟩
abbrev S1x1024x128 : Shape := ⟨3, ![1, 1024, 128]⟩
abbrev S1x128 : Shape := ⟨2, ![1, 128]⟩
abbrev S2048x384 : Shape := ⟨2, ![2048, 384]⟩
abbrev S1024x384 : Shape := ⟨2, ![1024, 384]⟩

abbrev nBuf : Space → Nat
  | .hbm => 22
  | .vmem => 7
  | .smem => 0
  | _ => 0

abbrev bufTy : (tb : Table) → Fin (tcTables nBuf tb) → BufTy
  | .hbm, ⟨0, _⟩ => ⟨S2x16384x2048, .f32⟩
  | .hbm, ⟨1, _⟩ => ⟨S2048x7552, .f32⟩
  | .hbm, ⟨2, _⟩ => ⟨S768, .f32⟩
  | .hbm, ⟨3, _⟩ => ⟨S32768x2048, .f32⟩
  | .hbm, ⟨4, _⟩ => ⟨S32768x2048, .bf16⟩
  | .hbm, ⟨5, _⟩ => ⟨S_, .f32⟩
  | .hbm, ⟨6, _⟩ => ⟨S1x3072, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x640, .f32⟩
  | .hbm, ⟨14, _⟩ => ⟨S_, .f32⟩
  | .hbm, ⟨15, _⟩ => ⟨S1x3840, .f32⟩
  | .hbm, ⟨16, _⟩ => ⟨S1x7552, .f32⟩
  | .hbm, ⟨17, _⟩ => ⟨S2048x7552, .f32⟩
  | .hbm, ⟨18, _⟩ => ⟨S2048x7552, .f32⟩
  | .hbm, ⟨19, _⟩ => ⟨S2048x7552, .bf16⟩
  | .hbm, ⟨20, _⟩ => ⟨S1x768, .f32⟩
  | .hbm, ⟨21, _⟩ => ⟨S60x32768x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2560, .bf16⟩
  | .local _ .vmem, ⟨3, _⟩ => ⟨S2048x2560, .bf16⟩
  | .local _ .vmem, ⟨4, _⟩ => ⟨S1x768, .f32⟩
  | .local _ .vmem, ⟨5, _⟩ => ⟨S20x1024x128, .bf16⟩
  | .local _ .vmem, ⟨6, _⟩ => ⟨S20x1024x128, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg1 c20_i32
  let c1_i32 : BitVec 32 := 1#32
  let v1 : BitVec 1 := Scalar.cmpi .sgt arg1 c1_i32
  let c1_i32_0 : BitVec 32 := 1#32
  let c0_i32 : BitVec 32 := 0#32
  let v2 : BitVec 32 := Scalar.select v1 c1_i32_0 c0_i32
  let v3 : BitVec 32 := Scalar.subi v0 v2
  let c128_i32 : BitVec 32 := 128#32
  let v4 : BitVec 32 := Scalar.muli v3 c128_i32
  let c0_i32_1 : BitVec 32 := 0#32
  let c0_i32_2 : BitVec 32 := 0#32
  ![c0_i32_1.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S20x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojSecondReferenceIdeal.lean ====
abbrev S2x16384x2048 : Shape := ⟨3, ![2, 16384, 2048]⟩
abbrev S2048x7552 : Shape := ⟨2, ![2048, 7552]⟩
abbrev S768 : Shape := ⟨1, ![768]⟩
abbrev S2x16384x7552 : Shape := ⟨3, ![2, 16384, 7552]⟩
abbrev S2x16384x768 : Shape := ⟨3, ![2, 16384, 768]⟩
abbrev S2x16384x640 : Shape := ⟨3, ![2, 16384, 640]⟩
abbrev S2x16384x320 : Shape := ⟨3, ![2, 16384, 320]⟩
abbrev S_ : Shape := ⟨0, ![]⟩
abbrev S1x1x768 : Shape := ⟨3, ![1, 1, 768]⟩
abbrev S2x16384x128 : Shape := ⟨3, ![2, 16384, 128]⟩
abbrev S2x16384x7680 : Shape := ⟨3, ![2, 16384, 7680]⟩
abbrev S32768x60x128 : Shape := ⟨3, ![32768, 60, 128]⟩
abbrev S60x32768x128 : Shape := ⟨3, ![60, 32768, 128]⟩

abbrev nBuf : Space → Nat
  | .hbm => 81
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x7552, .f32⟩
  | .hbm, ⟨2, _⟩ => ⟨S768, .f32⟩
  | .hbm, ⟨3, _⟩ => ⟨S2x16384x7552, .f32⟩
  | .hbm, ⟨4, _⟩ => ⟨S2x16384x768, .f32⟩
  | .hbm, ⟨5, _⟩ => ⟨S2x16384x768, .f32⟩
  | .hbm, ⟨6, _⟩ => ⟨S2x16384x768, .f32⟩
  | .hbm, ⟨7, _⟩ => ⟨S2x16384x768, .f32⟩
  | .hbm, ⟨8, _⟩ => ⟨S2x16384x640, .f32⟩
  | .hbm, ⟨9, _⟩ => ⟨S2x16384x640, .f32⟩
  | .hbm, ⟨10, _⟩ => ⟨S2x16384x640, .f32⟩
  | .hbm, ⟨11, _⟩ => ⟨S2x16384x640, .f32⟩
  | .hbm, ⟨12, _⟩ => ⟨S2x16384x320, .f32⟩
  | .hbm, ⟨13, _⟩ => ⟨S2x16384x320, .f32⟩
  | .hbm, ⟨14, _⟩ => ⟨S2x16384x640, .f32⟩
  | .hbm, ⟨15, _⟩ => ⟨S2x16384x640, .f32⟩
  | .hbm, ⟨16, _⟩ => ⟨S_, .f32⟩
  | .hbm, ⟨17, _⟩ => ⟨S768, .f32⟩
  | .hbm, ⟨18, _⟩ => ⟨S768, .f32⟩
  | .hbm, ⟨19, _⟩ => ⟨S2x16384x768, .f32⟩
  | .hbm, ⟨20, _⟩ => ⟨S2x16384x768, .f32⟩
  | .hbm, ⟨21, _⟩ => ⟨S2x16384x768, .f32⟩
  | .hbm, ⟨22, _⟩ => ⟨S_, .f32⟩
  | .hbm, ⟨23, _⟩ => ⟨S2x16384x768, .f32⟩
  | .hbm, ⟨24, _⟩ => ⟨S2x16384x768, .f32⟩
  | .hbm, ⟨25, _⟩ => ⟨S_, .f32⟩
  | .hbm, ⟨26, _⟩ => ⟨S2x16384x768, .f32⟩
  | .hbm, ⟨27, _⟩ => ⟨S2x16384x768, .f32⟩
  | .hbm, ⟨28, _⟩ => ⟨S1x1x768, .f32⟩
  | .hbm, ⟨29, _⟩ => ⟨S2x16384x768, .f32⟩
  | .hbm, ⟨30, _⟩ => ⟨S2x16384x768, .f32⟩
  | .hbm, ⟨31, _⟩ => ⟨S_, .f32⟩
  | .hbm, ⟨32, _⟩ => ⟨S2x16384x128, .f32⟩
  | .hbm, ⟨33, _⟩ => ⟨S2x16384x768, .f32⟩
  | .hbm, ⟨34, _⟩ => ⟨S2x16384x768, .f32⟩
  | .hbm, ⟨35, _⟩ => ⟨S_, .f32⟩
  | .hbm, ⟨36, _⟩ => ⟨S2x16384x768, .f32⟩
  | .hbm, ⟨37, _⟩ => ⟨S2x16384x768, .f32⟩
  | .hbm, ⟨38, _⟩ => ⟨S_, .f32⟩
  | .hbm, ⟨39, _⟩ => ⟨S2x16384x768, .f32⟩
  | .hbm, ⟨40, _⟩ => ⟨S2x16384x768, .f32⟩
  | .hbm, ⟨41, _⟩ => ⟨S2x16384x768, .f32⟩
  | .hbm, ⟨42, _⟩ => ⟨S2x16384x768, .f32⟩
  | .hbm, ⟨43, _⟩ => ⟨S2x16384x768, .f32⟩
  | .hbm, ⟨44, _⟩ => ⟨S_, .f32⟩
  | .hbm, ⟨45, _⟩ => ⟨S2x16384x768, .f32⟩
  | .hbm, ⟨46, _⟩ => ⟨S2x16384x768, .f32⟩
  | .hbm, ⟨47, _⟩ => ⟨S_, .f32⟩
  | .hbm, ⟨48, _⟩ => ⟨S2x16384x768, .f32⟩
  | .hbm, ⟨49, _⟩ => ⟨S2x16384x768, .f32⟩
  | .hbm, ⟨50, _⟩ => ⟨S2x16384x768, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2x16384x640, .f32⟩
  | .hbm, ⟨58, _⟩ => ⟨S2x16384x640, .f32⟩
  | .hbm, ⟨59, _⟩ => ⟨S2x16384x640, .f32⟩
  | .hbm, ⟨60, _⟩ => ⟨S2x16384x640, .f32⟩
  | .hbm, ⟨61, _⟩ => ⟨S_, .f32⟩
  | .hbm, ⟨62, _⟩ => ⟨S2x16384x640, .f32⟩
  | .hbm, ⟨63, _⟩ => ⟨S2x16384x640, .f32⟩
  | .hbm, ⟨64, _⟩ => ⟨S_, .f32⟩
  | .hbm, ⟨65, _⟩ => ⟨S2x16384x640, .f32⟩
  | .hbm, ⟨66, _⟩ => ⟨S2x16384x640, .f32⟩
  | .hbm, ⟨67, _⟩ => ⟨S2x16384x640, .f32⟩
  | .hbm, ⟨68, _⟩ => ⟨S2x16384x640, .f32⟩
  | .hbm, ⟨69, _⟩ => ⟨S2x16384x640, .f32⟩
  | .hbm, ⟨70, _⟩ => ⟨S_, .f32⟩
  | .hbm, ⟨71, _⟩ => ⟨S2x16384x640, .f32⟩
  | .hbm, ⟨72, _⟩ => ⟨S2x16384x640, .f32⟩
  | .hbm, ⟨73, _⟩ => ⟨S_, .f32⟩
  | .hbm, ⟨74, _⟩ => ⟨S2x16384x640, .f32⟩
  | .hbm, ⟨75, _⟩ => ⟨S2x16384x640, .f32⟩
  | .hbm, ⟨76, _⟩ => ⟨S2x16384x640, .f32⟩
  | .hbm, ⟨77, _⟩ => ⟨S2x16384x7680, .f32⟩
  | .hbm, ⟨78, _⟩ => ⟨S32768x60x128, .f32⟩
  | .hbm, ⟨79, _⟩ => ⟨S60x32768x128, .f32⟩
  | .hbm, ⟨80, _⟩ => ⟨S60x32768x128, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v26 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v33 : Ref sig .tc := ⟨.hbm, 67, rfl⟩
abbrev main_call3_v0 : Ref sig .tc := ⟨.hbm, 68, rfl⟩
abbrev main_call3_v1 : Ref sig .tc := ⟨.hbm, 69, rfl⟩
abbrev main_call3_cst : Ref sig .tc := ⟨.hbm, 70, rfl⟩
abbrev main_call3_v2 : Ref sig .tc := ⟨.hbm, 71, rfl⟩
abbrev main_call3_v3 : Ref sig .tc := ⟨.hbm, 72, rfl⟩
abbrev main_call3_cst_0 : Ref sig .tc := ⟨.hbm, 73, rfl⟩
abbrev main_call3_v4 : Ref sig .tc := ⟨.hbm, 74, rfl⟩
abbrev main_call3_v5 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩

abbrev nD : Nat := 1
abbrev τ : Topo := Topo.v7x

variable {F : FTy → Type} [FloatOps F]
-- ==== Proof.AttnMath.lean ====
/- The arithmetic of one row of softmax attention on the extended reals, free of any program.

   `kernelRow` is the row as the kernel computes it: scores already in base 2, a weighted sum divided once at the end.
   `softRow` is the textbook row: every exponential divided by their sum first, then the weighted sum of the values.
   `kernelRow_eq_softRow` equates the two where the kernel's scores are the textbook's times `1 / log 2` on the keys
   the textbook row has, and −∞ on every further key. -/
module

public import Idealize.ShloMosaic.PureOps.Ideal.Laws
public import Mathlib.Data.EReal.Operations
public import Mathlib.Analysis.SpecialFunctions.Pow.Real

@[expose] public section

noncomputable section

namespace Cert.Attn

open Idealize.ShloMosaic

variable {ι κ : Type} [Fintype ι] [Fintype κ]

/-- One output entry of a row as the kernel computes it, from base-2 scores `s` and values `v`. -/
def kernelRow (s v : ι → EReal) : EReal :=
  Ideal.div (∑ i, Ideal.exp2 (s i - ⨆ j, s j) * v i) (∑ i, Ideal.exp2 (s i - ⨆ j, s j) * 1)

/-- One output entry of a softmax row: the normalised exponentials of the scores `s` against the values `v`. -/
def softRow (s v : κ → EReal) : EReal :=
  ∑ k, Ideal.div (Ideal.exp (s k - ⨆ j, s j)) (∑ j, Ideal.exp (s j - ⨆ l, s l)) * v k

/-- A real factor moves through a finite sum when it is nonnegative. -/
theorem sum_mul_coe (f : κ → EReal) {c : ℝ} (hc : 0 ≤ c) : (∑ k, f k) * (c : EReal) = ∑ k, f k * (c : EReal) := by
  classical
  have h : ∀ S : Finset κ, (∑ k ∈ S, f k) * (c : EReal) = ∑ k ∈ S, f k * (c : EReal) := fun S => by
    induction S using Finset.induction_on with
    | empty => simp
    | insert a S ha ih =>
      rw [Finset.sum_insert ha, Finset.sum_insert ha,
        EReal.right_distrib_of_nonneg_of_ne_top (by exact_mod_cast hc) (EReal.coe_ne_top c), ih]
  exact h _

/-- The supremum of finitely many scores is one of them. -/
theorem exists_eq_iSup [Nonempty κ] (s : κ → EReal) : ∃ k, s k = ⨆ j, s j := by
  obtain ⟨k, hk⟩ := Finite.exists_max s
  exact ⟨k, le_antisymm (le_iSup s k) (iSup_le hk)⟩

/-- `2` to the power `x / log 2` is `exp x`, at every extended real but `+∞`. -/
theorem exp2_mul {L : ℝ} (hL : L = 1 / Real.log 2) (r : ℝ) : Ideal.exp2 ((L * r : ℝ) : EReal) = Ideal.exp (r : EReal) := by
  rw [Ideal.exp2_coe, Ideal.exp_coe, hL]
  congr 1
  show (2 : ℝ) ^ (1 / Real.log 2 * r) = Real.exp r
  have h2 : Real.log 2 ≠ 0 := (Real.log_pos (by norm_num)).ne'
  rw [Real.rpow_def_of_pos (by norm_num)]
  congr 1
  field_simp

/-- The kernel's row is the softmax row. The embedding `e` places the softmax row's keys among the kernel's; on them the
    kernel's score is the softmax score over `log 2`, on every other key it is −∞; where a softmax score is not −∞ the two
    rows have the same value vector; no softmax score is `+∞` and one of them is not −∞. -/
theorem kernelRow_eq_softRow {L : ℝ} (hL : L = 1 / Real.log 2) (e : κ → ι) (he : Function.Injective e)
    (sk vk : ι → EReal) (s v : κ → EReal)
    (hin : ∀ k, sk (e k) = (L : EReal) * s k) (hout : ∀ i, i ∉ Set.range e → sk i = ⊥)
    (hv : ∀ k, s k ≠ ⊥ → vk (e k) = v k) (htop : ∀ k, s k ≠ ⊤) (hex : ∃ k, s k ≠ ⊥) :
    kernelRow sk vk = softRow s v := by
  classical
  have hLpos : 0 < L := by rw [hL]; exact one_div_pos.mpr (Real.log_pos (by norm_num))
  obtain ⟨k₀, hk₀⟩ := hex
  haveI : Nonempty κ := ⟨k₀⟩
  obtain ⟨k₁, hk₁⟩ := exists_eq_iSup s
  have hMbot : (⨆ j, s j) ≠ ⊥ := fun h => hk₀ (le_bot_iff.mp (h ▸ le_iSup s k₀))
  obtain ⟨M, hM⟩ : ∃ M : ℝ, (⨆ j, s j) = (M : EReal) := by
    have h1 := htop k₁
    rw [hk₁] at h1
    exact ⟨_, (EReal.coe_toReal h1 hMbot).symm⟩
  have hcase : ∀ k, s k = ⊥ ∨ ∃ r : ℝ, s k = (r : EReal) := fun k => by
    by_cases h : s k = ⊥
    · exact .inl h
    · exact .inr ⟨_, (EReal.coe_toReal (htop k) h).symm⟩
  have hMk : (⨆ j, sk j) = ((L * M : ℝ) : EReal) := by
    apply le_antisymm
    · refine iSup_le fun i => ?_
      by_cases hi : i ∈ Set.range e
      · obtain ⟨k, rfl⟩ := hi
        rw [hin, EReal.coe_mul, ← hM]
        exact mul_le_mul_of_nonneg_left (le_iSup s k) (by exact_mod_cast hLpos.le)
      · rw [hout i hi]; exact bot_le
    · rw [EReal.coe_mul, ← hM, ← hk₁, ← hin]
      exact le_iSup sk (e k₁)
  have hp : ∀ k, Ideal.exp2 (sk (e k) - ((L * M : ℝ) : EReal)) = Ideal.exp (s k - (M : EReal)) := fun k => by
    rw [hin]
    rcases hcase k with h | ⟨r, h⟩
    · rw [h, EReal.coe_mul_bot_of_pos hLpos]; simp
    · rw [h, ← EReal.coe_mul, ← EReal.coe_sub, ← EReal.coe_sub, ← mul_sub, exp2_mul hL]
  have hpout : ∀ i, i ∉ Set.range e → Ideal.exp2 (sk i - ((L * M : ℝ) : EReal)) = 0 := fun i hi => by
    rw [hout i hi]; simp
  have hsum : ∀ w : ι → EReal, (∑ i, Ideal.exp2 (sk i - ((L * M : ℝ) : EReal)) * w i)
      = ∑ k, Ideal.exp (s k - (M : EReal)) * w (e k) := fun w => by
    have h := Finset.sum_image (s := Finset.univ) (g := e) (f := fun i => Ideal.exp2 (sk i - ((L * M : ℝ) : EReal)) * w i)
      (fun a _ b _ h => he h)
    rw [← Finset.sum_subset (Finset.subset_univ (Finset.univ.image e))
      (fun i _ hi => by rw [hpout i (by simpa using hi), zero_mul]), h]
    exact Finset.sum_congr rfl fun k _ => by rw [hp]
  have hreal : ∀ k, ∃ p : ℝ, 0 ≤ p ∧ Ideal.exp (s k - (M : EReal)) = (p : EReal) := fun k => by
    rcases hcase k with h | ⟨r, h⟩
    · exact ⟨0, le_rfl, by rw [h]; simp⟩
    · exact ⟨Real.exp (r - M), (Real.exp_pos _).le, by rw [h, ← EReal.coe_sub, Ideal.exp_coe]⟩
  choose p hp0 hpe using hreal
  have hp1 : p k₁ = 1 := by
    have h := hpe k₁
    rw [hk₁, hM, ← EReal.coe_sub, sub_self, Ideal.exp_coe, Real.exp_zero] at h
    exact_mod_cast h.symm
  have hden : (∑ k, Ideal.exp (s k - (M : EReal))) = ((∑ k, p k : ℝ) : EReal) := by
    simp only [hpe]
    exact (map_sum (⟨⟨fun r : ℝ => (r : EReal), rfl⟩, EReal.coe_add⟩ : ℝ →+ EReal) p Finset.univ).symm
  have hpos : 0 < ∑ k, p k := lt_of_lt_of_le one_pos (hp1 ▸ Finset.single_le_sum (fun k _ => hp0 k) (Finset.mem_univ k₁))
  unfold kernelRow softRow
  rw [hMk, hsum, hsum, hM]
  simp only [mul_one]
  rw [hden, Ideal.div_coe hpos.ne', sum_mul_coe _ (by positivity)]
  refine Finset.sum_congr rfl fun k _ => ?_
  rw [Ideal.div_coe hpos.ne']
  by_cases h : s k = ⊥
  · rw [h]; simp
  · rw [hv k h, mul_right_comm]

end Cert.Attn

end
-- ==== Proof.BandHead.lean ====
/- What the kernel's body computes for one head and one block of 256 queries: the value it stores, as the printed operations
   on the blocks it loads (`head`), and that value at a query row and a feature (`head_apply`): one `Attn.kernelRow` over the
   3 · 256 keys of the window, times the gate. -/
module

public import proofs.«01_k».proof.Proof.Gen.KernelIdeal.Skeleton
public import proofs.«01_k».proof.Proof.AttnMath
public import Idealize.ShloMosaic.Lib.Pointwise

@[expose] public section

set_option maxRecDepth 16384

noncomputable section

namespace Cert.KernelIdeal.Band

open Cert.KernelIdeal Cert.KernelIdeal.Gen Idealize.ShloMosaic Idealize.ShloMosaic.TcCoe

/-- One head's block as loaded: 256 rows of 128 features under a leading unit axis. -/
abbrev Rows := Vec Ideal S1x256x128 .bf16
/-- One block of the bias table as loaded: 256 queries by 256 keys under two leading unit axes. -/
abbrev Bias := Vec Ideal S1x1x256x256 .f32

/-- The rows without the unit axis. -/
def flat (x : Rows) : FVec Ideal S256x128 .bf16 := shapeCast S256x128 x shapeCasts_S1x256x128_S256x128

/-- The base-2 scores of a block of queries against one block of keys: the products of rows, plus the bias. -/
def score (q k : Rows) (b : Bias) : FVec Ideal S256x256 .f32 :=
  addf (matmul dot_S256x128_S256x128_S256x256_1_1_0_0_n_n none
      (flat q) (flat k) (constant (F := Ideal) S256x256 .f32 0x00000000#32))
    (shapeCast S256x256 b shapeCasts_S1x1x256x256_S256x256)

/-- The largest score of each query over the three key blocks, as a column. -/
def rowMax (s0 s1 s2 : FVec Ideal S256x256 .f32) : FVec Ideal S256x1 .f32 :=
  shapeCast S256x1 (multiReduction .maximumf [1] S256 (maximumf (maximumf s0 s1) s2) 0xFF800000#32 reduces_S256x256_S256
    (.inl rfl) rfl) shapeCasts_S256_S256x1

/-- The unnormalised weights of one key block. -/
def weights (s : FVec Ideal S256x256 .f32) (mx : FVec Ideal S256x1 .f32) : FVec Ideal S256x256 .bf16 :=
  truncf .bf16 (exp2 (subf s (broadcastTo S256x256 mx broadcasts_S256x1_S256x256))) bitsLt_bf16_f32

/-- What the body stores for one head and one block of queries, from the queries, the three blocks of keys, of values and of
    the bias, and the gate. -/
def head (q k0 k1 k2 v0 v1 v2 g : Rows) (b0 b1 b2 : Bias) : FVec Ideal S256x128 .bf16 :=
  let s0 := score q k0 b0
  let s1 := score q k1 b1
  let s2 := score q k2 b2
  let mx := rowMax s0 s1 s2
  let p := concatenate S256x768 1 [⟨S256x256, weights s0 mx⟩, ⟨S256x256, weights s1 mx⟩, ⟨S256x256, weights s2 mx⟩]
    concatenates_S256x256_S256x256_S256x256_S256x768_d1
  let v := concatenate S768x128 0 [⟨S256x128, flat v0⟩,
    ⟨S256x128, flat v1⟩,
    ⟨S256x128, flat v2⟩] concatenates_S256x128_S256x128_S256x128_S768x128_d0
  let w := concatenate S768x256 1 [⟨S768x128, v⟩,
    ⟨S768x128, broadcast S768x128 (Scalar.ofBits (F := Ideal) .bf16 0x3F80#16)⟩] concatenates_S768x128_S768x128_S768x256_d1
  let o := matmul dot_S256x768_S768x256_S256x256_1_0_0_1_n_n none p w (constant (F := Ideal) S256x256 .f32 0x00000000#32)
  mulf (truncf .bf16 (divf (extractStridedSlice S256x128 ![0, 0] o slices_S256x256_o0_0_S256x128)
      (extractStridedSlice S256x128 ![0, 128] o slices_S256x256_o0_128_S256x128)) bitsLt_bf16_f32)
    (flat g)

theorem flat_apply (x : Rows) (r : Fin 256) (d : Fin 128) : flat x (ix2 r d) = x (ix3 0 r d) := by
  pointwise [flat]

theorem score_apply (q k : Rows) (b : Bias) (r c : Fin 256) :
    score q k b (ix2 r c) = (∑ e : Fin 128, q (ix3 0 r e) * k (ix3 0 c e)) + b (ix4 0 0 r c) := by
  pointwise [score, flat]

/-- The word of −∞ is −∞. -/
theorem ofBits_negInf : Ideal.ofBits .f32 0xFF800000#32 = (⊥ : EReal) := by
  simp [Ideal.ofBits]; decide

/-- A maximum accumulated from −∞ is a supremum. -/
theorem fold_max_eq_iSup {n : ℕ} (f : Fin n → EReal) : Finset.univ.fold max (⊥ : EReal) f = ⨆ k, f k := by
  rw [← Finset.sup_univ_eq_iSup]
  rfl

theorem iSup_three (f : Fin 3 → EReal) : (⨆ j, f j) = max (max (f 0) (f 1)) (f 2) := by
  apply le_antisymm
  · refine iSup_le fun j => ?_
    fin_cases j
    · exact le_max_of_le_left (le_max_left _ _)
    · exact le_max_of_le_left (le_max_right _ _)
    · exact le_max_right _ _
  · exact max_le (max_le (le_iSup f 0) (le_iSup f 1)) (le_iSup f 2)

/-- A sum over the 768 keys of a window, block by block. -/
theorem sum_window (f : Fin 768 → EReal) :
    (∑ x, f x) = ∑ i : Fin 3 × Fin 256, f ⟨i.2.val + 256 * i.1.val, by omega⟩ :=
  ((finProdFinEquiv : Fin 3 × Fin 256 ≃ Fin (3 * 256)).sum_comp f).symm

theorem rowMax_apply (s0 s1 s2 : FVec Ideal S256x256 .f32) (r : Fin 256) :
    rowMax s0 s1 s2 (ix2 r 0) = ⨆ i : Fin 3 × Fin 256, (![s0, s1, s2] i.1) (ix2 r i.2) := by
  pointwise [rowMax]
  rw [ofBits_negInf, fold_max_eq_iSup, iSup_prod]
  simp only [iSup_sup_eq, iSup_three]
  rfl

theorem weights_apply (s : FVec Ideal S256x256 .f32) (mx : FVec Ideal S256x1 .f32) (r c : Fin 256) :
    weights s mx (ix2 r c) = Ideal.exp2 (s (ix2 r c) - mx (ix2 r 0)) := by
  pointwise [weights]
  rfl

theorem head_apply (q k0 k1 k2 v0 v1 v2 g : Rows) (b0 b1 b2 : Bias) (r : Fin 256) (d : Fin 128) :
    head q k0 k1 k2 v0 v1 v2 g b0 b1 b2 (ix2 r d) =
      Attn.kernelRow (fun i : Fin 3 × Fin 256 => (∑ e : Fin 128, q (ix3 0 r e) * (![k0, k1, k2] i.1) (ix3 0 i.2 e))
          + (![b0, b1, b2] i.1) (ix4 0 0 r i.2))
        (fun i => (![v0, v1, v2] i.1) (ix3 0 i.2 d)) * g (ix3 0 r d) := by
  have hs : ∀ (i : Fin 3 × Fin 256), (![score q k0 b0, score q k1 b1, score q k2 b2] i.1) (ix2 r i.2)
      = (∑ e : Fin 128, q (ix3 0 r e) * (![k0, k1, k2] i.1) (ix3 0 i.2 e)) + (![b0, b1, b2] i.1) (ix4 0 0 r i.2) := by
    rintro ⟨j, c⟩
    fin_cases j <;> exact score_apply ..
  unfold head Attn.kernelRow
  pointwise
  rw [flat_apply, sum_window, sum_window]
  congr 2
  · refine Finset.sum_congr rfl ?_
    rintro ⟨j, c⟩ -
    have h2 : ¬ c.val + 512 < 256 := by omega
    fin_cases j <;> simp [weights_apply, rowMax_apply, hs, flat_apply, score_apply, h2]
  · refine Finset.sum_congr rfl ?_
    rintro ⟨j, c⟩ -
    have h2 : ¬ c.val + 512 < 256 := by omega
    fin_cases j <;> simp [weights_apply, rowMax_apply, hs, flat_apply, score_apply, h2]

end Cert.KernelIdeal.Band

end
-- ==== Proof.BandBlock.lean ====
/- What the kernel's body leaves in its output block at every grid point: at query row `256 u + r` and column `128 h + d`
   the value `blockVal` of the blocks it read. Both cases of the body (the first point of a batch element clears the other
   mixer's state, the others do not) leave the same. -/
module

public import proofs.«01_k».proof.Proof.Gen.KernelIdeal.Frame
public import proofs.«01_k».proof.Proof.BandHead
public import Idealize.ShloMosaic.Lib.Pipeline.Value
public import Idealize.ShloMosaic.Lib.Pipeline.ReadBack

@[expose] public section

set_option maxRecDepth 16384

noncomputable section

namespace Cert.KernelIdeal.Band

open Cert.KernelIdeal Cert.KernelIdeal.Gen Idealize.ShloMosaic Idealize.ShloMosaic.TcCoe Idealize.SL.Sem
open Idealize.ShloMosaic.Pipeline (Dat)

/-- The half `u` of head `h` in a block of 512 rows. -/
def rows512 (x : Vec Ideal S5x512x128 .bf16) (h : Fin 5) (u : Fin 2) : Rows :=
  fun y => x (ix3 h ⟨256 * u.val + (y 1).val, by have := (y 1).isLt; change (y 1).val < 256 at this; omega⟩ (y 2))

/-- Head `h` in a block of 256 rows. -/
def rows256 (x : Vec Ideal S5x256x128 .bf16) (h : Fin 5) : Rows := fun y => x (ix3 h (y 1) (y 2))

/-- Head `h`'s bias against key block `j`. -/
def bias256 (x : Vec Ideal S1x5x256x768 .f32) (h : Fin 5) (j : Fin 3) : Bias :=
  fun y => x (ix4 0 h (y 2) ⟨256 * j.val + (y 3).val, by have := (y 3).isLt; change (y 3).val < 256 at this; omega⟩)

theorem inb256 (h : Fin 5) : ∀ a, (![h.val, 0, 0] : Fin 3 → ℕ) a + S1x256x128.size a ≤ S5x256x128.size a := by
  fin_cases h <;> decide

theorem inb512 (h : Fin 5) (u : Fin 2) :
    ∀ a, (![h.val, 256 * u.val, 0] : Fin 3 → ℕ) a + S1x256x128.size a ≤ S5x512x128.size a := by
  fin_cases h <;> fin_cases u <;> decide

theorem inbBias (h : Fin 5) (j : Fin 3) :
    ∀ a, (![0, h.val, 0, 256 * j.val] : Fin 4 → ℕ) a + S1x1x256x256.size a ≤ S1x5x256x768.size a := by
  fin_cases h <;> fin_cases j <;> decide

theorem inbOut (h : Fin 5) (u : Fin 2) :
    ∀ a, (![256 * u.val, 128 * h.val] : Fin 2 → ℕ) a + S256x128.size a ≤ S512x640.size a := by
  fin_cases h <;> fin_cases u <;> decide

/-- The part of the output block that head `h` of half `u` stores. -/
abbrev outRect (h : Fin 5) (u : Fin 2) : Rect S512x640 :=
  Rect.unit (s := S512x640) ![256 * u.val, 128 * h.val] S256x128.size (inbOut h u)

/-- A load of head `h` from a block of 256 rows. -/
abbrev ld256 (x : Vec Ideal S5x256x128 .bf16) (h : Fin 5) : Rows := View.ld x (Rect.unit ![h.val, 0, 0] S1x256x128.size (inb256 h))
/-- A load of half `u` of head `h` from a block of 512 rows. -/
abbrev ld512 (x : Vec Ideal S5x512x128 .bf16) (h : Fin 5) (u : Fin 2) : Rows :=
  View.ld x (Rect.unit ![h.val, 256 * u.val, 0] S1x256x128.size (inb512 h u))
/-- A load of head `h`'s bias against key block `j`. -/
abbrev ldBias (x : Vec Ideal S1x5x256x768 .f32) (h : Fin 5) (j : Fin 3) : Bias :=
  View.ld x (Rect.unit ![0, h.val, 0, 256 * j.val] S1x1x256x256.size (inbBias h j))

theorem ld256_eq (x : Vec Ideal S5x256x128 .bf16) (h : Fin 5) : ld256 x h = rows256 x h := by
  funext y
  idx_vars y
  unfold ld256
  pointwise [rows256]

theorem ld512_eq (x : Vec Ideal S5x512x128 .bf16) (h : Fin 5) (u : Fin 2) : ld512 x h u = rows512 x h u := by
  funext y
  idx_vars y
  unfold ld512
  pointwise [rows512]

theorem ldBias_eq (x : Vec Ideal S1x5x256x768 .f32) (h : Fin 5) (j : Fin 3) : ldBias x h j = bias256 x h j := by
  funext y
  idx_vars y
  unfold ldBias
  pointwise [bias256]

section Out

variable (x0 : Vec Ideal S5x512x128 .bf16) (x1 x2 : Vec Ideal S5x256x128 .bf16) (x3 : Vec Ideal S5x512x128 .bf16)
  (x4 x5 : Vec Ideal S5x256x128 .bf16) (x6 x7 : Vec Ideal S5x512x128 .bf16) (b0 b1 : Vec Ideal S1x5x256x768 .f32)

/-- The three blocks of 256 rows that half `u` of a point looks back on: the two before it and itself. -/
def window (p2 p1 : Vec Ideal S5x256x128 .bf16) (cur : Vec Ideal S5x512x128 .bf16) (h : Fin 5) : Fin 2 → Fin 3 → Rows
  | 0 => ![rows256 p2 h, rows256 p1 h, rows512 cur h 0]
  | 1 => ![rows256 p1 h, rows512 cur h 0, rows512 cur h 1]

/-- What the body stores for head `h` and half `u`. -/
def headOf (h : Fin 5) (u : Fin 2) : FVec Ideal S256x128 .bf16 :=
  head (rows512 x0 h u) (window x1 x2 x3 h u 0) (window x1 x2 x3 h u 1) (window x1 x2 x3 h u 2)
    (window x4 x5 x6 h u 0) (window x4 x5 x6 h u 1) (window x4 x5 x6 h u 2) (rows512 x7 h u)
    (bias256 (![b0, b1] u) h 0) (bias256 (![b0, b1] u) h 1) (bias256 (![b0, b1] u) h 2)

/-- The whole output block: each row and column from its half and head. -/
def blockOut : S512x640.Idx → EReal := fun y =>
  headOf x0 x1 x2 x3 x4 x5 x6 x7 b0 b1
    ⟨(y 1).val / 128, by have := (y 1).isLt; change (y 1).val < 640 at this; omega⟩
    ⟨(y 0).val / 256, by have := (y 0).isLt; change (y 0).val < 512 at this; omega⟩
    (ix2 ⟨(y 0).val % 256, Nat.mod_lt _ (by decide)⟩ ⟨(y 1).val % 128, Nat.mod_lt _ (by decide)⟩)

theorem blockOut_apply (h : Fin 5) (u : Fin 2) (r : Fin 256) (d : Fin 128) (hr hd) :
    blockOut x0 x1 x2 x3 x4 x5 x6 x7 b0 b1 (ix2 ⟨256 * u.val + r.val, hr⟩ ⟨128 * h.val + d.val, hd⟩)
      = headOf x0 x1 x2 x3 x4 x5 x6 x7 b0 b1 h u (ix2 r d) := by
  have e1 : (256 * u.val + r.val) / 256 = u.val := by omega
  have e2 : (256 * u.val + r.val) % 256 = r.val := by omega
  have e3 : (128 * h.val + d.val) / 128 = h.val := by omega
  have e4 : (128 * h.val + d.val) % 128 = d.val := by omega
  show headOf x0 x1 x2 x3 x4 x5 x6 x7 b0 b1 ⟨(128 * h.val + d.val) / 128, _⟩ ⟨(256 * u.val + r.val) / 256, _⟩
    (ix2 ⟨(256 * u.val + r.val) % 256, _⟩ ⟨(128 * h.val + d.val) % 128, _⟩) = _
  simp only [e1, e2, e3, e4]

theorem blockOut_emb (h : Fin 5) (u : Fin 2) (i : S256x128.Idx) :
    blockOut x0 x1 x2 x3 x4 x5 x6 x7 b0 b1 ((outRect h u).emb i)
      = headOf x0 x1 x2 x3 x4 x5 x6 x7 b0 b1 h u i := by
  idx_vars i
  rw [← blockOut_apply x0 x1 x2 x3 x4 x5 x6 x7 b0 b1 h u _ _ (by omega) (by omega)]
  congr 1
  funext a
  apply Fin.ext
  match a with
  | ⟨0, _⟩ => show 256 * u.val + 1 * _ = _; simp
  | ⟨1, _⟩ => show 128 * h.val + 1 * _ = _; simp

/-- The store of the first half, from the loads. -/
theorem store_0 (h : Fin 5) (x : S256x128.Idx) :
    head (ld512 x0 h 0) (ld256 x1 h) (ld256 x2 h) (ld512 x3 h 0) (ld256 x4 h) (ld256 x5 h) (ld512 x6 h 0) (ld512 x7 h 0)
      (ldBias b0 h 0) (ldBias b0 h 1) (ldBias b0 h 2) x
    = blockOut x0 x1 x2 x3 x4 x5 x6 x7 b0 b1
        ((outRect h 0).emb x) := by
  rw [blockOut_emb]
  simp only [ld256_eq, ld512_eq, ldBias_eq]
  rfl

/-- The store of the second half, from the loads. -/
theorem store_1 (h : Fin 5) (x : S256x128.Idx) :
    head (ld512 x0 h 1) (ld256 x2 h) (ld512 x3 h 0) (ld512 x3 h 1) (ld256 x5 h) (ld512 x6 h 0) (ld512 x6 h 1) (ld512 x7 h 1)
      (ldBias b1 h 0) (ldBias b1 h 1) (ldBias b1 h 2) x
    = blockOut x0 x1 x2 x3 x4 x5 x6 x7 b0 b1
        ((outRect h 1).emb x) := by
  rw [blockOut_emb]
  simp only [ld256_eq, ld512_eq, ldBias_eq]
  rfl

end Out

variable (m : (ℓ : Loc nD τ sig) → Buf (Elt Ideal) ℓ)

/-- The output block of point `t`, from the blocks of the arrays it read. -/
abbrev pointOut (c : Dev nD) (t : Fin cfg0.N) : S512x640.Idx → EReal :=
  blockOut (iblk m c 0 t) (iblk m c 1 t) (iblk m c 2 t) (iblk m c 3 t) (iblk m c 4 t) (iblk m c 5 t) (iblk m c 6 t)
    (iblk m c 7 t) (iblk m c 8 t) (iblk m c 9 t)

theorem outs_A (c : Dev nD) (t : Fin cfg0.N) (h0 : t.val % 32 = 0) : (outsAt0 m c t.val t.isLt).1 = pointOut m c t := by
  rw [outsAt0_A m c t h0]
  dsimp only
  unfold out0_A_20
  rw [View.read_writes_eq_canon _ _ _ (fun y => cover0_A_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  funext y
  refine View.canon_apply_of_pieces (Val := Elt Ideal) (pointOut m c t) _ (View.PiecesOf.mem ?_) y (cover0_A_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread]
  refine ⟨fun x => ?_, fun x => ?_, fun x => ?_, fun x => ?_, fun x => ?_, fun x => ?_, fun x => ?_, fun x => ?_,
    fun x => ?_, fun x => ?_, trivial⟩
  · exact store_1 (iblk m c 0 t) (iblk m c 1 t) (iblk m c 2 t) (iblk m c 3 t) (iblk m c 4 t) (iblk m c 5 t) (iblk m c 6 t) (iblk m c 7 t) (iblk m c 8 t) (iblk m c 9 t) 4 x
  · exact store_1 (iblk m c 0 t) (iblk m c 1 t) (iblk m c 2 t) (iblk m c 3 t) (iblk m c 4 t) (iblk m c 5 t) (iblk m c 6 t) (iblk m c 7 t) (iblk m c 8 t) (iblk m c 9 t) 3 x
  · exact store_1 (iblk m c 0 t) (iblk m c 1 t) (iblk m c 2 t) (iblk m c 3 t) (iblk m c 4 t) (iblk m c 5 t) (iblk m c 6 t) (iblk m c 7 t) (iblk m c 8 t) (iblk m c 9 t) 2 x
  · exact store_1 (iblk m c 0 t) (iblk m c 1 t) (iblk m c 2 t) (iblk m c 3 t) (iblk m c 4 t) (iblk m c 5 t) (iblk m c 6 t) (iblk m c 7 t) (iblk m c 8 t) (iblk m c 9 t) 1 x
  · exact store_1 (iblk m c 0 t) (iblk m c 1 t) (iblk m c 2 t) (iblk m c 3 t) (iblk m c 4 t) (iblk m c 5 t) (iblk m c 6 t) (iblk m c 7 t) (iblk m c 8 t) (iblk m c 9 t) 0 x
  · exact store_0 (iblk m c 0 t) (iblk m c 1 t) (iblk m c 2 t) (iblk m c 3 t) (iblk m c 4 t) (iblk m c 5 t) (iblk m c 6 t) (iblk m c 7 t) (iblk m c 8 t) (iblk m c 9 t) 4 x
  · exact store_0 (iblk m c 0 t) (iblk m c 1 t) (iblk m c 2 t) (iblk m c 3 t) (iblk m c 4 t) (iblk m c 5 t) (iblk m c 6 t) (iblk m c 7 t) (iblk m c 8 t) (iblk m c 9 t) 3 x
  · exact store_0 (iblk m c 0 t) (iblk m c 1 t) (iblk m c 2 t) (iblk m c 3 t) (iblk m c 4 t) (iblk m c 5 t) (iblk m c 6 t) (iblk m c 7 t) (iblk m c 8 t) (iblk m c 9 t) 2 x
  · exact store_0 (iblk m c 0 t) (iblk m c 1 t) (iblk m c 2 t) (iblk m c 3 t) (iblk m c 4 t) (iblk m c 5 t) (iblk m c 6 t) (iblk m c 7 t) (iblk m c 8 t) (iblk m c 9 t) 1 x
  · exact store_0 (iblk m c 0 t) (iblk m c 1 t) (iblk m c 2 t) (iblk m c 3 t) (iblk m c 4 t) (iblk m c 5 t) (iblk m c 6 t) (iblk m c 7 t) (iblk m c 8 t) (iblk m c 9 t) 0 x

theorem outs_B (c : Dev nD) (t : Fin cfg0.N) (h0 : ¬t.val % 32 = 0) : (outsAt0 m c t.val t.isLt).1 = pointOut m c t := by
  rw [outsAt0_B m c t h0]
  dsimp only
  unfold out0_B_20
  rw [View.read_writes_eq_canon _ _ _ (fun y => cover0_B_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  funext y
  refine View.canon_apply_of_pieces (Val := Elt Ideal) (pointOut m c t) _ (View.PiecesOf.mem ?_) y (cover0_B_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread]
  refine ⟨fun x => ?_, fun x => ?_, fun x => ?_, fun x => ?_, fun x => ?_, fun x => ?_, fun x => ?_, fun x => ?_,
    fun x => ?_, fun x => ?_, trivial⟩
  · exact store_1 (iblk m c 0 t) (iblk m c 1 t) (iblk m c 2 t) (iblk m c 3 t) (iblk m c 4 t) (iblk m c 5 t) (iblk m c 6 t) (iblk m c 7 t) (iblk m c 8 t) (iblk m c 9 t) 4 x
  · exact store_1 (iblk m c 0 t) (iblk m c 1 t) (iblk m c 2 t) (iblk m c 3 t) (iblk m c 4 t) (iblk m c 5 t) (iblk m c 6 t) (iblk m c 7 t) (iblk m c 8 t) (iblk m c 9 t) 3 x
  · exact store_1 (iblk m c 0 t) (iblk m c 1 t) (iblk m c 2 t) (iblk m c 3 t) (iblk m c 4 t) (iblk m c 5 t) (iblk m c 6 t) (iblk m c 7 t) (iblk m c 8 t) (iblk m c 9 t) 2 x
  · exact store_1 (iblk m c 0 t) (iblk m c 1 t) (iblk m c 2 t) (iblk m c 3 t) (iblk m c 4 t) (iblk m c 5 t) (iblk m c 6 t) (iblk m c 7 t) (iblk m c 8 t) (iblk m c 9 t) 1 x
  · exact store_1 (iblk m c 0 t) (iblk m c 1 t) (iblk m c 2 t) (iblk m c 3 t) (iblk m c 4 t) (iblk m c 5 t) (iblk m c 6 t) (iblk m c 7 t) (iblk m c 8 t) (iblk m c 9 t) 0 x
  · exact store_0 (iblk m c 0 t) (iblk m c 1 t) (iblk m c 2 t) (iblk m c 3 t) (iblk m c 4 t) (iblk m c 5 t) (iblk m c 6 t) (iblk m c 7 t) (iblk m c 8 t) (iblk m c 9 t) 4 x
  · exact store_0 (iblk m c 0 t) (iblk m c 1 t) (iblk m c 2 t) (iblk m c 3 t) (iblk m c 4 t) (iblk m c 5 t) (iblk m c 6 t) (iblk m c 7 t) (iblk m c 8 t) (iblk m c 9 t) 3 x
  · exact store_0 (iblk m c 0 t) (iblk m c 1 t) (iblk m c 2 t) (iblk m c 3 t) (iblk m c 4 t) (iblk m c 5 t) (iblk m c 6 t) (iblk m c 7 t) (iblk m c 8 t) (iblk m c 9 t) 2 x
  · exact store_0 (iblk m c 0 t) (iblk m c 1 t) (iblk m c 2 t) (iblk m c 3 t) (iblk m c 4 t) (iblk m c 5 t) (iblk m c 6 t) (iblk m c 7 t) (iblk m c 8 t) (iblk m c 9 t) 1 x
  · exact store_0 (iblk m c 0 t) (iblk m c 1 t) (iblk m c 2 t) (iblk m c 3 t) (iblk m c 4 t) (iblk m c 5 t) (iblk m c 6 t) (iblk m c 7 t) (iblk m c 8 t) (iblk m c 9 t) 0 x

/-- What every point leaves in its output block. -/
theorem outs_eq (c : Dev nD) (t : Fin cfg0.N) : (outsAt0 m c t.val t.isLt).1 = pointOut m c t := by
  by_cases h0 : t.val % 32 = 0
  · exact outs_A m c t h0
  · exact outs_B m c t h0

end Cert.KernelIdeal.Band

end
-- ==== Proof.BandRun.lean ====
/- What the run leaves in the kernel's result: block `t` of the result is what grid point `t` computed, and the
   64 blocks of 512 rows make up the whole result. -/
module

public import proofs.«01_k».proof.Proof.BandBlock
public import Idealize.ShloMosaic.Lib.Pipeline.Value

@[expose] public section

set_option maxRecDepth 16384

noncomputable section

namespace Cert.KernelIdeal.Band

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Grid point `t` writes result block `t`, in full, and every point writes its block back. -/
theorem out_index : ∀ t : Fin cfg0.N, win0_20.index t 0 = t.val ∧ win0_20.index t 1 = 0 ∧ win0_20.flush t = true :=
  (by decide +kernel : ∀ t : Fin grid0.N, win0_20.index t 0 = t.val ∧ win0_20.index t 1 = 0 ∧ win0_20.flush t = true)

/-- Distinct grid points write distinct blocks. -/
theorem out_index_inj (t t' : Fin cfg0.N) (h : win0_20.index t = win0_20.index t') : t = t' := by
  have h0 := congrFun h 0
  rw [(out_index t).1, (out_index t').1] at h0
  exact Fin.ext h0

/-- Block `t` of the result after the run, read at a place of the block, is what point `t` computed there. -/
theorem result_block (c : Dev nD) (t : Fin cfg0.N) (y : S512x640.Idx) :
    (dats m 0 c).arrAt 20 cfg0.N (((cfg0.win 20).blk t).view.emb y) = pointOut m c t y := by
  have h := (dats m 0 c).read_blk_arrAt_eq_flushed 20
    (fun t t' _ _ hne => (cfg0.win 20).disjoint_blk fun h => hne (out_index_inj t t' h)) cfg0.N t t.isLt (out_index t).2.2
  have h' : (dats m 0 c).flushed 20 t = (cfg0.win 20).cut (grid0.coords t) ((outsAt0 m c t.val t.isLt).1) := by
    show (cfg0.win 20).cut (grid0.coords t) ((dats m 0 c).after 20 t) = _
    rw [after0_20]
  rw [h', outs_eq] at h
  exact congrFun h y

/-- The result after the run at row `512 t + r`, column `q`. -/
theorem result_apply (c : Dev nD) (t : Fin cfg0.N) (r : Fin 512) (q : Fin 640) (h : 512 * t.val + r.val < 32768) :
    (dats m 0 c).arrAt 20 cfg0.N (ix2 ⟨512 * t.val + r.val, h⟩ q) = pointOut m c t (ix2 r q) := by
  rw [← result_block m c t (ix2 r q)]
  congr 1
  funext a
  apply Fin.ext
  match a with
  | ⟨0, _⟩ =>
    show 512 * t.val + r.val = win0_20.index t 0 * 512 + 1 * r.val
    rw [(out_index t).1]; omega
  | ⟨1, _⟩ =>
    show q.val = win0_20.index t 1 * 640 + 1 * q.val
    rw [(out_index t).2.1]; omega

/-- After the run the result buffer holds what the grid points wrote, and the arguments are as they were. -/
theorem run : θ_run defs (onTc (τ := τ) (main (F := Ideal))) ⟨m, fun _ => 0, ρ⟩ fun r => ∀ c : Dev nD,
      r.2.mem ((c : Thread nD τ).loc main_v171_0) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1 20,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Band
-- ==== Proof.BandBlocks.lean ====
/- Which rows of the packed array and of the bias table the kernel's blocks hold at every grid point. Point `t` handles
   the `t % 32`-th block of 512 rows of batch element `t / 32`; its halves are blocks of 256 rows, numbered
   `2 (t % 32) + u` inside the batch element, and look back on the two blocks of 256 rows before them (clamped at the first,
   where the bias table masks them out). -/
module

public import proofs.«01_k».proof.Proof.BandRun

@[expose] public section

set_option maxRecDepth 16384

noncomputable section

namespace Cert.KernelIdeal.Band

open Cert.KernelIdeal Cert.KernelIdeal.Gen Idealize.ShloMosaic Idealize.ShloMosaic.TcCoe Idealize.SL.Sem

variable (m : (ℓ : Loc nD τ sig) → Buf (Elt Ideal) ℓ)

/-- The packed array as the kernel finds it: 60 slots of 128 columns, 32768 rows. -/
abbrev packed (c : Dev nD) : S60x32768x128.Idx → EReal := V m c main_v26
/-- The bias table as the kernel finds it: three variants, 5 heads, 256 query rows, 768 key columns. -/
abbrev biasTable (c : Dev nD) : S3x5x256x768.Idx → EReal := V m c main_v100

/-- The block indices of the ten windows this mixer reads. -/
theorem window_index : ∀ t : Fin cfg0.N,
    (win0_0.index t 0 = 5 ∧ win0_0.index t 1 = t.val ∧ win0_0.index t 2 = 0)
    ∧ (win0_1.index t 0 = 6 ∧ win0_1.index t 1 = 64 * (t.val / 32) + (2 * (t.val % 32) - 2) ∧ win0_1.index t 2 = 0)
    ∧ (win0_2.index t 0 = 6 ∧ win0_2.index t 1 = 64 * (t.val / 32) + (2 * (t.val % 32) - 1) ∧ win0_2.index t 2 = 0)
    ∧ (win0_3.index t 0 = 6 ∧ win0_3.index t 1 = t.val ∧ win0_3.index t 2 = 0)
    ∧ (win0_4.index t 0 = 7 ∧ win0_4.index t 1 = 64 * (t.val / 32) + (2 * (t.val % 32) - 2) ∧ win0_4.index t 2 = 0)
    ∧ (win0_5.index t 0 = 7 ∧ win0_5.index t 1 = 64 * (t.val / 32) + (2 * (t.val % 32) - 1) ∧ win0_5.index t 2 = 0)
    ∧ (win0_6.index t 0 = 7 ∧ win0_6.index t 1 = t.val ∧ win0_6.index t 2 = 0)
    ∧ (win0_7.index t 0 = 8 ∧ win0_7.index t 1 = t.val ∧ win0_7.index t 2 = 0)
    ∧ (win0_8.index t 0 = min (2 * (t.val % 32)) 2 ∧ win0_8.index t 1 = 0 ∧ win0_8.index t 2 = 0 ∧ win0_8.index t 3 = 0)
    ∧ (win0_9.index t 0 = min (2 * (t.val % 32) + 1) 2 ∧ win0_9.index t 1 = 0 ∧ win0_9.index t 2 = 0 ∧ win0_9.index t 3 = 0) :=
  (by decide +kernel : ∀ t : Fin grid0.N,
    (win0_0.index t 0 = 5 ∧ win0_0.index t 1 = t.val ∧ win0_0.index t 2 = 0)
    ∧ (win0_1.index t 0 = 6 ∧ win0_1.index t 1 = 64 * (t.val / 32) + (2 * (t.val % 32) - 2) ∧ win0_1.index t 2 = 0)
    ∧ (win0_2.index t 0 = 6 ∧ win0_2.index t 1 = 64 * (t.val / 32) + (2 * (t.val % 32) - 1) ∧ win0_2.index t 2 = 0)
    ∧ (win0_3.index t 0 = 6 ∧ win0_3.index t 1 = t.val ∧ win0_3.index t 2 = 0)
    ∧ (win0_4.index t 0 = 7 ∧ win0_4.index t 1 = 64 * (t.val / 32) + (2 * (t.val % 32) - 2) ∧ win0_4.index t 2 = 0)
    ∧ (win0_5.index t 0 = 7 ∧ win0_5.index t 1 = 64 * (t.val / 32) + (2 * (t.val % 32) - 1) ∧ win0_5.index t 2 = 0)
    ∧ (win0_6.index t 0 = 7 ∧ win0_6.index t 1 = t.val ∧ win0_6.index t 2 = 0)
    ∧ (win0_7.index t 0 = 8 ∧ win0_7.index t 1 = t.val ∧ win0_7.index t 2 = 0)
    ∧ (win0_8.index t 0 = min (2 * (t.val % 32)) 2 ∧ win0_8.index t 1 = 0 ∧ win0_8.index t 2 = 0 ∧ win0_8.index t 3 = 0)
    ∧ (win0_9.index t 0 = min (2 * (t.val % 32) + 1) 2 ∧ win0_9.index t 1 = 0 ∧ win0_9.index t 2 = 0 ∧ win0_9.index t 3 = 0))

variable (c : Dev nD) (t : Fin cfg0.N)

theorem point_lt : t.val < 64 := lt_of_lt_of_eq t.isLt (show cfg0.N = 64 from N_0)

/-! ## A block at an index is its array at the place the window gives it -/

theorem read_0 (y : S5x512x128.Idx) : iblk m c 0 t y = packed m c (((cfg0.win 0).blk t).view.emb y) := rfl
theorem read_1 (y : S5x256x128.Idx) : iblk m c 1 t y = packed m c (((cfg0.win 1).blk t).view.emb y) := rfl
theorem read_2 (y : S5x256x128.Idx) : iblk m c 2 t y = packed m c (((cfg0.win 2).blk t).view.emb y) := rfl
theorem read_3 (y : S5x512x128.Idx) : iblk m c 3 t y = packed m c (((cfg0.win 3).blk t).view.emb y) := rfl
theorem read_4 (y : S5x256x128.Idx) : iblk m c 4 t y = packed m c (((cfg0.win 4).blk t).view.emb y) := rfl
theorem read_5 (y : S5x256x128.Idx) : iblk m c 5 t y = packed m c (((cfg0.win 5).blk t).view.emb y) := rfl
theorem read_6 (y : S5x512x128.Idx) : iblk m c 6 t y = packed m c (((cfg0.win 6).blk t).view.emb y) := rfl
theorem read_7 (y : S5x512x128.Idx) : iblk m c 7 t y = packed m c (((cfg0.win 7).blk t).view.emb y) := rfl
theorem read_8 (y : S1x5x256x768.Idx) : iblk m c 8 t y = biasTable m c (((cfg0.win 8).blk t).view.emb y) := rfl
theorem read_9 (y : S1x5x256x768.Idx) : iblk m c 9 t y = biasTable m c (((cfg0.win 9).blk t).view.emb y) := rfl

/-- The query rows. -/
theorem q_rows (h : Fin 5) (u : Fin 2) (r : Fin 256) (e : Fin 128) (hs : 25 + h.val < 60)
    (hM : 512 * t.val + 256 * u.val + r.val < 32768) :
    rows512 (iblk m c 0 t) h u (ix3 0 r e) = packed m c (ix3 ⟨25 + h.val, hs⟩ ⟨512 * t.val + 256 * u.val + r.val, hM⟩ e) := by
  obtain ⟨⟨i0, i1, i2⟩, -⟩ := window_index t
  unfold rows512
  rw [read_0]
  generalize packed m c = A
  congr 1
  funext a
  apply Fin.ext
  match a with
  | ⟨0, _⟩ => show win0_0.index t 0 * 5 + 1 * h.val = 25 + h.val; omega
  | ⟨1, _⟩ => show win0_0.index t 1 * 512 + 1 * (256 * u.val + r.val) = 512 * t.val + 256 * u.val + r.val; omega
  | ⟨2, _⟩ => show win0_0.index t 2 * 128 + 1 * e.val = e.val; omega

/-- The gate's rows. -/
theorem g_rows (h : Fin 5) (u : Fin 2) (r : Fin 256) (e : Fin 128) (hs : 40 + h.val < 60)
    (hM : 512 * t.val + 256 * u.val + r.val < 32768) :
    rows512 (iblk m c 7 t) h u (ix3 0 r e) = packed m c (ix3 ⟨40 + h.val, hs⟩ ⟨512 * t.val + 256 * u.val + r.val, hM⟩ e) := by
  obtain ⟨-, -, -, -, -, -, -, ⟨i0, i1, i2⟩, -⟩ := window_index t
  unfold rows512
  rw [read_7]
  generalize packed m c = A
  congr 1
  funext a
  apply Fin.ext
  match a with
  | ⟨0, _⟩ => show win0_7.index t 0 * 5 + 1 * h.val = 40 + h.val; omega
  | ⟨1, _⟩ => show win0_7.index t 1 * 512 + 1 * (256 * u.val + r.val) = 512 * t.val + 256 * u.val + r.val; omega
  | ⟨2, _⟩ => show win0_7.index t 2 * 128 + 1 * e.val = e.val; omega

/-- The row of the packed array that row `r` of key block `j` of half `u` of point `t` comes from. -/
abbrev keyRow (t : Fin cfg0.N) (u : Fin 2) (j : Fin 3) (r : Fin 256) : ℕ :=
  16384 * (t.val / 32) + 256 * (2 * (t.val % 32) + u.val + j.val - 2) + r.val

theorem keyRow_lt (u : Fin 2) (j : Fin 3) (r : Fin 256) : keyRow t u j r < 32768 := by
  have := point_lt t
  unfold keyRow; omega

theorem k_prev2 (h : Fin 5) (r : Fin 256) (e : Fin 128) (hs : 30 + h.val < 60) (M : ℕ) (hM : M < 32768)
    (he : M = 16384 * (t.val / 32) + 256 * (2 * (t.val % 32) - 2) + r.val) :
    rows256 (iblk m c 1 t) h (ix3 0 r e) = packed m c (ix3 ⟨30 + h.val, hs⟩ ⟨M, hM⟩ e) := by
  obtain ⟨-, ⟨i0, i1, i2⟩, -⟩ := window_index t
  unfold rows256
  rw [read_1]
  generalize packed m c = A
  congr 1
  funext a
  apply Fin.ext
  match a with
  | ⟨0, _⟩ => show win0_1.index t 0 * 5 + 1 * h.val = 30 + h.val; omega
  | ⟨1, _⟩ => show win0_1.index t 1 * 256 + 1 * r.val = M; omega
  | ⟨2, _⟩ => show win0_1.index t 2 * 128 + 1 * e.val = e.val; omega

theorem k_prev1 (h : Fin 5) (r : Fin 256) (e : Fin 128) (hs : 30 + h.val < 60) (M : ℕ) (hM : M < 32768)
    (he : M = 16384 * (t.val / 32) + 256 * (2 * (t.val % 32) - 1) + r.val) :
    rows256 (iblk m c 2 t) h (ix3 0 r e) = packed m c (ix3 ⟨30 + h.val, hs⟩ ⟨M, hM⟩ e) := by
  obtain ⟨-, -, ⟨i0, i1, i2⟩, -⟩ := window_index t
  unfold rows256
  rw [read_2]
  generalize packed m c = A
  congr 1
  funext a
  apply Fin.ext
  match a with
  | ⟨0, _⟩ => show win0_2.index t 0 * 5 + 1 * h.val = 30 + h.val; omega
  | ⟨1, _⟩ => show win0_2.index t 1 * 256 + 1 * r.val = M; omega
  | ⟨2, _⟩ => show win0_2.index t 2 * 128 + 1 * e.val = e.val; omega

theorem k_cur (h : Fin 5) (u : Fin 2) (r : Fin 256) (e : Fin 128) (hs : 30 + h.val < 60) (M : ℕ) (hM : M < 32768)
    (he : M = 512 * t.val + 256 * u.val + r.val) :
    rows512 (iblk m c 3 t) h u (ix3 0 r e) = packed m c (ix3 ⟨30 + h.val, hs⟩ ⟨M, hM⟩ e) := by
  obtain ⟨-, -, -, ⟨i0, i1, i2⟩, -⟩ := window_index t
  unfold rows512
  rw [read_3]
  generalize packed m c = A
  congr 1
  funext a
  apply Fin.ext
  match a with
  | ⟨0, _⟩ => show win0_3.index t 0 * 5 + 1 * h.val = 30 + h.val; omega
  | ⟨1, _⟩ => show win0_3.index t 1 * 512 + 1 * (256 * u.val + r.val) = M; omega
  | ⟨2, _⟩ => show win0_3.index t 2 * 128 + 1 * e.val = e.val; omega

theorem v_prev2 (h : Fin 5) (r : Fin 256) (e : Fin 128) (hs : 35 + h.val < 60) (M : ℕ) (hM : M < 32768)
    (he : M = 16384 * (t.val / 32) + 256 * (2 * (t.val % 32) - 2) + r.val) :
    rows256 (iblk m c 4 t) h (ix3 0 r e) = packed m c (ix3 ⟨35 + h.val, hs⟩ ⟨M, hM⟩ e) := by
  obtain ⟨-, -, -, -, ⟨i0, i1, i2⟩, -⟩ := window_index t
  unfold rows256
  rw [read_4]
  generalize packed m c = A
  congr 1
  funext a
  apply Fin.ext
  match a with
  | ⟨0, _⟩ => show win0_4.index t 0 * 5 + 1 * h.val = 35 + h.val; omega
  | ⟨1, _⟩ => show win0_4.index t 1 * 256 + 1 * r.val = M; omega
  | ⟨2, _⟩ => show win0_4.index t 2 * 128 + 1 * e.val = e.val; omega

theorem v_prev1 (h : Fin 5) (r : Fin 256) (e : Fin 128) (hs : 35 + h.val < 60) (M : ℕ) (hM : M < 32768)
    (he : M = 16384 * (t.val / 32) + 256 * (2 * (t.val % 32) - 1) + r.val) :
    rows256 (iblk m c 5 t) h (ix3 0 r e) = packed m c (ix3 ⟨35 + h.val, hs⟩ ⟨M, hM⟩ e) := by
  obtain ⟨-, -, -, -, -, ⟨i0, i1, i2⟩, -⟩ := window_index t
  unfold rows256
  rw [read_5]
  generalize packed m c = A
  congr 1
  funext a
  apply Fin.ext
  match a with
  | ⟨0, _⟩ => show win0_5.index t 0 * 5 + 1 * h.val = 35 + h.val; omega
  | ⟨1, _⟩ => show win0_5.index t 1 * 256 + 1 * r.val = M; omega
  | ⟨2, _⟩ => show win0_5.index t 2 * 128 + 1 * e.val = e.val; omega

theorem v_cur (h : Fin 5) (u : Fin 2) (r : Fin 256) (e : Fin 128) (hs : 35 + h.val < 60) (M : ℕ) (hM : M < 32768)
    (he : M = 512 * t.val + 256 * u.val + r.val) :
    rows512 (iblk m c 6 t) h u (ix3 0 r e) = packed m c (ix3 ⟨35 + h.val, hs⟩ ⟨M, hM⟩ e) := by
  obtain ⟨-, -, -, -, -, -, ⟨i0, i1, i2⟩, -⟩ := window_index t
  unfold rows512
  rw [read_6]
  generalize packed m c = A
  congr 1
  funext a
  apply Fin.ext
  match a with
  | ⟨0, _⟩ => show win0_6.index t 0 * 5 + 1 * h.val = 35 + h.val; omega
  | ⟨1, _⟩ => show win0_6.index t 1 * 512 + 1 * (256 * u.val + r.val) = M; omega
  | ⟨2, _⟩ => show win0_6.index t 2 * 128 + 1 * e.val = e.val; omega

section Pick

variable (x1 x2 : Vec Ideal S5x256x128 .bf16) (x3 : Vec Ideal S5x512x128 .bf16) (h : Fin 5) (y : S1x256x128.Idx)

theorem window_00 : window x1 x2 x3 h 0 0 y = rows256 x1 h y := rfl
theorem window_01 : window x1 x2 x3 h 0 1 y = rows256 x2 h y := rfl
theorem window_02 : window x1 x2 x3 h 0 2 y = rows512 x3 h 0 y := rfl
theorem window_10 : window x1 x2 x3 h 1 0 y = rows256 x2 h y := rfl
theorem window_11 : window x1 x2 x3 h 1 1 y = rows512 x3 h 0 y := rfl
theorem window_12 : window x1 x2 x3 h 1 2 y = rows512 x3 h 1 y := rfl

theorem bias_0 (b0 b1 : Vec Ideal S1x5x256x768 .f32) (j : Fin 3) (z : S1x1x256x256.Idx) :
    bias256 (![b0, b1] 0) h j z = bias256 b0 h j z := rfl
theorem bias_1 (b0 b1 : Vec Ideal S1x5x256x768 .f32) (j : Fin 3) (z : S1x1x256x256.Idx) :
    bias256 (![b0, b1] 1) h j z = bias256 b1 h j z := rfl

end Pick

/-- The three key blocks of a half, as rows of the packed array. -/
theorem k_window (h : Fin 5) (u : Fin 2) (j : Fin 3) (r : Fin 256) (e : Fin 128) (hs : 30 + h.val < 60) :
    window (iblk m c 1 t) (iblk m c 2 t) (iblk m c 3 t) h u j (ix3 0 r e)
      = packed m c (ix3 ⟨30 + h.val, hs⟩ ⟨keyRow t u j r, keyRow_lt t u j r⟩ e) := by
  have := point_lt t
  match u, j with
  | 0, 0 =>
    rw [window_00]
    exact k_prev2 m c t h r e hs _ _ (by simp [keyRow] <;> omega)
  | 0, 1 =>
    rw [window_01]
    exact k_prev1 m c t h r e hs _ _ (by simp [keyRow] <;> omega)
  | 0, 2 =>
    rw [window_02]
    exact k_cur m c t h 0 r e hs _ _ (by simp [keyRow] <;> omega)
  | 1, 0 =>
    rw [window_10]
    exact k_prev1 m c t h r e hs _ _ (by simp [keyRow] <;> omega)
  | 1, 1 =>
    rw [window_11]
    exact k_cur m c t h 0 r e hs _ _ (by simp [keyRow] <;> omega)
  | 1, 2 =>
    rw [window_12]
    exact k_cur m c t h 1 r e hs _ _ (by simp [keyRow] <;> omega)

/-- The three value blocks of a half, as rows of the packed array. -/
theorem v_window (h : Fin 5) (u : Fin 2) (j : Fin 3) (r : Fin 256) (e : Fin 128) (hs : 35 + h.val < 60) :
    window (iblk m c 4 t) (iblk m c 5 t) (iblk m c 6 t) h u j (ix3 0 r e)
      = packed m c (ix3 ⟨35 + h.val, hs⟩ ⟨keyRow t u j r, keyRow_lt t u j r⟩ e) := by
  have := point_lt t
  match u, j with
  | 0, 0 =>
    rw [window_00]
    exact v_prev2 m c t h r e hs _ _ (by simp [keyRow] <;> omega)
  | 0, 1 =>
    rw [window_01]
    exact v_prev1 m c t h r e hs _ _ (by simp [keyRow] <;> omega)
  | 0, 2 =>
    rw [window_02]
    exact v_cur m c t h 0 r e hs _ _ (by simp [keyRow] <;> omega)
  | 1, 0 =>
    rw [window_10]
    exact v_prev1 m c t h r e hs _ _ (by simp [keyRow] <;> omega)
  | 1, 1 =>
    rw [window_11]
    exact v_cur m c t h 0 r e hs _ _ (by simp [keyRow] <;> omega)
  | 1, 2 =>
    rw [window_12]
    exact v_cur m c t h 1 r e hs _ _ (by simp [keyRow] <;> omega)

/-- A half's bias against key block `j`: the variant of the table for its block number. -/
theorem bias_rows (h : Fin 5) (u : Fin 2) (j : Fin 3) (r x : Fin 256) (hk : min (2 * (t.val % 32) + u.val) 2 < 3)
    (hx : 256 * j.val + x.val < 768) :
    bias256 (![(iblk m c 8 t : Vec Ideal S1x5x256x768 .f32), iblk m c 9 t] u) h j (ix4 0 0 r x)
      = biasTable m c (ix4 ⟨min (2 * (t.val % 32) + u.val) 2, hk⟩ h r ⟨256 * j.val + x.val, hx⟩) := by
  obtain ⟨-, -, -, -, -, -, -, -, ⟨i0, i1, i2, i3⟩, ⟨k0, k1, k2, k3⟩⟩ := window_index t
  match u with
  | 0 =>
    rw [bias_0]
    unfold bias256
    rw [read_8]
    generalize biasTable m c = A
    congr 1
    funext a
    apply Fin.ext
    match a with
    | ⟨0, _⟩ => show win0_8.index t 0 * 1 + 1 * 0 = min (2 * (t.val % 32)) 2; omega
    | ⟨1, _⟩ => show win0_8.index t 1 * 5 + 1 * h.val = h.val; omega
    | ⟨2, _⟩ => show win0_8.index t 2 * 256 + 1 * r.val = r.val; omega
    | ⟨3, _⟩ => show win0_8.index t 3 * 768 + 1 * (256 * j.val + x.val) = 256 * j.val + x.val; omega
  | 1 =>
    rw [bias_1]
    unfold bias256
    rw [read_9]
    generalize biasTable m c = A
    congr 1
    funext a
    apply Fin.ext
    match a with
    | ⟨0, _⟩ => show win0_9.index t 0 * 1 + 1 * 0 = min (2 * (t.val % 32) + 1) 2; omega
    | ⟨1, _⟩ => show win0_9.index t 1 * 5 + 1 * h.val = h.val; omega
    | ⟨2, _⟩ => show win0_9.index t 2 * 256 + 1 * r.val = r.val; omega
    | ⟨3, _⟩ => show win0_9.index t 3 * 768 + 1 * (256 * j.val + x.val) = 256 * j.val + x.val; omega

end Cert.KernelIdeal.Band
-- ==== Proof.BandPacked.lean ====
/- The packed array's slots, read at an index: the band attention's queries (scaled), keys, values and gate are columns of
   the projections. Slot `σ` holds 128 columns; row `M` is position `M % 16384` of batch element `M / 16384`. -/
module

public import proofs.«01_k».proof.Proof.BandBlocks
public import Idealize.ShloMosaic.Lib.StableHlo.ReadAt

@[expose] public section

set_option maxRecDepth 16384

noncomputable section

namespace Cert.KernelIdeal.Band

open Cert.KernelIdeal Cert.KernelIdeal.Gen Idealize.ShloMosaic Idealize.ShloMosaic.TcCoe Idealize.SL.Sem

variable (m : (ℓ : Loc nD τ sig) → Buf (Elt Ideal) ℓ)

/-- The projections, by batch element, position and column. -/
abbrev proj (c : Dev nD) (b : Fin 2) (n : Fin 16384) (q : Fin 7552) : EReal :=
  (m (c, Proc.tc.devRef main_arg0) : S2x16384x7552.Idx → EReal) (ix3 b n q)

/-- The relative bias, by head and distance. -/
abbrev rel (c : Dev nD) (h : Fin 5) (n : Fin 257) : EReal :=
  (m (c, Proc.tc.devRef main_arg1) : S5x257.Idx → EReal) (ix2 h n)

/-- The factor that turns powers of e into powers of two, as the host computes it: one over the logarithm of two. -/
abbrev log2e : EReal := Ideal.div 1 (Ideal.log (Ideal.ofBits FTy.f32 1073741824#32))

/-- The batch element and the position that row `M` belongs to. -/
abbrev rowB (M : Fin 32768) : Fin 2 := ⟨M.val / 16384, by omega⟩
abbrev rowN (M : Fin 32768) : Fin 16384 := ⟨M.val % 16384, by omega⟩

set_option maxHeartbeats 1000000 in
theorem packed_q (c : Dev nD) (h : Fin 5) (M : Fin 32768) (e : Fin 128) (hs : 25 + h.val < 60) :
    packed m c (ix3 ⟨25 + h.val, hs⟩ M e)
      = proj m c (rowB M) (rowN M) ⟨3072 + 128 * h.val + e.val, by omega⟩ * (Ideal.ofBits FTy.f32 1035273459#32 * log2e) := by
  have key : ∀ hq, (⟨3072 + ((25 + h.val) * 128 + e.val - 3072 - 128), hq⟩ : Fin 7552)
      = ⟨3072 + 128 * h.val + e.val, by omega⟩ := fun hq => Fin.ext (by
    show 3072 + ((25 + h.val) * 128 + e.val - 3072 - 128) = 3072 + 128 * h.val + e.val
    omega)
  unfold packed V proj log2e
  after_reads_at
  rw [dif_neg (by omega), dif_neg (by omega), dif_pos (by omega)]
  after_reads_at
  rw [key]

set_option maxHeartbeats 1000000 in
theorem packed_k (c : Dev nD) (h : Fin 5) (M : Fin 32768) (e : Fin 128) (hs : 30 + h.val < 60) :
    packed m c (ix3 ⟨30 + h.val, hs⟩ M e) = proj m c (rowB M) (rowN M) ⟨3712 + 128 * h.val + e.val, by omega⟩ := by
  have key : ∀ hq, (⟨3712 + ((30 + h.val) * 128 + e.val - 3072 - 128 - 640), hq⟩ : Fin 7552)
      = ⟨3712 + 128 * h.val + e.val, by omega⟩ := fun hq => Fin.ext (by
    show 3712 + ((30 + h.val) * 128 + e.val - 3072 - 128 - 640) = 3712 + 128 * h.val + e.val
    omega)
  unfold packed V proj
  after_reads_at
  rw [dif_neg (by omega), dif_neg (by omega), dif_neg (by omega), dif_pos (by omega)]
  after_reads_at
  rw [key]

set_option maxHeartbeats 1000000 in
theorem packed_v (c : Dev nD) (h : Fin 5) (M : Fin 32768) (e : Fin 128) (hs : 35 + h.val < 60) :
    packed m c (ix3 ⟨35 + h.val, hs⟩ M e) = proj m c (rowB M) (rowN M) ⟨4352 + 128 * h.val + e.val, by omega⟩ := by
  have key : ∀ hq, (⟨4352 + ((35 + h.val) * 128 + e.val - 3072 - 128 - 640 - 640), hq⟩ : Fin 7552)
      = ⟨4352 + 128 * h.val + e.val, by omega⟩ := fun hq => Fin.ext (by
    show 4352 + ((35 + h.val) * 128 + e.val - 3072 - 128 - 640 - 640) = 4352 + 128 * h.val + e.val
    omega)
  unfold packed V proj
  after_reads_at
  rw [dif_neg (by omega), dif_neg (by omega), dif_neg (by omega), dif_neg (by omega), dif_pos (by omega)]
  after_reads_at
  rw [key]

set_option maxHeartbeats 1000000 in
/-- The gate's slot holds `x · 1 / (1 + exp (-x))` of the gate's columns. -/
theorem packed_g (c : Dev nD) (h : Fin 5) (M : Fin 32768) (e : Fin 128) (hs : 40 + h.val < 60) :
    packed m c (ix3 ⟨40 + h.val, hs⟩ M e)
      = proj m c (rowB M) (rowN M) ⟨4992 + 128 * h.val + e.val, by omega⟩
        * Ideal.div 1 (1 + Ideal.exp (-proj m c (rowB M) (rowN M) ⟨4992 + 128 * h.val + e.val, by omega⟩)) := by
  have key : ∀ hq, (⟨4992 + ((40 + h.val) * 128 + e.val - 3072 - 128 - 640 - 640 - 640), hq⟩ : Fin 7552)
      = ⟨4992 + 128 * h.val + e.val, by omega⟩ := fun hq => Fin.ext (by
    show 4992 + ((40 + h.val) * 128 + e.val - 3072 - 128 - 640 - 640 - 640) = 4992 + 128 * h.val + e.val
    omega)
  unfold packed V proj
  after_reads_at
  rw [dif_neg (by omega), dif_neg (by omega), dif_neg (by omega), dif_neg (by omega), dif_neg (by omega), dif_pos (by omega)]
  after_reads_at
  rw [key]

end Cert.KernelIdeal.Band
-- ==== Proof.BandTiles.lean ====
/- The bias table, read at an index. The kernel's host code lays the relative bias out as tiles of 64 query rows by 64 key
   columns: a tile on the diagonal and the two before it hold the bias by distance (each row the one above it shifted by one
   column), every earlier tile of the band holds the bias of the farthest distance, and outside the band stands minus infinity.
   Row `r` and column `e` of a block of 256 query rows against 768 key columns are `512 + r - e` positions apart. -/
module

public import proofs.«01_k».proof.Proof.BandPacked

@[expose] public section

set_option maxRecDepth 16384
set_option maxHeartbeats 1000000

noncomputable section

namespace Cert.KernelIdeal.Band

open Cert.KernelIdeal Cert.KernelIdeal.Gen Idealize.ShloMosaic Idealize.ShloMosaic.TcCoe Idealize.SL.Sem

variable (m : (ℓ : Loc nD τ sig) → Buf (Elt Ideal) ℓ)

/-- A distance (counted from 128 positions ahead), clipped to the table's last column. -/
def clip (n : ℕ) : Fin 257 := ⟨min n 256, by omega⟩

/-- Laying rows of length 129 end to end in rows of length 128 moves each row one column on. -/
theorem skew (r e : Fin 64) : ((64 - (r.val + 1)) * 129 + e.val) % 128 = 63 - r.val + e.val := by
  have h1 : (64 - (r.val + 1)) * 129 + e.val = (63 - r.val + e.val) + 128 * (63 - r.val) := by omega
  rw [h1, Nat.add_mul_mod_self_left, Nat.mod_eq_of_lt (by omega)]

/-! ## The tiles -/

abbrev tile8 (c : Dev nD) : S5x64x64.Idx → EReal := V m c main_v64
abbrev tile7 (c : Dev nD) : S5x64x64.Idx → EReal := V m c main_v75
abbrev tile6 (c : Dev nD) : S5x64x64.Idx → EReal := V m c main_v88
abbrev tileFar (c : Dev nD) : S5x64x64.Idx → EReal := V m c main_v53
abbrev tileNone (c : Dev nD) : S5x64x64.Idx → EReal := V m c main_v89

/-- The tile whose first row and column are 0 positions apart. -/
theorem tile8_apply (c : Dev nD) (h : Fin 5) (r e : Fin 64) :
    tile8 m c (ix3 h r e) = rel m c h (clip (128 + r.val - e.val)) * log2e := by
  unfold tile8 V rel log2e
  after_reads_at
  simp (decide := true) only [List.mem_singleton, Fin.val_rev, ↓reduceIte]
  have hs := skew r e
  rw [dif_pos (by omega)]
  after_reads_at
  simp (decide := true) only [List.mem_singleton, Fin.val_rev, ↓reduceIte]
  congr 3
  apply Fin.ext
  show _ = min (128 + r.val - e.val) 256
  simp only []
  omega

/-- The tile whose first row and column are 64 positions apart. -/
theorem tile7_apply (c : Dev nD) (h : Fin 5) (r e : Fin 64) :
    tile7 m c (ix3 h r e) = rel m c h (clip (192 + r.val - e.val)) * log2e := by
  unfold tile7 V rel log2e
  after_reads_at
  simp (decide := true) only [List.mem_singleton, Fin.val_rev, ↓reduceIte]
  have hs := skew r e
  rw [dif_pos (by omega)]
  after_reads_at
  simp (decide := true) only [List.mem_singleton, Fin.val_rev, ↓reduceIte]
  congr 3
  apply Fin.ext
  show _ = min (192 + r.val - e.val) 256
  simp only []
  omega

/-- The tile whose first row and column are 128 positions apart: past 256 the farthest distance repeats. -/
theorem tile6_apply (c : Dev nD) (h : Fin 5) (r e : Fin 64) :
    tile6 m c (ix3 h r e) = rel m c h (clip (256 + r.val - e.val)) * log2e := by
  unfold tile6 V rel log2e
  after_reads_at
  simp (decide := true) only [List.mem_singleton, Fin.val_rev, ↓reduceIte]
  have hs := skew r e
  rw [dif_pos (by omega)]
  after_reads_at
  simp (decide := true) only [List.mem_singleton, Fin.val_rev, ↓reduceIte]
  by_cases hlt : 127 - (((64 - (r.val + 1)) * 129 + e.val) % 128 + 1) < 64
  · rw [dif_pos hlt]
    after_reads_at
    congr 3
    apply Fin.ext
    show _ = min (256 + r.val - e.val) 256
    simp only []
    omega
  · rw [dif_neg hlt]
    after_reads_at
    congr 3
    apply Fin.ext
    show _ = min (256 + r.val - e.val) 256
    simp only []
    omega

theorem tileFar_apply (c : Dev nD) (h : Fin 5) (r e : Fin 64) :
    tileFar m c (ix3 h r e) = rel m c h (clip 256) * log2e := by
  unfold tileFar V rel log2e
  after_reads_at
  rfl

theorem tileNone_apply (c : Dev nD) (h : Fin 5) (r e : Fin 64) : tileNone m c (ix3 h r e) = ⊥ := by
  unfold tileNone V
  after_reads_at
  exact ofBits_negInf

/-! ## Twelve tiles side by side -/

/-- Column `64 k + y` of tiles side by side is column `y` of tile `k`. -/
theorem tile_piece (xs : List ((s : Shape) × (s.Idx → EReal))) (hc : Shape.Concatenates (xs.map (·.1)) S5x64x768 2) (k : ℕ)
    (hk : k < xs.length) (a : S5x64x64.Idx → EReal) (hx : xs[k] = ⟨S5x64x64, a⟩)
    (hpre : (((xs.take k).map (·.1)).map fun s => if h : s.rank = S5x64x768.rank then s.size (Fin.cast h.symm 2) else 0).sum = 64 * k)
    (h : Fin 5) (r : Fin 64) (e : Fin 768) (y : Fin 64) (hy : e.val = 64 * k + y.val) :
    concatenate (α := EReal) S5x64x768 2 xs hc (ix3 h r e) = a (ix3 h r y) :=
  concatenate_apply_piece 2 xs hc (ix3 h r e) k hk S5x64x64 a hx rfl (64 * k) hpre (ix3 h r y)
    (fun b hb => match b with
      | ⟨0, _⟩ => rfl
      | ⟨1, _⟩ => rfl
      | ⟨2, _⟩ => absurd rfl hb)
    hy.symm

/-- Column `e` of twelve tiles side by side is a column of the tile that holds it. -/
theorem tiles12 (a0 a1 a2 a3 a4 a5 a6 a7 a8 a9 a10 a11 : S5x64x64.Idx → EReal) (h : Fin 5) (r : Fin 64) (e : Fin 768) (X : EReal)
    (h0 : ∀ x : Fin 64, e.val = 0 + x.val → a0 (ix3 h r x) = X)
    (h1 : ∀ x : Fin 64, e.val = 64 + x.val → a1 (ix3 h r x) = X)
    (h2 : ∀ x : Fin 64, e.val = 128 + x.val → a2 (ix3 h r x) = X)
    (h3 : ∀ x : Fin 64, e.val = 192 + x.val → a3 (ix3 h r x) = X)
    (h4 : ∀ x : Fin 64, e.val = 256 + x.val → a4 (ix3 h r x) = X)
    (h5 : ∀ x : Fin 64, e.val = 320 + x.val → a5 (ix3 h r x) = X)
    (h6 : ∀ x : Fin 64, e.val = 384 + x.val → a6 (ix3 h r x) = X)
    (h7 : ∀ x : Fin 64, e.val = 448 + x.val → a7 (ix3 h r x) = X)
    (h8 : ∀ x : Fin 64, e.val = 512 + x.val → a8 (ix3 h r x) = X)
    (h9 : ∀ x : Fin 64, e.val = 576 + x.val → a9 (ix3 h r x) = X)
    (h10 : ∀ x : Fin 64, e.val = 640 + x.val → a10 (ix3 h r x) = X)
    (h11 : ∀ x : Fin 64, e.val = 704 + x.val → a11 (ix3 h r x) = X) :
    concatenate (α := EReal) S5x64x768 2 [⟨S5x64x64, a0⟩, ⟨S5x64x64, a1⟩, ⟨S5x64x64, a2⟩, ⟨S5x64x64, a3⟩, ⟨S5x64x64, a4⟩, ⟨S5x64x64, a5⟩, ⟨S5x64x64, a6⟩, ⟨S5x64x64, a7⟩, ⟨S5x64x64, a8⟩, ⟨S5x64x64, a9⟩, ⟨S5x64x64, a10⟩, ⟨S5x64x64, a11⟩]
      concatenates_S5x64x64_S5x64x64_S5x64x64_S5x64x64_S5x64x64_S5x64x64_S5x64x64_S5x64x64_S5x64x64_S5x64x64_S5x64x64_S5x64x64_S5x64x768_d2
      (ix3 h r e) = X := by
  have he := e.isLt
  have hk : e.val / 64 < 12 := by omega
  generalize hq : e.val / 64 = q at hk
  match q, hk with
  | 0, _ =>
    exact (tile_piece [⟨S5x64x64, a0⟩, ⟨S5x64x64, a1⟩, ⟨S5x64x64, a2⟩, ⟨S5x64x64, a3⟩, ⟨S5x64x64, a4⟩, ⟨S5x64x64, a5⟩, ⟨S5x64x64, a6⟩, ⟨S5x64x64, a7⟩, ⟨S5x64x64, a8⟩, ⟨S5x64x64, a9⟩, ⟨S5x64x64, a10⟩, ⟨S5x64x64, a11⟩] _ 0 (by show 0 < 12; omega) a0 rfl rfl h r e ⟨e.val - 0, by omega⟩
      (by show e.val = 64 * 0 + (e.val - 0); omega)).trans (h0 _ (by show e.val = 0 + (e.val - 0); omega))
  | 1, _ =>
    exact (tile_piece [⟨S5x64x64, a0⟩, ⟨S5x64x64, a1⟩, ⟨S5x64x64, a2⟩, ⟨S5x64x64, a3⟩, ⟨S5x64x64, a4⟩, ⟨S5x64x64, a5⟩, ⟨S5x64x64, a6⟩, ⟨S5x64x64, a7⟩, ⟨S5x64x64, a8⟩, ⟨S5x64x64, a9⟩, ⟨S5x64x64, a10⟩, ⟨S5x64x64, a11⟩] _ 1 (by show 1 < 12; omega) a1 rfl rfl h r e ⟨e.val - 64, by omega⟩
      (by show e.val = 64 * 1 + (e.val - 64); omega)).trans (h1 _ (by show e.val = 64 + (e.val - 64); omega))
  | 2, _ =>
    exact (tile_piece [⟨S5x64x64, a0⟩, ⟨S5x64x64, a1⟩, ⟨S5x64x64, a2⟩, ⟨S5x64x64, a3⟩, ⟨S5x64x64, a4⟩, ⟨S5x64x64, a5⟩, ⟨S5x64x64, a6⟩, ⟨S5x64x64, a7⟩, ⟨S5x64x64, a8⟩, ⟨S5x64x64, a9⟩, ⟨S5x64x64, a10⟩, ⟨S5x64x64, a11⟩] _ 2 (by show 2 < 12; omega) a2 rfl rfl h r e ⟨e.val - 128, by omega⟩
      (by show e.val = 64 * 2 + (e.val - 128); omega)).trans (h2 _ (by show e.val = 128 + (e.val - 128); omega))
  | 3, _ =>
    exact (tile_piece [⟨S5x64x64, a0⟩, ⟨S5x64x64, a1⟩, ⟨S5x64x64, a2⟩, ⟨S5x64x64, a3⟩, ⟨S5x64x64, a4⟩, ⟨S5x64x64, a5⟩, ⟨S5x64x64, a6⟩, ⟨S5x64x64, a7⟩, ⟨S5x64x64, a8⟩, ⟨S5x64x64, a9⟩, ⟨S5x64x64, a10⟩, ⟨S5x64x64, a11⟩] _ 3 (by show 3 < 12; omega) a3 rfl rfl h r e ⟨e.val - 192, by omega⟩
      (by show e.val = 64 * 3 + (e.val - 192); omega)).trans (h3 _ (by show e.val = 192 + (e.val - 192); omega))
  | 4, _ =>
    exact (tile_piece [⟨S5x64x64, a0⟩, ⟨S5x64x64, a1⟩, ⟨S5x64x64, a2⟩, ⟨S5x64x64, a3⟩, ⟨S5x64x64, a4⟩, ⟨S5x64x64, a5⟩, ⟨S5x64x64, a6⟩, ⟨S5x64x64, a7⟩, ⟨S5x64x64, a8⟩, ⟨S5x64x64, a9⟩, ⟨S5x64x64, a10⟩, ⟨S5x64x64, a11⟩] _ 4 (by show 4 < 12; omega) a4 rfl rfl h r e ⟨e.val - 256, by omega⟩
      (by show e.val = 64 * 4 + (e.val - 256); omega)).trans (h4 _ (by show e.val = 256 + (e.val - 256); omega))
  | 5, _ =>
    exact (tile_piece [⟨S5x64x64, a0⟩, ⟨S5x64x64, a1⟩, ⟨S5x64x64, a2⟩, ⟨S5x64x64, a3⟩, ⟨S5x64x64, a4⟩, ⟨S5x64x64, a5⟩, ⟨S5x64x64, a6⟩, ⟨S5x64x64, a7⟩, ⟨S5x64x64, a8⟩, ⟨S5x64x64, a9⟩, ⟨S5x64x64, a10⟩, ⟨S5x64x64, a11⟩] _ 5 (by show 5 < 12; omega) a5 rfl rfl h r e ⟨e.val - 320, by omega⟩
      (by show e.val = 64 * 5 + (e.val - 320); omega)).trans (h5 _ (by show e.val = 320 + (e.val - 320); omega))
  | 6, _ =>
    exact (tile_piece [⟨S5x64x64, a0⟩, ⟨S5x64x64, a1⟩, ⟨S5x64x64, a2⟩, ⟨S5x64x64, a3⟩, ⟨S5x64x64, a4⟩, ⟨S5x64x64, a5⟩, ⟨S5x64x64, a6⟩, ⟨S5x64x64, a7⟩, ⟨S5x64x64, a8⟩, ⟨S5x64x64, a9⟩, ⟨S5x64x64, a10⟩, ⟨S5x64x64, a11⟩] _ 6 (by show 6 < 12; omega) a6 rfl rfl h r e ⟨e.val - 384, by omega⟩
      (by show e.val = 64 * 6 + (e.val - 384); omega)).trans (h6 _ (by show e.val = 384 + (e.val - 384); omega))
  | 7, _ =>
    exact (tile_piece [⟨S5x64x64, a0⟩, ⟨S5x64x64, a1⟩, ⟨S5x64x64, a2⟩, ⟨S5x64x64, a3⟩, ⟨S5x64x64, a4⟩, ⟨S5x64x64, a5⟩, ⟨S5x64x64, a6⟩, ⟨S5x64x64, a7⟩, ⟨S5x64x64, a8⟩, ⟨S5x64x64, a9⟩, ⟨S5x64x64, a10⟩, ⟨S5x64x64, a11⟩] _ 7 (by show 7 < 12; omega) a7 rfl rfl h r e ⟨e.val - 448, by omega⟩
      (by show e.val = 64 * 7 + (e.val - 448); omega)).trans (h7 _ (by show e.val = 448 + (e.val - 448); omega))
  | 8, _ =>
    exact (tile_piece [⟨S5x64x64, a0⟩, ⟨S5x64x64, a1⟩, ⟨S5x64x64, a2⟩, ⟨S5x64x64, a3⟩, ⟨S5x64x64, a4⟩, ⟨S5x64x64, a5⟩, ⟨S5x64x64, a6⟩, ⟨S5x64x64, a7⟩, ⟨S5x64x64, a8⟩, ⟨S5x64x64, a9⟩, ⟨S5x64x64, a10⟩, ⟨S5x64x64, a11⟩] _ 8 (by show 8 < 12; omega) a8 rfl rfl h r e ⟨e.val - 512, by omega⟩
      (by show e.val = 64 * 8 + (e.val - 512); omega)).trans (h8 _ (by show e.val = 512 + (e.val - 512); omega))
  | 9, _ =>
    exact (tile_piece [⟨S5x64x64, a0⟩, ⟨S5x64x64, a1⟩, ⟨S5x64x64, a2⟩, ⟨S5x64x64, a3⟩, ⟨S5x64x64, a4⟩, ⟨S5x64x64, a5⟩, ⟨S5x64x64, a6⟩, ⟨S5x64x64, a7⟩, ⟨S5x64x64, a8⟩, ⟨S5x64x64, a9⟩, ⟨S5x64x64, a10⟩, ⟨S5x64x64, a11⟩] _ 9 (by show 9 < 12; omega) a9 rfl rfl h r e ⟨e.val - 576, by omega⟩
      (by show e.val = 64 * 9 + (e.val - 576); omega)).trans (h9 _ (by show e.val = 576 + (e.val - 576); omega))
  | 10, _ =>
    exact (tile_piece [⟨S5x64x64, a0⟩, ⟨S5x64x64, a1⟩, ⟨S5x64x64, a2⟩, ⟨S5x64x64, a3⟩, ⟨S5x64x64, a4⟩, ⟨S5x64x64, a5⟩, ⟨S5x64x64, a6⟩, ⟨S5x64x64, a7⟩, ⟨S5x64x64, a8⟩, ⟨S5x64x64, a9⟩, ⟨S5x64x64, a10⟩, ⟨S5x64x64, a11⟩] _ 10 (by show 10 < 12; omega) a10 rfl rfl h r e ⟨e.val - 640, by omega⟩
      (by show e.val = 64 * 10 + (e.val - 640); omega)).trans (h10 _ (by show e.val = 640 + (e.val - 640); omega))
  | 11, _ =>
    exact (tile_piece [⟨S5x64x64, a0⟩, ⟨S5x64x64, a1⟩, ⟨S5x64x64, a2⟩, ⟨S5x64x64, a3⟩, ⟨S5x64x64, a4⟩, ⟨S5x64x64, a5⟩, ⟨S5x64x64, a6⟩, ⟨S5x64x64, a7⟩, ⟨S5x64x64, a8⟩, ⟨S5x64x64, a9⟩, ⟨S5x64x64, a10⟩, ⟨S5x64x64, a11⟩] _ 11 (by show 11 < 12; omega) a11 rfl rfl h r e ⟨e.val - 704, by omega⟩
      (by show e.val = 64 * 11 + (e.val - 704); omega)).trans (h11 _ (by show e.val = 704 + (e.val - 704); omega))

/-! ## The four groups of 64 rows -/

/-- The contents after the first `n` host operations. -/
abbrev before (c : Dev nD) (n : ℕ) : Valuation τ sig (Elt Ideal) :=
  StableHlo.upto (List.flatten [hostOps0, hostOps0_1, hostOps0_2, hostOps0_3, hostOps0_4, hostOps0_5, hostOps0_6, hostOps0_7,
    hostOps0_8, hostOps0_9, hostOps0_10, hostOps0_11, hostOps0_12, hostOps0_13, hostOps0_14, hostOps0_15]) (fun b => m (c, b)) n

theorem before0_tileFar (c : Dev nD) : before m c 141 (Proc.devRef .tc main_v53) = tileFar m c := by
  unfold before tileFar V
  after_reads_simp
theorem before0_tile6 (c : Dev nD) : before m c 141 (Proc.devRef .tc main_v88) = tile6 m c := by
  unfold before tile6 V
  after_reads_simp
theorem before0_tile7 (c : Dev nD) : before m c 141 (Proc.devRef .tc main_v75) = tile7 m c := by
  unfold before tile7 V
  after_reads_simp
theorem before0_tile8 (c : Dev nD) : before m c 141 (Proc.devRef .tc main_v64) = tile8 m c := by
  unfold before tile8 V
  after_reads_simp
theorem before0_tileNone (c : Dev nD) : before m c 141 (Proc.devRef .tc main_v89) = tileNone m c := by
  unfold before tileNone V
  after_reads_simp
theorem before1_tileFar (c : Dev nD) : before m c 142 (Proc.devRef .tc main_v53) = tileFar m c := by
  unfold before tileFar V
  after_reads_simp
theorem before1_tile6 (c : Dev nD) : before m c 142 (Proc.devRef .tc main_v88) = tile6 m c := by
  unfold before tile6 V
  after_reads_simp
theorem before1_tile7 (c : Dev nD) : before m c 142 (Proc.devRef .tc main_v75) = tile7 m c := by
  unfold before tile7 V
  after_reads_simp
theorem before1_tile8 (c : Dev nD) : before m c 142 (Proc.devRef .tc main_v64) = tile8 m c := by
  unfold before tile8 V
  after_reads_simp
theorem before1_tileNone (c : Dev nD) : before m c 142 (Proc.devRef .tc main_v89) = tileNone m c := by
  unfold before tileNone V
  after_reads_simp
theorem before2_tileFar (c : Dev nD) : before m c 143 (Proc.devRef .tc main_v53) = tileFar m c := by
  unfold before tileFar V
  after_reads_simp
theorem before2_tile6 (c : Dev nD) : before m c 143 (Proc.devRef .tc main_v88) = tile6 m c := by
  unfold before tile6 V
  after_reads_simp
theorem before2_tile7 (c : Dev nD) : before m c 143 (Proc.devRef .tc main_v75) = tile7 m c := by
  unfold before tile7 V
  after_reads_simp
theorem before2_tile8 (c : Dev nD) : before m c 143 (Proc.devRef .tc main_v64) = tile8 m c := by
  unfold before tile8 V
  after_reads_simp
theorem before2_tileNone (c : Dev nD) : before m c 143 (Proc.devRef .tc main_v89) = tileNone m c := by
  unfold before tileNone V
  after_reads_simp
theorem before3_tileFar (c : Dev nD) : before m c 144 (Proc.devRef .tc main_v53) = tileFar m c := by
  unfold before tileFar V
  after_reads_simp
theorem before3_tile6 (c : Dev nD) : before m c 144 (Proc.devRef .tc main_v88) = tile6 m c := by
  unfold before tile6 V
  after_reads_simp
theorem before3_tile7 (c : Dev nD) : before m c 144 (Proc.devRef .tc main_v75) = tile7 m c := by
  unfold before tile7 V
  after_reads_simp
theorem before3_tile8 (c : Dev nD) : before m c 144 (Proc.devRef .tc main_v64) = tile8 m c := by
  unfold before tile8 V
  after_reads_simp
theorem before3_tileNone (c : Dev nD) : before m c 144 (Proc.devRef .tc main_v89) = tileNone m c := by
  unfold before tileNone V
  after_reads_simp

/-- What stands at row `r` of group `k` and column `e`: the bias of their distance inside the band, minus infinity outside. -/
def groupVal (c : Dev nD) (k : ℕ) (h : Fin 5) (r : Fin 64) (e : Fin 768) : EReal :=
  if 64 * k ≤ e.val ∧ e.val < 64 * k + 576 then rel m c h (clip (640 + 64 * k + r.val - e.val)) * log2e else ⊥

variable (c : Dev nD) (k : ℕ) (h : Fin 5) (r x : Fin 64) (e : Fin 768)

theorem none_val (hx : e.val < 64 * k ∨ 64 * k + 576 ≤ e.val) : tileNone m c (ix3 h r x) = groupVal m c k h r e := by
  rw [tileNone_apply, groupVal, if_neg (by omega)]

theorem far_val (hx : 64 * k ≤ e.val ∧ e.val < 64 * k + 384) : tileFar m c (ix3 h r x) = groupVal m c k h r e := by
  rw [tileFar_apply, groupVal, if_pos (by omega)]
  congr 2
  apply Fin.ext
  show min 256 256 = min (640 + 64 * k + r.val - e.val) 256
  omega

theorem val6 (hx : e.val = 64 * k + 384 + x.val) : tile6 m c (ix3 h r x) = groupVal m c k h r e := by
  rw [tile6_apply, groupVal, if_pos (by omega)]
  congr 2
  apply Fin.ext
  show min (256 + r.val - x.val) 256 = min (640 + 64 * k + r.val - e.val) 256
  omega

theorem val7 (hx : e.val = 64 * k + 448 + x.val) : tile7 m c (ix3 h r x) = groupVal m c k h r e := by
  rw [tile7_apply, groupVal, if_pos (by omega)]
  congr 2
  apply Fin.ext
  show min (192 + r.val - x.val) 256 = min (640 + 64 * k + r.val - e.val) 256
  omega

theorem val8 (hx : e.val = 64 * k + 512 + x.val) : tile8 m c (ix3 h r x) = groupVal m c k h r e := by
  rw [tile8_apply, groupVal, if_pos (by omega)]
  congr 2
  apply Fin.ext
  show min (128 + r.val - x.val) 256 = min (640 + 64 * k + r.val - e.val) 256
  omega

/-- Group 0's row of tiles. -/
theorem group0_eq : (V m c main_v90 : S5x64x768.Idx → EReal) = concatenate (α := EReal) S5x64x768 2 [⟨S5x64x64, tileFar m c⟩, ⟨S5x64x64, tileFar m c⟩, ⟨S5x64x64, tileFar m c⟩, ⟨S5x64x64, tileFar m c⟩, ⟨S5x64x64, tileFar m c⟩, ⟨S5x64x64, tileFar m c⟩, ⟨S5x64x64, tile6 m c⟩, ⟨S5x64x64, tile7 m c⟩, ⟨S5x64x64, tile8 m c⟩, ⟨S5x64x64, tileNone m c⟩, ⟨S5x64x64, tileNone m c⟩, ⟨S5x64x64, tileNone m c⟩]
      concatenates_S5x64x64_S5x64x64_S5x64x64_S5x64x64_S5x64x64_S5x64x64_S5x64x64_S5x64x64_S5x64x64_S5x64x64_S5x64x64_S5x64x64_S5x64x768_d2 := by
  rw [← before0_tileFar, ← before0_tile6, ← before0_tile7, ← before0_tile8, ← before0_tileNone]
  unfold V
  simp (disch := decide) only [StableHlo.readAfter, StableHlo.nary_result']
  rfl

theorem group0_apply : (V m c main_v90 : S5x64x768.Idx → EReal) (ix3 h r e) = groupVal m c 0 h r e := by
  rw [group0_eq]
  refine tiles12 _ _ _ _ _ _ _ _ _ _ _ _ h r e _ ?_ ?_ ?_ ?_ ?_ ?_ ?_ ?_ ?_ ?_ ?_ ?_ <;> intro x hx
  · exact far_val m c 0 h r x e (by omega)
  · exact far_val m c 0 h r x e (by omega)
  · exact far_val m c 0 h r x e (by omega)
  · exact far_val m c 0 h r x e (by omega)
  · exact far_val m c 0 h r x e (by omega)
  · exact far_val m c 0 h r x e (by omega)
  · exact val6 m c 0 h r x e (by omega)
  · exact val7 m c 0 h r x e (by omega)
  · exact val8 m c 0 h r x e (by omega)
  · exact none_val m c 0 h r x e (by omega)
  · exact none_val m c 0 h r x e (by omega)
  · exact none_val m c 0 h r x e (by omega)

/-- Group 1's row of tiles. -/
theorem group1_eq : (V m c main_v91 : S5x64x768.Idx → EReal) = concatenate (α := EReal) S5x64x768 2 [⟨S5x64x64, tileNone m c⟩, ⟨S5x64x64, tileFar m c⟩, ⟨S5x64x64, tileFar m c⟩, ⟨S5x64x64, tileFar m c⟩, ⟨S5x64x64, tileFar m c⟩, ⟨S5x64x64, tileFar m c⟩, ⟨S5x64x64, tileFar m c⟩, ⟨S5x64x64, tile6 m c⟩, ⟨S5x64x64, tile7 m c⟩, ⟨S5x64x64, tile8 m c⟩, ⟨S5x64x64, tileNone m c⟩, ⟨S5x64x64, tileNone m c⟩]
      concatenates_S5x64x64_S5x64x64_S5x64x64_S5x64x64_S5x64x64_S5x64x64_S5x64x64_S5x64x64_S5x64x64_S5x64x64_S5x64x64_S5x64x64_S5x64x768_d2 := by
  rw [← before1_tileFar, ← before1_tile6, ← before1_tile7, ← before1_tile8, ← before1_tileNone]
  unfold V
  simp (disch := decide) only [StableHlo.readAfter, StableHlo.nary_result']
  rfl

theorem group1_apply : (V m c main_v91 : S5x64x768.Idx → EReal) (ix3 h r e) = groupVal m c 1 h r e := by
  rw [group1_eq]
  refine tiles12 _ _ _ _ _ _ _ _ _ _ _ _ h r e _ ?_ ?_ ?_ ?_ ?_ ?_ ?_ ?_ ?_ ?_ ?_ ?_ <;> intro x hx
  · exact none_val m c 1 h r x e (by omega)
  · exact far_val m c 1 h r x e (by omega)
  · exact far_val m c 1 h r x e (by omega)
  · exact far_val m c 1 h r x e (by omega)
  · exact far_val m c 1 h r x e (by omega)
  · exact far_val m c 1 h r x e (by omega)
  · exact far_val m c 1 h r x e (by omega)
  · exact val6 m c 1 h r x e (by omega)
  · exact val7 m c 1 h r x e (by omega)
  · exact val8 m c 1 h r x e (by omega)
  · exact none_val m c 1 h r x e (by omega)
  · exact none_val m c 1 h r x e (by omega)

/-- Group 2's row of tiles. -/
theorem group2_eq : (V m c main_v92 : S5x64x768.Idx → EReal) = concatenate (α := EReal) S5x64x768 2 [⟨S5x64x64, tileNone m c⟩, ⟨S5x64x64, tileNone m c⟩, ⟨S5x64x64, tileFar m c⟩, ⟨S5x64x64, tileFar m c⟩, ⟨S5x64x64, tileFar m c⟩, ⟨S5x64x64, tileFar m c⟩, ⟨S5x64x64, tileFar m c⟩, ⟨S5x64x64, tileFar m c⟩, ⟨S5x64x64, tile6 m c⟩, ⟨S5x64x64, tile7 m c⟩, ⟨S5x64x64, tile8 m c⟩, ⟨S5x64x64, tileNone m c⟩]
      concatenates_S5x64x64_S5x64x64_S5x64x64_S5x64x64_S5x64x64_S5x64x64_S5x64x64_S5x64x64_S5x64x64_S5x64x64_S5x64x64_S5x64x64_S5x64x768_d2 := by
  rw [← before2_tileFar, ← before2_tile6, ← before2_tile7, ← before2_tile8, ← before2_tileNone]
  unfold V
  simp (disch := decide) only [StableHlo.readAfter, StableHlo.nary_result']
  rfl

theorem group2_apply : (V m c main_v92 : S5x64x768.Idx → EReal) (ix3 h r e) = groupVal m c 2 h r e := by
  rw [group2_eq]
  refine tiles12 _ _ _ _ _ _ _ _ _ _ _ _ h r e _ ?_ ?_ ?_ ?_ ?_ ?_ ?_ ?_ ?_ ?_ ?_ ?_ <;> intro x hx
  · exact none_val m c 2 h r x e (by omega)
  · exact none_val m c 2 h r x e (by omega)
  · exact far_val m c 2 h r x e (by omega)
  · exact far_val m c 2 h r x e (by omega)
  · exact far_val m c 2 h r x e (by omega)
  · exact far_val m c 2 h r x e (by omega)
  · exact far_val m c 2 h r x e (by omega)
  · exact far_val m c 2 h r x e (by omega)
  · exact val6 m c 2 h r x e (by omega)
  · exact val7 m c 2 h r x e (by omega)
  · exact val8 m c 2 h r x e (by omega)
  · exact none_val m c 2 h r x e (by omega)

/-- Group 3's row of tiles. -/
theorem group3_eq : (V m c main_v93 : S5x64x768.Idx → EReal) = concatenate (α := EReal) S5x64x768 2 [⟨S5x64x64, tileNone m c⟩, ⟨S5x64x64, tileNone m c⟩, ⟨S5x64x64, tileNone m c⟩, ⟨S5x64x64, tileFar m c⟩, ⟨S5x64x64, tileFar m c⟩, ⟨S5x64x64, tileFar m c⟩, ⟨S5x64x64, tileFar m c⟩, ⟨S5x64x64, tileFar m c⟩, ⟨S5x64x64, tileFar m c⟩, ⟨S5x64x64, tile6 m c⟩, ⟨S5x64x64, tile7 m c⟩, ⟨S5x64x64, tile8 m c⟩]
      concatenates_S5x64x64_S5x64x64_S5x64x64_S5x64x64_S5x64x64_S5x64x64_S5x64x64_S5x64x64_S5x64x64_S5x64x64_S5x64x64_S5x64x64_S5x64x768_d2 := by
  rw [← before3_tileFar, ← before3_tile6, ← before3_tile7, ← before3_tile8, ← before3_tileNone]
  unfold V
  simp (disch := decide) only [StableHlo.readAfter, StableHlo.nary_result']
  rfl

theorem group3_apply : (V m c main_v93 : S5x64x768.Idx → EReal) (ix3 h r e) = groupVal m c 3 h r e := by
  rw [group3_eq]
  refine tiles12 _ _ _ _ _ _ _ _ _ _ _ _ h r e _ ?_ ?_ ?_ ?_ ?_ ?_ ?_ ?_ ?_ ?_ ?_ ?_ <;> intro x hx
  · exact none_val m c 3 h r x e (by omega)
  · exact none_val m c 3 h r x e (by omega)
  · exact none_val m c 3 h r x e (by omega)
  · exact far_val m c 3 h r x e (by omega)
  · exact far_val m c 3 h r x e (by omega)
  · exact far_val m c 3 h r x e (by omega)
  · exact far_val m c 3 h r x e (by omega)
  · exact far_val m c 3 h r x e (by omega)
  · exact far_val m c 3 h r x e (by omega)
  · exact val6 m c 3 h r x e (by omega)
  · exact val7 m c 3 h r x e (by omega)
  · exact val8 m c 3 h r x e (by omega)

end Cert.KernelIdeal.Band
-- ==== Proof.BandBias.lean ====
/- The bias table, read at an index: the four groups of rows stacked, the columns before the start of the sequence masked in
   the tables of the first two blocks, and the three tables stacked. -/
module

public import proofs.«01_k».proof.Proof.BandTiles

@[expose] public section

set_option maxRecDepth 16384
set_option maxHeartbeats 1000000

noncomputable section

namespace Cert.KernelIdeal.Band

open Cert.KernelIdeal Cert.KernelIdeal.Gen Idealize.ShloMosaic Idealize.ShloMosaic.TcCoe Idealize.SL.Sem

variable (m : (ℓ : Loc nD τ sig) → Buf (Elt Ideal) ℓ) (c : Dev nD) (h : Fin 5) (r : Fin 256) (e : Fin 768)

/-! ## The unmasked table -/

/-- What the unmasked table holds at row `r`, column `e`. -/
def fullVal : EReal :=
  if 64 * (r.val / 64) ≤ e.val ∧ e.val < 64 * (r.val / 64) + 576 then rel m c h (clip (640 + r.val - e.val)) * log2e else ⊥

/-- Row `64 k + y` of groups stacked is row `y` of group `k`. -/
theorem group_piece (xs : List ((s : Shape) × (s.Idx → EReal))) (hc : Shape.Concatenates (xs.map (·.1)) S5x256x768 1) (k : ℕ)
    (hk : k < xs.length) (a : S5x64x768.Idx → EReal) (hx : xs[k] = ⟨S5x64x768, a⟩)
    (hpre : (((xs.take k).map (·.1)).map fun s => if h : s.rank = S5x256x768.rank then s.size (Fin.cast h.symm 1) else 0).sum = 64 * k)
    (y : Fin 64) (hy : r.val = 64 * k + y.val) :
    concatenate (α := EReal) S5x256x768 1 xs hc (ix3 h r e) = a (ix3 h y e) :=
  concatenate_apply_piece 1 xs hc (ix3 h r e) k hk S5x64x768 a hx rfl (64 * k) hpre (ix3 h y e)
    (fun b hb => match b with
      | ⟨0, _⟩ => rfl
      | ⟨1, _⟩ => absurd rfl hb
      | ⟨2, _⟩ => rfl)
    hy.symm

theorem before147_0 : StableHlo.upto (List.flatten [hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15])
    (fun b => m (c, b)) 145 (Proc.devRef .tc main_v90) = V m c main_v90 := by
  unfold V
  after_reads_simp

theorem before147_1 : StableHlo.upto (List.flatten [hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15])
    (fun b => m (c, b)) 145 (Proc.devRef .tc main_v91) = V m c main_v91 := by
  unfold V
  after_reads_simp

theorem before147_2 : StableHlo.upto (List.flatten [hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15])
    (fun b => m (c, b)) 145 (Proc.devRef .tc main_v92) = V m c main_v92 := by
  unfold V
  after_reads_simp

theorem before147_3 : StableHlo.upto (List.flatten [hostOps0, hostOps0_1, hostOps0_2, hostOps0_3, hostOps0_4, hostOps0_5, hostOps0_6,
    hostOps0_7, hostOps0_8, hostOps0_9, hostOps0_10, hostOps0_11, hostOps0_12, hostOps0_13, hostOps0_14, hostOps0_15])
    (fun b => m (c, b)) 145 (Proc.devRef .tc main_v93) = V m c main_v93 := by
  unfold V
  after_reads_simp

abbrev full : S5x256x768.Idx → EReal := V m c main_v94

theorem full_eq : full m c = concatenate (α := EReal) S5x256x768 1 [⟨S5x64x768, V m c main_v90⟩, ⟨S5x64x768, V m c main_v91⟩,
    ⟨S5x64x768, V m c main_v92⟩, ⟨S5x64x768, V m c main_v93⟩]
    concatenates_S5x64x768_S5x64x768_S5x64x768_S5x64x768_S5x256x768_d1 := by
  rw [← before147_0, ← before147_1, ← before147_2, ← before147_3]
  unfold full V
  simp (disch := decide) only [StableHlo.readAfter, StableHlo.nary_result']
  rfl

theorem group_full (k : ℕ) (y : Fin 64) (hy : r.val = 64 * k + y.val) : groupVal m c k h y e = fullVal m c h r e := by
  have hk : r.val / 64 = k := by omega
  unfold groupVal fullVal
  rw [hk, show 640 + 64 * k + y.val - e.val = 640 + r.val - e.val by omega]

theorem full_apply : full m c (ix3 h r e) = fullVal m c h r e := by
  rw [full_eq]
  have hr := r.isLt
  have hk : r.val / 64 < 4 := by omega
  generalize hq : r.val / 64 = q at hk
  match q, hk with
  | 0, _ =>
    exact ((group_piece h r e [⟨S5x64x768, V m c main_v90⟩, ⟨S5x64x768, V m c main_v91⟩, ⟨S5x64x768, V m c main_v92⟩, ⟨S5x64x768, V m c main_v93⟩] _ 0 (by show 0 < 4; omega) (V m c main_v90) rfl rfl
      ⟨r.val - 0, by omega⟩ (by show r.val = 64 * 0 + (r.val - 0); omega)).trans (group0_apply m c h _ e)).trans
      (group_full m c h r e 0 _ (by show r.val = 64 * 0 + (r.val - 0); omega))
  | 1, _ =>
    exact ((group_piece h r e [⟨S5x64x768, V m c main_v90⟩, ⟨S5x64x768, V m c main_v91⟩, ⟨S5x64x768, V m c main_v92⟩, ⟨S5x64x768, V m c main_v93⟩] _ 1 (by show 1 < 4; omega) (V m c main_v91) rfl rfl
      ⟨r.val - 64, by omega⟩ (by show r.val = 64 * 1 + (r.val - 64); omega)).trans (group1_apply m c h _ e)).trans
      (group_full m c h r e 1 _ (by show r.val = 64 * 1 + (r.val - 64); omega))
  | 2, _ =>
    exact ((group_piece h r e [⟨S5x64x768, V m c main_v90⟩, ⟨S5x64x768, V m c main_v91⟩, ⟨S5x64x768, V m c main_v92⟩, ⟨S5x64x768, V m c main_v93⟩] _ 2 (by show 2 < 4; omega) (V m c main_v92) rfl rfl
      ⟨r.val - 128, by omega⟩ (by show r.val = 64 * 2 + (r.val - 128); omega)).trans (group2_apply m c h _ e)).trans
      (group_full m c h r e 2 _ (by show r.val = 64 * 2 + (r.val - 128); omega))
  | 3, _ =>
    exact ((group_piece h r e [⟨S5x64x768, V m c main_v90⟩, ⟨S5x64x768, V m c main_v91⟩, ⟨S5x64x768, V m c main_v92⟩, ⟨S5x64x768, V m c main_v93⟩] _ 3 (by show 3 < 4; omega) (V m c main_v93) rfl rfl
      ⟨r.val - 192, by omega⟩ (by show r.val = 64 * 3 + (r.val - 192); omega)).trans (group3_apply m c h _ e)).trans
      (group_full m c h r e 3 _ (by show r.val = 64 * 3 + (r.val - 192); omega))

/-! ## The masks -/

theorem mask0 : ∀ k : Fin 768, lit0 k = if k.val < 512 then 1#1 else 0#1 := by decide +kernel
theorem mask1 : ∀ k : Fin 768, lit1 k = if k.val < 256 then 1#1 else 0#1 := by decide +kernel

abbrev masked0 : S5x256x768.Idx → EReal := V m c main_v95

theorem masked0_select : masked0 m c (ix3 h r e) =
    Scalar.select (lit0 (S1x1x768.rowMajor (ix3 0 0 e))) (Ideal.ofBits FTy.f32 4286578688#32) (full m c (ix3 h r e)) := by
  unfold masked0 full V
  after_reads_at
  rfl

theorem masked0_apply : masked0 m c (ix3 h r e) = if e.val < 512 then ⊥ else fullVal m c h r e := by
  have hi : S1x1x768.rowMajor (ix3 0 0 e) = e := by
    apply Fin.ext
    rw [Shape.rowMajor_val_three]
    show (0 * 1 + 0) * 768 + e.val = e.val
    omega
  rw [masked0_select, full_apply, hi, mask0, ofBits_negInf]
  by_cases he : e.val < 512
  · rw [if_pos he, if_pos he]; rfl
  · rw [if_neg he, if_neg he]; rfl

abbrev masked1 : S5x256x768.Idx → EReal := V m c main_v96

theorem masked1_select : masked1 m c (ix3 h r e) =
    Scalar.select (lit1 (S1x1x768.rowMajor (ix3 0 0 e))) (Ideal.ofBits FTy.f32 4286578688#32) (full m c (ix3 h r e)) := by
  unfold masked1 full V
  after_reads_at
  rfl

theorem masked1_apply : masked1 m c (ix3 h r e) = if e.val < 256 then ⊥ else fullVal m c h r e := by
  have hi : S1x1x768.rowMajor (ix3 0 0 e) = e := by
    apply Fin.ext
    rw [Shape.rowMajor_val_three]
    show (0 * 1 + 0) * 768 + e.val = e.val
    omega
  rw [masked1_select, full_apply, hi, mask1, ofBits_negInf]
  by_cases he : e.val < 256
  · rw [if_pos he, if_pos he]; rfl
  · rw [if_neg he, if_neg he]; rfl

/-! ## The three tables stacked -/

/-- One table as a stack of one. -/
def lift (y : S5x256x768.Idx → EReal) : S1x5x256x768.Idx → EReal :=
  broadcastInDim S1x5x256x768 ![1, 2, 3] bcast_S5x256x768_S1x5x256x768_1_2_3 y

theorem lift_apply (y : S5x256x768.Idx → EReal) : lift y (ix4 0 h r e) = y (ix3 h r e) := by
  unfold lift
  pointwise

theorem lifted0 : V m c main_v97 = lift (masked0 m c) := by
  unfold masked0 V lift
  after_reads_simp

theorem before_lifted0 : before m c 161 (Proc.devRef .tc main_v97) = V m c main_v97 := by
  unfold before V
  after_reads_simp

theorem lifted1 : V m c main_v98 = lift (masked1 m c) := by
  unfold masked1 V lift
  after_reads_simp

theorem before_lifted1 : before m c 161 (Proc.devRef .tc main_v98) = V m c main_v98 := by
  unfold before V
  after_reads_simp

theorem lifted2 : V m c main_v99 = lift (full m c) := by
  unfold full V lift
  after_reads_simp

theorem before_lifted2 : before m c 161 (Proc.devRef .tc main_v99) = V m c main_v99 := by
  unfold before V
  after_reads_simp

theorem table_eq : biasTable m c = concatenate (α := EReal) S3x5x256x768 0
    [⟨S1x5x256x768, V m c main_v97⟩, ⟨S1x5x256x768, V m c main_v98⟩, ⟨S1x5x256x768, V m c main_v99⟩]
    concatenates_S1x5x256x768_S1x5x256x768_S1x5x256x768_S3x5x256x768_d0 := by
  rw [← before_lifted0, ← before_lifted1, ← before_lifted2]
  unfold biasTable V
  simp (disch := decide) only [StableHlo.readAfter, StableHlo.nary_result']
  rfl

/-- Table `k` of a stack. -/
theorem table_piece (xs : List ((s : Shape) × (s.Idx → EReal))) (hc : Shape.Concatenates (xs.map (·.1)) S3x5x256x768 0) (k : ℕ)
    (hk : k < xs.length) (hk3 : k < 3) (a : S1x5x256x768.Idx → EReal) (hx : xs[k] = ⟨S1x5x256x768, a⟩)
    (hpre : (((xs.take k).map (·.1)).map fun s => if h : s.rank = S3x5x256x768.rank then s.size (Fin.cast h.symm 0) else 0).sum = k) :
    concatenate (α := EReal) S3x5x256x768 0 xs hc (ix4 ⟨k, hk3⟩ h r e) = a (ix4 0 h r e) :=
  concatenate_apply_piece 0 xs hc (ix4 ⟨k, hk3⟩ h r e) k hk S1x5x256x768 a hx rfl k hpre (ix4 0 h r e)
    (fun b hb => match b with
      | ⟨0, _⟩ => absurd rfl hb
      | ⟨1, _⟩ => rfl
      | ⟨2, _⟩ => rfl
      | ⟨3, _⟩ => rfl)
    rfl

theorem table0 (hk : 0 < 3) : biasTable m c (ix4 ⟨0, hk⟩ h r e) = masked0 m c (ix3 h r e) := by
  rw [table_eq]
  refine (table_piece h r e _ _ 0 (by show 0 < 3; omega) hk (V m c main_v97) rfl rfl).trans ?_
  rw [lifted0, lift_apply]

theorem table1 (hk : 1 < 3) : biasTable m c (ix4 ⟨1, hk⟩ h r e) = masked1 m c (ix3 h r e) := by
  rw [table_eq]
  refine (table_piece h r e _ _ 1 (by show 1 < 3; omega) hk (V m c main_v98) rfl rfl).trans ?_
  rw [lifted1, lift_apply]

theorem table2 (hk : 2 < 3) : biasTable m c (ix4 ⟨2, hk⟩ h r e) = full m c (ix3 h r e) := by
  rw [table_eq]
  refine (table_piece h r e _ _ 2 (by show 2 < 3; omega) hk (V m c main_v99) rfl rfl).trans ?_
  rw [lifted2, lift_apply]

/-- The bias table for the block standing `k` (0, 1, 2 or more) blocks from the start of the sequence. -/
theorem biasTable_apply (k : ℕ) (hk : k < 3) : biasTable m c (ix4 ⟨k, hk⟩ h r e) =
    if 64 * (r.val / 64) ≤ e.val ∧ e.val < 64 * (r.val / 64) + 576 ∧ 512 ≤ 256 * k + e.val then
      rel m c h (clip (640 + r.val - e.val)) * log2e else ⊥ := by
  match k, hk with
  | 0, _ =>
    refine ((table0 m c h r e _).trans (masked0_apply m c h r e)).trans ?_
    unfold fullVal
    split_ifs <;> first | rfl | omega
  | 1, _ =>
    refine ((table1 m c h r e _).trans (masked1_apply m c h r e)).trans ?_
    unfold fullVal
    split_ifs <;> first | rfl | omega
  | 2, _ =>
    refine ((table2 m c h r e _).trans (full_apply m c h r e)).trans ?_
    unfold fullVal
    split_ifs <;> first | rfl | omega

end Cert.KernelIdeal.Band
-- ==== Proof.BandSpec.lean ====
/- What the band attention computes, in plain functions: from the projected rows `P` (batch, position, column) and the relative
   bias `B` (head, distance), the gated softmax average of the values over a neighbourhood of nine chunks of 64 positions. -/
module

public import proofs.«01_k».proof.Proof.AttnMath

@[expose] public section

noncomputable section

namespace Cert.Band

open Idealize.ShloMosaic

variable (P : Fin 2 → Fin 16384 → Fin 7552 → EReal) (B : Fin 5 → Fin 257 → EReal)
variable (b : Fin 2) (h : Fin 5) (n : Fin 16384) (k : Fin 576) (d : Fin 128)

/-- Column `d` of head `h` in the group of columns starting at `o`. -/
def col (o : ℕ) (ho : o ≤ 4992) (h : Fin 5) (d : Fin 128) : Fin 7552 := ⟨o + (h.val * 128 + d.val), by omega⟩

/-- Key `k` of position `n`'s neighbourhood stands inside the sequence: its chunk, counted from eight chunks back, is not
    before the first. -/
def Inside : Prop := 8 ≤ n.val / 64 + k.val / 64

instance : Decidable (Inside n k) := inferInstanceAs (Decidable (8 ≤ n.val / 64 + k.val / 64))

/-- The position of key `k` of position `n`'s neighbourhood, which begins eight chunks before `n`'s own. -/
def keyPos : Fin 16384 := ⟨64 * (n.val / 64) + k.val - 512, by omega⟩

/-- The factor on the products of queries and keys: the f32 nearest to one over the square root of 128. -/
def scale : EReal := Ideal.ofBits FTy.f32 1035273459#32

/-- The column of the bias for query row `n` and key `k`: their distance, clipped to 128, counted from 128 ahead. -/
def distance : Fin 257 := ⟨min (640 + n.val % 64 - k.val) 256, by omega⟩

/-- The score of key `k` for position `n` in head `h`. -/
def score : EReal :=
  if Inside n k then
    (∑ e : Fin 128, P b n (col 3072 (by omega) h e) * P b (keyPos n k) (col 3712 (by omega) h e)) * scale + B h (distance n k)
  else ⊥

/-- The value of key `k`. -/
def value : EReal := if Inside n k then P b (keyPos n k) (col 4352 (by omega) h d) else 0

/-- `x` times its logistic function. -/
def silu (x : EReal) : EReal := x * Ideal.div 1 (1 + Ideal.exp (-x))

/-- Feature `d` of head `h` at position `n`. -/
def out : EReal := Attn.softRow (score P B b h n) (fun k => value P b h n k d) * silu (P b n (col 4992 (by omega) h d))

end Cert.Band
-- ==== Proof.BandEq.lean ====
/- The kernel's row and the reference's row of the band attention are equal, as extended reals. The kernel runs over 768 keys
   (three blocks of 256) and masks all but a band of 576 by −∞; its scores are the reference's times one over `log 2`. -/
module

public import proofs.«01_k».proof.Proof.BandSpec

@[expose] public section

noncomputable section

namespace Cert.Band

open Idealize.ShloMosaic

theorem scale_eq : ∃ s : ℝ, 0 ≤ s ∧ scale = (s : EReal) := by
  refine ⟨(11863283 : ℝ) * (2 : ℝ) ^ (-27 : ℤ), by positivity, ?_⟩
  unfold scale
  simp [Ideal.ofBits, Ideal.ieee]

theorem two_eq : Ideal.ofBits FTy.f32 1073741824#32 = ((2 : ℝ) : EReal) := by
  simp [Ideal.ofBits, Ideal.ieee]
  rw [← EReal.coe_mul]
  norm_num

/-- The factor the host computes is the real number one over `log 2`. -/
theorem log2e_eq : Ideal.div 1 (Ideal.log (Ideal.ofBits FTy.f32 1073741824#32)) = ((1 / Real.log 2 : ℝ) : EReal) := by
  have h2 : Real.log 2 ≠ 0 := (Real.log_pos (by norm_num)).ne'
  rw [two_eq, Ideal.log_coe, if_neg (by norm_num), Ideal.div_coe h2, one_mul]

/-- A sum of finitely many real numbers is real. -/
theorem sum_real {κ : Type} [Fintype κ] (f : κ → EReal) (hf : ∀ k, ∃ x : ℝ, f k = (x : EReal)) : ∃ x : ℝ, ∑ k, f k = (x : EReal) := by
  choose g hg using hf
  refine ⟨∑ k, g k, ?_⟩
  simp only [hg]
  classical
  have h : ∀ S : Finset κ, (∑ k ∈ S, (g k : EReal)) = ((∑ k ∈ S, g k : ℝ) : EReal) := fun S => by
    induction S using Finset.induction_on with
    | empty => simp
    | insert a S ha ih => rw [Finset.sum_insert ha, Finset.sum_insert ha, ih, EReal.coe_add]
  exact h _

variable (P : Fin 2 → Fin 16384 → Fin 7552 → EReal) (B : Fin 5 → Fin 257 → EReal)

/-- The columns of the queries and keys, and the bias, hold real numbers. -/
def RealScores : Prop :=
  (∀ b n (q : Fin 7552), 3072 ≤ q.val → q.val < 4352 → ∃ x : ℝ, P b n q = (x : EReal)) ∧ ∀ h n, ∃ x : ℝ, B h n = (x : EReal)

variable (b : Fin 2) (h : Fin 5) (n : Fin 16384)

/-- Every score inside the sequence is a real number. -/
theorem score_real (hR : RealScores P B) (k : Fin 576) (hk : Inside n k) : ∃ x : ℝ, score P B b h n k = (x : EReal) := by
  obtain ⟨s, -, hs⟩ := scale_eq
  obtain ⟨x, hx⟩ := sum_real (fun e : Fin 128 => P b n (col 3072 (by omega) h e) * P b (keyPos n k) (col 3712 (by omega) h e))
    (fun e => by
      obtain ⟨x, hx⟩ := hR.1 b n (col 3072 (by omega) h e) (by unfold col; dsimp only; omega) (by unfold col; dsimp only; omega)
      obtain ⟨y, hy⟩ := hR.1 b (keyPos n k) (col 3712 (by omega) h e) (by unfold col; dsimp only; omega) (by unfold col; dsimp only; omega)
      exact ⟨x * y, by rw [hx, hy, EReal.coe_mul]⟩)
  obtain ⟨y, hy⟩ := hR.2 h (distance n k)
  refine ⟨x * s + y, ?_⟩
  unfold score
  rw [if_pos hk, hx, hs, hy, ← EReal.coe_mul, ← EReal.coe_add]

/-- The key of the kernel's three blocks that key `k` of the neighbourhood is: the neighbourhood begins at the query's chunk
    inside its block of 256. -/
def place (r : Fin 256) (k : Fin 576) : Fin 3 × Fin 256 :=
  (⟨(64 * (r.val / 64) + k.val) / 256, by omega⟩, ⟨(64 * (r.val / 64) + k.val) % 256, by omega⟩)

theorem place_col (r : Fin 256) (k : Fin 576) : 256 * (place r k).1.val + (place r k).2.val = 64 * (r.val / 64) + k.val := by
  unfold place; dsimp only; omega

theorem place_injective (r : Fin 256) : Function.Injective (place r) := fun a a' h => by
  have h1 := place_col r a
  rw [h, place_col] at h1
  exact Fin.ext (by omega)

theorem mem_range_place (r : Fin 256) (i : Fin 3 × Fin 256) (h0 : 64 * (r.val / 64) ≤ 256 * i.1.val + i.2.val)
    (h1 : 256 * i.1.val + i.2.val < 64 * (r.val / 64) + 576) : i ∈ Set.range (place r) := by
  refine ⟨⟨256 * i.1.val + i.2.val - 64 * (r.val / 64), by omega⟩, ?_⟩
  obtain ⟨⟨j, hj⟩, ⟨x, hx⟩⟩ := i
  unfold place
  dsimp only at h0 h1 ⊢
  refine Prod.ext (Fin.ext ?_) (Fin.ext ?_) <;> dsimp only <;> omega

/-- The kernel's bias for query row `r` of a block that stands `s` blocks from the start, against key `i`. -/
def maskedBias (s : ℕ) (r : Fin 256) (i : Fin 3 × Fin 256) : EReal :=
  if 64 * (r.val / 64) ≤ 256 * i.1.val + i.2.val ∧ 256 * i.1.val + i.2.val < 64 * (r.val / 64) + 576
      ∧ 512 ≤ 256 * min s 2 + (256 * i.1.val + i.2.val) then
    B h ⟨min (640 + r.val - (256 * i.1.val + i.2.val)) 256, by omega⟩ * ((1 / Real.log 2 : ℝ) : EReal)
  else ⊥

/-- The kernel's score of key `i` at position `pos`. -/
def kernelScore (s : ℕ) (r : Fin 256) (pos : Fin 3 × Fin 256 → Fin 16384) (i : Fin 3 × Fin 256) : EReal :=
  (∑ e : Fin 128, P b n (col 3072 (by omega) h e) * (scale * ((1 / Real.log 2 : ℝ) : EReal)) * P b (pos i) (col 3712 (by omega) h e))
    + maskedBias B h s r i

theorem row_eq (hR : RealScores P B) (d : Fin 128) (s : ℕ) (r : Fin 256) (hn : n.val = 256 * s + r.val)
    (pos : Fin 3 × Fin 256 → Fin 16384) (hpos : ∀ i, (pos i).val = 256 * (s + i.1.val - 2) + i.2.val) :
    Attn.kernelRow (kernelScore P B b h n s r pos) (fun i => P b (pos i) (col 4352 (by omega) h d))
      = Attn.softRow (score P B b h n) (fun k => value P b h n k d) := by
  obtain ⟨sc, hsc0, hsc⟩ := scale_eq
  have hL : (0 : ℝ) < 1 / Real.log 2 := one_div_pos.mpr (Real.log_pos (by norm_num))
  have hp : ∀ k, Inside n k → pos (place r k) = keyPos n k := fun k hk => by
    have hc := place_col r k
    have := hpos (place r k)
    unfold Inside at hk
    refine Fin.ext ?_
    rw [this]
    unfold keyPos
    dsimp only
    omega
  refine Attn.kernelRow_eq_softRow (L := 1 / Real.log 2) rfl (place r) (place_injective r) _ _ _ _ ?_ ?_ ?_ ?_ ?_
  · intro k
    have hc := place_col r k
    unfold kernelScore maskedBias
    by_cases hk : Inside n k
    · rw [hp k hk]
      have hk' := hk
      unfold Inside at hk'
      rw [if_pos (by rw [hc]; omega)]
      unfold score
      rw [if_pos hk]
      have hd : (⟨min (640 + r.val - (256 * (place r k).1.val + (place r k).2.val)) 256, by omega⟩ : Fin 257) = distance n k :=
        Fin.ext (by unfold distance; dsimp only; omega)
      rw [hd, EReal.left_distrib_of_nonneg_of_ne_top (by exact_mod_cast hL.le) (EReal.coe_ne_top _), hsc, ← EReal.coe_mul,
        mul_comm (B h _)]
      congr 1
      rw [Finset.sum_congr rfl fun e _ => mul_right_comm _ _ _,
        ← Attn.sum_mul_coe _ (mul_nonneg hsc0 hL.le), EReal.coe_mul, ← mul_assoc, mul_comm]
    · have hk' := hk
      unfold Inside at hk'
      rw [if_neg (by rw [hc]; omega), EReal.add_bot]
      unfold score
      rw [if_neg hk, EReal.coe_mul_bot_of_pos hL]
  · intro i hi
    unfold kernelScore maskedBias
    rw [if_neg (fun hh => hi (mem_range_place r i hh.1 hh.2.1)), EReal.add_bot]
  · intro k hk
    have hin : Inside n k := by
      by_contra hc
      exact hk (by unfold score; rw [if_neg hc])
    unfold value
    rw [if_pos hin, hp k hin]
  · intro k
    by_cases hk : Inside n k
    · obtain ⟨x, hx⟩ := score_real P B b h n hR k hk
      rw [hx]; exact EReal.coe_ne_top x
    · unfold score
      rw [if_neg hk]; exact bot_ne_top
  · refine ⟨⟨512, by omega⟩, ?_⟩
    obtain ⟨x, hx⟩ := score_real P B b h n hR ⟨512, by omega⟩ (by unfold Inside; dsimp only; omega)
    rw [hx]; exact EReal.coe_ne_bot x

end Cert.Band
-- ==== Proof.BandKernel.lean ====
/- The kernel's result read at an index: row `M`, feature `d` of head `h`, is `Band.out` of the kernel's arguments, where the
   columns of the queries and keys and the bias are real numbers. -/
module

public import proofs.«01_k».proof.Proof.BandPacked
public import proofs.«01_k».proof.Proof.BandBias
public import proofs.«01_k».proof.Proof.BandEq

@[expose] public section

set_option maxRecDepth 16384
set_option maxHeartbeats 1000000

noncomputable section

namespace Cert.KernelIdeal.Band

open Cert.KernelIdeal Cert.KernelIdeal.Gen Idealize.ShloMosaic Idealize.ShloMosaic.TcCoe Idealize.SL.Sem
open Cert.Band (RealScores)

theorem three {α : Type} (f : Fin 3 → α) : ![f 0, f 1, f 2] = f := by
  funext j
  match j with
  | 0 => rfl
  | 1 => rfl
  | 2 => rfl

variable (m : (ℓ : Loc nD τ sig) → Buf (Elt Ideal) ℓ)
variable (c : Dev nD) (t : Fin cfg0.N) (u : Fin 2) (h : Fin 5) (r : Fin 256) (d : Fin 128)

/-- The position inside its sequence of row `r` of half `u` of point `t`. -/
def here : Fin 16384 := ⟨256 * (2 * (t.val % 32) + u.val) + r.val, by omega⟩

/-- The batch element point `t` works on. -/
def batch : Fin 2 := ⟨t.val / 32, by have := point_lt t; omega⟩

/-- The position of key `i` of the three blocks that half `u` of point `t` looks at. -/
def there (i : Fin 3 × Fin 256) : Fin 16384 := ⟨256 * (2 * (t.val % 32) + u.val + i.1.val - 2) + i.2.val, by
  have := i.1.isLt; have := i.2.isLt; omega⟩

theorem query_at (e : Fin 128) : rows512 (iblk m c 0 t) h u (ix3 0 r e)
    = proj m c (batch t) (here t u r) (Cert.Band.col 3072 (by omega) h e) * (Cert.Band.scale * ((1 / Real.log 2 : ℝ) : EReal)) := by
  have ht := point_lt t
  rw [q_rows m c t h u r e (by omega) (by omega), packed_q]
  have e1 : rowB ⟨512 * t.val + 256 * u.val + r.val, by omega⟩ = batch t := Fin.ext (by unfold batch; dsimp only; omega)
  have e2 : rowN ⟨512 * t.val + 256 * u.val + r.val, by omega⟩ = here t u r := Fin.ext (by unfold here; dsimp only; omega)
  have e3 : (⟨3072 + 128 * h.val + e.val, by omega⟩ : Fin 7552) = Cert.Band.col 3072 (by omega) h e :=
    Fin.ext (by unfold Cert.Band.col; dsimp only; omega)
  rw [e1, e2, e3]
  unfold log2e
  rw [Cert.Band.log2e_eq]
  rfl

theorem key_at (j : Fin 3) (x : Fin 256) (e : Fin 128) :
    window (iblk m c 1 t) (iblk m c 2 t) (iblk m c 3 t) h u j (ix3 0 x e)
      = proj m c (batch t) (there t u (j, x)) (Cert.Band.col 3712 (by omega) h e) := by
  have ht := point_lt t
  rw [k_window m c t h u j x e (by omega), packed_k]
  have e1 : rowB ⟨keyRow t u j x, keyRow_lt t u j x⟩ = batch t := Fin.ext (by unfold batch; dsimp only; unfold keyRow; omega)
  have e2 : rowN ⟨keyRow t u j x, keyRow_lt t u j x⟩ = there t u (j, x) := Fin.ext (by unfold there; dsimp only; unfold keyRow; omega)
  have e3 : (⟨3712 + 128 * h.val + e.val, by omega⟩ : Fin 7552) = Cert.Band.col 3712 (by omega) h e :=
    Fin.ext (by unfold Cert.Band.col; dsimp only; omega)
  rw [e1, e2, e3]

theorem value_at (j : Fin 3) (x : Fin 256) :
    window (iblk m c 4 t) (iblk m c 5 t) (iblk m c 6 t) h u j (ix3 0 x d)
      = proj m c (batch t) (there t u (j, x)) (Cert.Band.col 4352 (by omega) h d) := by
  have ht := point_lt t
  rw [v_window m c t h u j x d (by omega), packed_v]
  have e1 : rowB ⟨keyRow t u j x, keyRow_lt t u j x⟩ = batch t := Fin.ext (by unfold batch; dsimp only; unfold keyRow; omega)
  have e2 : rowN ⟨keyRow t u j x, keyRow_lt t u j x⟩ = there t u (j, x) := Fin.ext (by unfold there; dsimp only; unfold keyRow; omega)
  have e3 : (⟨4352 + 128 * h.val + d.val, by omega⟩ : Fin 7552) = Cert.Band.col 4352 (by omega) h d :=
    Fin.ext (by unfold Cert.Band.col; dsimp only; omega)
  rw [e1, e2, e3]

theorem gate_at : rows512 (iblk m c 7 t) h u (ix3 0 r d)
    = Cert.Band.silu (proj m c (batch t) (here t u r) (Cert.Band.col 4992 (by omega) h d)) := by
  have ht := point_lt t
  rw [g_rows m c t h u r d (by omega) (by omega), packed_g]
  have e1 : rowB ⟨512 * t.val + 256 * u.val + r.val, by omega⟩ = batch t := Fin.ext (by unfold batch; dsimp only; omega)
  have e2 : rowN ⟨512 * t.val + 256 * u.val + r.val, by omega⟩ = here t u r := Fin.ext (by unfold here; dsimp only; omega)
  have e3 : (⟨4992 + 128 * h.val + d.val, by omega⟩ : Fin 7552) = Cert.Band.col 4992 (by omega) h d :=
    Fin.ext (by unfold Cert.Band.col; dsimp only; omega)
  rw [e1, e2, e3]
  rfl

theorem bias_at (j : Fin 3) (x : Fin 256) :
    bias256 (![(iblk m c 8 t : Vec Ideal S1x5x256x768 .f32), iblk m c 9 t] u) h j (ix4 0 0 r x)
      = Cert.Band.maskedBias (rel m c) h (2 * (t.val % 32) + u.val) r (j, x) := by
  rw [bias_rows m c t h u j r x (by omega) (by omega), biasTable_apply]
  unfold Cert.Band.maskedBias log2e
  rw [Cert.Band.log2e_eq]
  rfl

/-- What point `t` leaves in its block. -/
theorem point_eq (hR : RealScores (proj m c) (rel m c)) (hr hd) :
    pointOut m c t (ix2 ⟨256 * u.val + r.val, hr⟩ ⟨128 * h.val + d.val, hd⟩)
      = Cert.Band.out (proj m c) (rel m c) (batch t) h (here t u r) d := by
  rw [show pointOut m c t = blockOut (iblk m c 0 t) (iblk m c 1 t) (iblk m c 2 t) (iblk m c 3 t) (iblk m c 4 t) (iblk m c 5 t)
    (iblk m c 6 t) (iblk m c 7 t) (iblk m c 8 t) (iblk m c 9 t) from rfl, blockOut_apply]
  unfold headOf
  rw [head_apply, three (window (iblk m c 1 t) (iblk m c 2 t) (iblk m c 3 t) h u),
    three (window (iblk m c 4 t) (iblk m c 5 t) (iblk m c 6 t) h u),
    three (bias256 (![(iblk m c 8 t : Vec Ideal S1x5x256x768 .f32), iblk m c 9 t] u) h), gate_at]
  unfold Cert.Band.out
  generalize Cert.Band.silu (proj m c (batch t) (here t u r) (Cert.Band.col 4992 (by omega) h d)) = G
  rw [← Cert.Band.row_eq (proj m c) (rel m c) (batch t) h (here t u r) hR d (2 * (t.val % 32) + u.val) r rfl (there t u) (fun i => rfl)]
  refine congrArg (fun y : EReal => y * G) (congrArg₂ Attn.kernelRow (funext fun i => ?_) (funext fun i => ?_))
  · obtain ⟨j, x⟩ := i
    dsimp only
    rw [bias_at]
    unfold Cert.Band.kernelScore
    refine congrArg (fun y : EReal => y + Cert.Band.maskedBias (rel m c) h (2 * (t.val % 32) + u.val) r (j, x))
      (Finset.sum_congr rfl fun e _ => ?_)
    rw [query_at, key_at]
  · exact value_at m c t u h d i.1 i.2

/-- The kernel's result. -/
theorem result_eq (hR : RealScores (proj m c) (rel m c)) (M : Fin 32768) (q : Fin 640) :
    ((dats m 0 c).arrAt 20 cfg0.N : S32768x640.Idx → EReal) (ix2 M q)
      = Cert.Band.out (proj m c) (rel m c) ⟨M.val / 16384, by omega⟩ ⟨q.val / 128, by omega⟩ ⟨M.val % 16384, by omega⟩
          ⟨q.val % 128, by omega⟩ := by
  have hN : M.val / 512 < cfg0.N := by rw [show cfg0.N = 64 from N_0]; omega
  have e := result_apply m c ⟨M.val / 512, hN⟩ ⟨256 * (M.val % 512 / 256) + M.val % 256, by omega⟩ q (by dsimp only; omega)
  have p := point_eq m c ⟨M.val / 512, hN⟩ ⟨M.val % 512 / 256, by omega⟩ ⟨q.val / 128, by omega⟩ ⟨M.val % 256, by omega⟩
    ⟨q.val % 128, by omega⟩ hR (by dsimp only; omega) (by dsimp only; omega)
  have eM : (⟨512 * (M.val / 512) + (256 * (M.val % 512 / 256) + M.val % 256), by omega⟩ : Fin 32768) = M := Fin.ext (by dsimp only; omega)
  have eq : (⟨128 * (q.val / 128) + q.val % 128, by omega⟩ : Fin 640) = q := Fin.ext (by dsimp only; omega)
  have eb : batch ⟨M.val / 512, hN⟩ = ⟨M.val / 16384, by omega⟩ := Fin.ext (by unfold batch; dsimp only; omega)
  have en : here ⟨M.val / 512, hN⟩ ⟨M.val % 512 / 256, by omega⟩ ⟨M.val % 256, by omega⟩ = ⟨M.val % 16384, by omega⟩ :=
    Fin.ext (by unfold here; dsimp only; omega)
  dsimp only at e p
  rw [eM] at e
  rw [eq, eb, en] at p
  exact e.trans p

end Cert.KernelIdeal.Band
-- ==== Proof.Finite.lean ====
/- What the precondition says: the columns of the queries and the keys, and the bias, hold real numbers. -/
module

public import proofs.«01_k».proof.Pre_finite_scores
public import proofs.«01_k».proof.Proof.BandEq
public import Idealize.ShloMosaic.Lib.ReduceAll
public import Idealize.ShloMosaic.Lib.Pipeline.ValueKit

@[expose] public section

set_option maxRecDepth 16384

noncomputable section

namespace Cert.Pre_finite_scores

open Idealize.ShloMosaic

theorem ofBits_inf : Ideal.ofBits .f32 0x7F800000#32 = (⊤ : EReal) := by
  simp [Ideal.ofBits]; decide

/-- An extended real whose absolute value is below `+∞` is a real number. -/
theorem real_of_abs_lt (x : EReal) (h : FloatOps.cmpf (F := Ideal) (φ := .f32) .olt (FloatOps.hostAbsf (F := Ideal) (φ := .f32) x) (Ideal.ofBits .f32 0x7F800000#32) = 1#1) :
    ∃ y : ℝ, x = (y : EReal) := by
  induction x with
  | bot => rw [ofBits_inf] at h; exact absurd h (by simp [FloatOps.cmpf, FloatOps.hostAbsf, FloatOps.absf, Ideal.cmp])
  | top => rw [ofBits_inf] at h; exact absurd h (by simp [FloatOps.cmpf, FloatOps.hostAbsf, FloatOps.absf, Ideal.cmp])
  | coe y => exact ⟨y, rfl⟩

variable [Facts]

instance : Subsingleton S_.Idx := ⟨fun a b => funext fun i => i.elim0⟩

theorem real_of_fn (x0 : FVec Ideal S2x16384x7552 .f32) (x1 : FVec Ideal S5x257 .f32) (h : fn x0 x1 = fun _ => 1#1) :
    Cert.Band.RealScores (fun b n q => x0 (ix3 b n q)) (fun h n => x1 (ix2 h n)) := by
  have h0 := congrFun h (Shape.Idx.first Facts.h_S_)
  dsimp only [fn] at h0
  have h1 := IntOp.andi_eq_one.1 h0
  refine ⟨fun b n q hq hq' => ?_, fun g n => ?_⟩
  · have := Host.reduce_andi_all _ _ _ _ _ h1.1 (ix3 b n ⟨q.val - 3072, by omega⟩)
    have e : (⟨3072 + (q.val - 3072), by omega⟩ : Fin 7552) = q := Fin.ext (by dsimp only; omega)
    refine real_of_abs_lt _ ?_
    rw [← this]
    pointwise
    rw [e]
  · have := Host.reduce_andi_all _ _ _ _ _ h1.2 (ix2 g n)
    exact real_of_abs_lt _ this

end Cert.Pre_finite_scores
-- ==== Proof.RefGather.lean ====
/- The reference's lookups read at an index: the neighbourhood of nine chunks, the bias by distance, and which keys of the
   neighbourhood stand inside the sequence. -/
module

public import proofs.«01_k».proof.Proof.Gen.ReferenceIdeal.Read
public import Idealize.ShloMosaic.Lib.ValueIdxRank6
public import Idealize.ShloMosaic.Lib.Pointwise

@[expose] public section

set_option maxRecDepth 16384
set_option maxHeartbeats 1000000

noncomputable section

namespace Cert.ReferenceIdeal.Band

open Cert.ReferenceIdeal Cert.ReferenceIdeal.Gen Cert.ReferenceIdeal.Read Idealize.ShloMosaic Idealize.ShloMosaic.TcCoe Idealize.SL.Sem

/-! ## Small integer facts -/

theorem chunk_word : ∀ (a : Fin 256) (b : Fin 9),
    IntOp.addi (BitVec.ofNat 32 a.val) (BitVec.ofNat 32 b.val) = BitVec.ofNat 32 (a.val + b.val)
    ∧ (BitVec.ofNat 32 (a.val + b.val)).toInt.toNat = a.val + b.val
    ∧ IntOp.cmpi .slt (BitVec.ofNat 32 (a.val + b.val)) 0#32 = 0#1 := by decide +kernel

/-- The bias table's column for a distance (counted from 64 positions ahead). -/
def biasWord (s : BitVec 32) : BitVec 32 :=
  let c := IntOp.addi (IntOp.minsi 128#32 (IntOp.maxsi 4294967168#32 s)) 128#32
  Scalar.select (IntOp.cmpi .slt c 0#32) (IntOp.addi c 257#32) c

theorem bias_word : ∀ n : Fin 640, min (biasWord (IntOp.subi (BitVec.ofNat 32 n.val) 64#32)).toInt.toNat 256 = min (n.val + 64) 256 := by
  decide +kernel

theorem distance_word (r : Fin 64) (k : Fin 576) :
    IntOp.subi (BitVec.ofNat 32 r.val) (IntOp.subi (BitVec.ofNat 32 k.val) 512#32)
      = IntOp.subi (BitVec.ofNat 32 (r.val + 576 - k.val)) 64#32 := by
  have hr := r.isLt
  have hk := k.isLt
  unfold IntOp.subi
  bv_omega

/-- A key's chunk among the nine: floor division by 64. -/
def chunkWord (k : BitVec 32) : BitVec 32 :=
  Scalar.select
    (IntOp.andi
      (IntOp.cmpi .ne (signi (s := S_) (fun _ => k) ix0) (signi (s := S_) (fun _ => 64#32) ix0))
      (IntOp.cmpi .ne (IntOp.remsi ArithUnit.host k 64#32) 0#32))
    (IntOp.subi (IntOp.divsi ArithUnit.host k 64#32) 1#32)
    (IntOp.divsi ArithUnit.host k 64#32)

theorem chunkWord_eq : ∀ k : Fin 576, chunkWord (BitVec.ofNat 32 k.val) = BitVec.ofNat 32 (k.val / 64) := by decide +kernel

theorem valid_word : ∀ (n : Fin 256) (w : Fin 9),
    IntOp.cmpi .sge (IntOp.addi (BitVec.ofNat 32 n.val) (BitVec.ofNat 32 w.val)) 8#32 = if 8 ≤ n.val + w.val then 1#1 else 0#1 := by
  decide +kernel

theorem gather_chunk (x : S2x5x264x64x128.Idx → EReal) (idx : IVec S256x9x1 32) (b : Fin 2) (h : Fin 5) (n : Fin 256) (w : Fin 9)
    (r : Fin 64) (d : Fin 128) :
    Host.gather gather_S2x5x264x64x128_S256x9x1_S2x5x256x9x64x128_0145_2_n_n_2_2_25164128 x idx (ix6 b h n w r d)
      = x (ix5 b h ⟨min (idx (ix3 n w 0)).toInt.toNat 263, by omega⟩ r d) := by
  unfold Host.gather
  congr 1
  funext a
  apply Fin.ext
  match a with
  | ⟨0, _⟩ => exact Nat.zero_add _
  | ⟨1, _⟩ => exact Nat.zero_add _
  | ⟨2, _⟩ =>
    show GatherDims.start _ _ _ 2 + 0 + 0 = _
    unfold GatherDims.start
    rw [dif_pos (show (2 : Fin S2x5x264x64x128.rank) ∈
      gather_S2x5x264x64x128_S256x9x1_S2x5x256x9x64x128_0145_2_n_n_2_2_25164128.startIndexMap from List.mem_singleton.mpr rfl)]
    have hsi : ∀ hc, gather_S2x5x264x64x128_S256x9x1_S2x5x256x9x64x128_0145_2_n_n_2_2_25164128.siIdx (ix6 b h n w r d) ⟨0, hc⟩ = ix3 n w 0 := by
      intro hc
      funext b
      apply Fin.ext
      match b with
      | ⟨0, _⟩ => rfl
      | ⟨1, _⟩ => rfl
      | ⟨2, _⟩ => rfl
    exact congrArg (fun y => min (idx y).toInt.toNat _) (hsi _)
  | ⟨3, _⟩ => exact Nat.zero_add _
  | ⟨4, _⟩ => exact Nat.zero_add _

theorem gather_bias (x : S5x257.Idx → EReal) (idx : IVec S64x576x1 32) (h : Fin 5) (r : Fin 64) (k : Fin 576) :
    Host.gather gather_S5x257_S64x576x1_S5x64x576_0_1_n_n_1_2_51 x idx (ix3 h r k)
      = x (ix2 h ⟨min (idx (ix3 r k 0)).toInt.toNat 256, by omega⟩) := by
  unfold Host.gather
  congr 1
  funext a
  apply Fin.ext
  match a with
  | ⟨0, _⟩ => exact Nat.zero_add _
  | ⟨1, _⟩ =>
    show GatherDims.start _ _ _ 1 + 0 + 0 = _
    unfold GatherDims.start
    rw [dif_pos (show (1 : Fin S5x257.rank) ∈
      gather_S5x257_S64x576x1_S5x64x576_0_1_n_n_1_2_51.startIndexMap from List.mem_singleton.mpr rfl)]
    have hsi : ∀ hc, gather_S5x257_S64x576x1_S5x64x576_0_1_n_n_1_2_51.siIdx (ix3 h r k) ⟨0, hc⟩ = ix3 r k 0 := by
      intro hc
      funext b
      apply Fin.ext
      match b with
      | ⟨0, _⟩ => rfl
      | ⟨1, _⟩ => rfl
      | ⟨2, _⟩ => rfl
    exact congrArg (fun y => min (idx y).toInt.toNat _) (hsi _)

/-! ## The words the lookups read -/

theorem v24 (n : Fin 256) (w : Fin 9) : val_main_v24 (F := Ideal) (ix2 n w) = IntOp.addi (BitVec.ofNat 32 n.val) (BitVec.ofNat 32 w.val) := by
  pointwise [val_main_v24, val_main_v22, val_main_v23, val_main_v19, val_main_v21, val_main_v18, val_main_v20]

theorem v31 (n : Fin 256) (w : Fin 9) : val_main_v31 (F := Ideal) (ix3 n w 0) = BitVec.ofNat 32 (n.val + w.val) := by
  have h : val_main_v31 (F := Ideal) (ix3 n w 0) = Scalar.select (IntOp.cmpi .slt (val_main_v24 (F := Ideal) (ix2 n w)) 0#32)
      (IntOp.addi (val_main_v24 (F := Ideal) (ix2 n w)) 264#32) (val_main_v24 (F := Ideal) (ix2 n w)) := by
    pointwise [val_main_v31, val_main_v30, val_main_v29, val_main_v28, val_main_v27, val_main_v26, val_main_c_0, val_main_c_1]
  rw [h, v24, (chunk_word n w).1, (chunk_word n w).2.2]
  rfl

theorem v60 (r : Fin 64) (k : Fin 576) :
    min (val_main_v60 (F := Ideal) (ix3 r k 0)).toInt.toNat 256 = min (640 + r.val - k.val) 256 := by
  have hr := r.isLt
  have hk := k.isLt
  have h : val_main_v60 (F := Ideal) (ix3 r k 0)
      = biasWord (IntOp.subi (BitVec.ofNat 32 r.val) (IntOp.subi (BitVec.ofNat 32 k.val) 512#32)) := by
    pointwise [val_main_v60, val_main_v59, val_main_v58, val_main_v57, val_main_v56, val_main_v55, val_main_v54, val_main_v53,
      val_main_v52, val_main_call2_v4, val_main_call2_v3, val_main_call2_v2, val_main_call2_v1, val_main_call2_v0, val_main_v51,
      val_main_v50, val_main_v49, val_main_v48, val_main_v47, val_main_v46, val_main_v45, val_main_v44, val_main_v43, val_main_c_5,
      val_main_c_6, val_main_c_7, val_main_c_8, val_main_c_9, val_main_c_10]
    simp only [id_eq, constantI]
    unfold biasWord
    with_reducible rfl
  rw [h, distance_word]
  refine (bias_word ⟨r.val + 576 - k.val, by omega⟩).trans ?_
  show min (r.val + 576 - k.val + 64) 256 = _
  omega

theorem v71 (n : Fin 256) (k : Fin 576) :
    val_main_v71 (F := Ideal) (ix2 n k) = if 8 ≤ n.val + k.val / 64 then 1#1 else 0#1 := by
  have hk := k.isLt
  have h : val_main_v71 (F := Ideal) (ix2 n k)
      = IntOp.cmpi .sge (IntOp.addi (BitVec.ofNat 32 n.val) (chunkWord (BitVec.ofNat 32 k.val))) 8#32 := by
    pointwise [val_main_v71, val_main_v70, val_main_v69, val_main_v68, val_main_v67, val_main_v66, val_main_v65, val_main_v64,
      val_main_v63, val_main_v62, val_main_call3_v13, val_main_call3_v12, val_main_call3_v11, val_main_call3_v10, val_main_call3_v9,
      val_main_call3_v8, val_main_call3_v7, val_main_call3_v6, val_main_call3_v5, val_main_call3_v4, val_main_call3_v3,
      val_main_call3_v2, val_main_call3_v1, val_main_call3_v0, val_main_call3_c, val_main_call3_c_0, val_main_c_11, val_main_c_12]
    simp only [id_eq, constantI]
    unfold chunkWord signi
    beta_reduce
    with_reducible congr
    rfl
  rw [h, chunkWord_eq]
  exact valid_word n ⟨k.val / 64, by omega⟩

/-! ## The neighbourhood of keys and values -/

variable (x0 : (⟨S2x16384x7552, .f32⟩ : BufTy).Contents (Elt Ideal)) (x1 : (⟨S5x257, .f32⟩ : BufTy).Contents (Elt Ideal))
variable (b : Fin 2) (h : Fin 5) (n : Fin 256) (r : Fin 64) (k : Fin 576) (d : Fin 128)

theorem v61 : val_main_v61 (F := Ideal) x1 (ix3 h r k) = x1 (ix2 h ⟨min (640 + r.val - k.val) 256, by omega⟩) := by
  exact (gather_bias x1 val_main_v60 h r k).trans (congrArg (fun j => x1 (ix2 h j)) (Fin.ext (v60 r k)))

theorem zero_word : FloatOps.sitofp (F := Ideal) FTy.f32 (0#32 : BitVec 32) = (0 : EReal) := by
  show ((((0#32 : BitVec 32).toInt : ℤ) : ℝ) : EReal) = 0
  simp

theorem v25 (c : Fin 264) : val_main_v25 (F := Ideal) x0 (ix5 b h c r d)
    = if hc : 8 ≤ c.val ∧ c.val - 8 < 256 then x0 (ix3 b ⟨(c.val - 8) * 64 + r.val, by omega⟩ ⟨3712 + (h.val * 128 + d.val), by omega⟩)
      else 0 := by
  rw [← zero_word]
  pointwise [val_main_v25, val_main_call0_v0, val_main_c, val_main_v15, val_main_v14, val_main_v5]

theorem v34 (c : Fin 264) : val_main_v34 (F := Ideal) x0 (ix5 b h c r d)
    = if hc : 8 ≤ c.val ∧ c.val - 8 < 256 then x0 (ix3 b ⟨(c.val - 8) * 64 + r.val, by omega⟩ ⟨4352 + (h.val * 128 + d.val), by omega⟩)
      else 0 := by
  rw [← zero_word]
  pointwise [val_main_v34, val_main_call1_v0, val_main_c_2, val_main_v17, val_main_v16, val_main_v6]

theorem v40 (n : Fin 256) (w : Fin 9) : val_main_v40 (F := Ideal) (ix3 n w 0) = BitVec.ofNat 32 (n.val + w.val) := by
  have h : val_main_v40 (F := Ideal) (ix3 n w 0) = Scalar.select (IntOp.cmpi .slt (val_main_v24 (F := Ideal) (ix2 n w)) 0#32)
      (IntOp.addi (val_main_v24 (F := Ideal) (ix2 n w)) 264#32) (val_main_v24 (F := Ideal) (ix2 n w)) := by
    pointwise [val_main_v40, val_main_v39, val_main_v38, val_main_v37, val_main_v36, val_main_v35, val_main_c_3, val_main_c_4]
  rw [h, v24, (chunk_word n w).1, (chunk_word n w).2.2]
  rfl

theorem v33 : val_main_v33 (F := Ideal) x0 (ix5 b h n k d)
    = if 8 ≤ n.val + k.val / 64 then x0 (ix3 b ⟨64 * n.val + k.val - 512, by omega⟩ ⟨3712 + (h.val * 128 + d.val), by omega⟩) else 0 := by
  have hk := k.isLt
  have hr : val_main_v33 (F := Ideal) x0 (ix5 b h n k d)
      = val_main_v32 (F := Ideal) x0 (ix6 b h n ⟨k.val / 64, by omega⟩ ⟨k.val % 64, by omega⟩ d) := by
    pointwise [val_main_v33]
  have hw := (chunk_word n ⟨k.val / 64, by omega⟩).2.1
  rw [hr]
  unfold val_main_v32
  rw [gather_chunk, v25]
  simp only [v31, hw]
  by_cases hv : 8 ≤ n.val + k.val / 64
  · rw [dif_pos (by omega), if_pos hv]
    congr 2
    apply Fin.ext
    show (min (n.val + k.val / 64) 263 - 8) * 64 + k.val % 64 = 64 * n.val + k.val - 512
    omega
  · rw [dif_neg (by omega), if_neg hv]

theorem v42 : val_main_v42 (F := Ideal) x0 (ix5 b h n k d)
    = if 8 ≤ n.val + k.val / 64 then x0 (ix3 b ⟨64 * n.val + k.val - 512, by omega⟩ ⟨4352 + (h.val * 128 + d.val), by omega⟩) else 0 := by
  have hk := k.isLt
  have hr : val_main_v42 (F := Ideal) x0 (ix5 b h n k d)
      = val_main_v41 (F := Ideal) x0 (ix6 b h n ⟨k.val / 64, by omega⟩ ⟨k.val % 64, by omega⟩ d) := by
    pointwise [val_main_v42]
  have hw := (chunk_word n ⟨k.val / 64, by omega⟩).2.1
  rw [hr]
  unfold val_main_v41
  rw [gather_chunk, v34]
  simp only [v40, hw]
  by_cases hv : 8 ≤ n.val + k.val / 64
  · rw [dif_pos (by omega), if_pos hv]
    congr 2
    apply Fin.ext
    show (min (n.val + k.val / 64) 263 - 8) * 64 + k.val % 64 = 64 * n.val + k.val - 512
    omega
  · rw [dif_neg (by omega), if_neg hv]

end Cert.ReferenceIdeal.Band
-- ==== Proof.RefRead.lean ====
/- The reference read at an index: position `M` of the two sequences end to end, feature `d` of head `h`, is `Band.out` of the
   reference's arguments. -/
module

public import proofs.«01_k».proof.Proof.RefGather
public import proofs.«01_k».proof.Proof.BandSpec

@[expose] public section

set_option maxRecDepth 16384
set_option maxHeartbeats 1000000

noncomputable section

namespace Cert.ReferenceIdeal.Band

open Cert.ReferenceIdeal Cert.ReferenceIdeal.Gen Cert.ReferenceIdeal.Read Idealize.ShloMosaic Idealize.ShloMosaic.TcCoe Idealize.SL.Sem

variable (x0 : (⟨S2x16384x7552, .f32⟩ : BufTy).Contents (Elt Ideal)) (x1 : (⟨S5x257, .f32⟩ : BufTy).Contents (Elt Ideal))
variable (b : Fin 2) (h : Fin 5) (c : Fin 256) (r : Fin 64) (k : Fin 576) (d : Fin 128)

abbrev P (x0 : (⟨S2x16384x7552, .f32⟩ : BufTy).Contents (Elt Ideal)) : Fin 2 → Fin 16384 → Fin 7552 → EReal := fun b n q => x0 (ix3 b n q)
abbrev B (x1 : (⟨S5x257, .f32⟩ : BufTy).Contents (Elt Ideal)) : Fin 5 → Fin 257 → EReal := fun h n => x1 (ix2 h n)

/-- Row `r` of chunk `c`. -/
def pos (c : Fin 256) (r : Fin 64) : Fin 16384 := ⟨64 * c.val + r.val, by omega⟩

theorem v13 : val_main_v13 (F := Ideal) x0 (ix5 b h c r d) = P x0 b (pos c r) (Band.col 3072 (by omega) h d) := by
  have hr : val_main_v13 (F := Ideal) x0 (ix5 b h c r d) = x0 (ix3 b ⟨c.val * 64 + r.val, by omega⟩ ⟨3072 + (h.val * 128 + d.val), by omega⟩) := by
    pointwise [val_main_v13, val_main_v12, val_main_v4]
  rw [hr]
  have key : ∀ hq, (⟨c.val * 64 + r.val, hq⟩ : Fin 16384) = pos c r := fun _ => Fin.ext (by show c.val * 64 + r.val = 64 * c.val + r.val; omega)
  rw [key]
  rfl

theorem ofBits_negInf : Ideal.ofBits .f32 0xFF800000#32 = (⊥ : EReal) := by
  simp [Ideal.ofBits]; decide

theorem v79 : val_main_v79 (F := Ideal) x0 x1 (ix5 b h c r k) = Band.score (P x0) (B x1) b h (pos c r) k := by
  have hr : val_main_v79 (F := Ideal) x0 x1 (ix5 b h c r k)
      = Scalar.select (val_main_v71 (F := Ideal) (ix2 c k))
          ((∑ e : Fin 128, val_main_v13 (F := Ideal) x0 (ix5 b h c r e) * val_main_v33 (F := Ideal) x0 (ix5 b h c k e))
              * Ideal.ofBits FTy.f32 0x3DB504F3#32 + val_main_v61 (F := Ideal) x1 (ix3 h r k))
          (Ideal.ofBits FTy.f32 0xFF800000#32) := by
    unfold val_main_v79 val_main_v77 val_main_v76 val_main_v75 val_main_v74 val_main_v72 val_main_call4_v1 val_main_v78
    generalize val_main_v13 (F := Ideal) x0 = y13
    generalize val_main_v33 (F := Ideal) x0 = y33
    generalize val_main_v61 (F := Ideal) x1 = y61
    generalize val_main_v71 (F := Ideal) = y71
    pointwise [val_main_call4_v2, val_main_call4_v0, val_main_cst_13, val_main_v73, val_main_cst]
    rfl
  have e1 : (pos c r).val / 64 = c.val := by show (64 * c.val + r.val) / 64 = _; omega
  have e2 : (pos c r).val % 64 = r.val := by show (64 * c.val + r.val) % 64 = _; omega
  rw [hr, v71, ofBits_negInf, v61]
  unfold Band.score Band.Inside Band.distance Band.scale Band.keyPos
  simp only [e1, e2, v13, v33]
  by_cases hv : 8 ≤ c.val + k.val / 64
  · simp only [if_pos hv]
    rfl
  · simp only [if_neg hv]
    rfl

theorem fold_max (f : Fin 576 → EReal) : Finset.univ.fold max (⊥ : EReal) f = ⨆ k, f k := by
  rw [← Finset.sup_univ_eq_iSup]
  rfl

theorem v80 : val_main_v80 (F := Ideal) x0 x1 (ix4 b h c r) = ⨆ k, val_main_v79 (F := Ideal) x0 x1 (ix5 b h c r k) := by
  unfold val_main_v80 val_main_cst_14
  generalize val_main_v79 (F := Ideal) x0 x1 = y
  pointwise
  rw [ofBits_negInf, fold_max]

theorem v82 : val_main_v82 (F := Ideal) x0 x1 (ix4 b h c r) = val_main_v80 (F := Ideal) x0 x1 (ix4 b h c r) := by
  have hb : val_main_v81 (F := Ideal) (ix4 b h c r) = (⊥ : EReal) := by
    unfold val_main_v81 val_main_cst_15
    pointwise
    exact ofBits_negInf
  rw [val_main_v82_apply, hb]
  generalize val_main_v80 (F := Ideal) x0 x1 (ix4 b h c r) = y
  exact max_eq_right bot_le

theorem v84 : val_main_v84 (F := Ideal) x0 x1 (ix5 b h c r k) = val_main_v82 (F := Ideal) x0 x1 (ix4 b h c r) := by
  unfold val_main_v84 val_main_v83
  generalize val_main_v82 (F := Ideal) x0 x1 = z
  pointwise

theorem v86 : val_main_v86 (F := Ideal) x0 x1 (ix5 b h c r k)
    = Ideal.exp (val_main_v79 (F := Ideal) x0 x1 (ix5 b h c r k) - val_main_v80 (F := Ideal) x0 x1 (ix4 b h c r)) := by
  rw [← v82, ← v84 x0 x1 b h c r k]
  unfold val_main_v86 val_main_v85
  generalize val_main_v79 (F := Ideal) x0 x1 = y
  generalize val_main_v84 (F := Ideal) x0 x1 = z
  pointwise

theorem v87 : val_main_v87 (F := Ideal) x0 x1 (ix4 b h c r) = ∑ k, val_main_v86 (F := Ideal) x0 x1 (ix5 b h c r k) := by
  unfold val_main_v87
  generalize val_main_v86 (F := Ideal) x0 x1 = y
  pointwise [val_main_cst_16]

theorem v90 : val_main_v90 (F := Ideal) x0 x1 (ix5 b h c r k)
    = Ideal.div (val_main_v86 (F := Ideal) x0 x1 (ix5 b h c r k)) (val_main_v87 (F := Ideal) x0 x1 (ix4 b h c r)) := by
  unfold val_main_v90 val_main_v89 val_main_v88
  generalize val_main_v86 (F := Ideal) x0 x1 = y
  generalize val_main_v87 (F := Ideal) x0 x1 = z
  pointwise

theorem v91_sum : val_main_v91 (F := Ideal) x0 x1 (ix5 b h c r d)
    = ∑ k, val_main_v90 (F := Ideal) x0 x1 (ix5 b h c r k) * val_main_v42 (F := Ideal) x0 (ix5 b h c k d) := by
  unfold val_main_v91
  generalize val_main_v90 (F := Ideal) x0 x1 = y
  generalize val_main_v42 (F := Ideal) x0 = z
  pointwise

theorem v42_value : val_main_v42 (F := Ideal) x0 (ix5 b h c k d) = Band.value (P x0) b h (pos c r) k d := by
  have e1 : (pos c r).val / 64 = c.val := by show (64 * c.val + r.val) / 64 = _; omega
  rw [v42]
  unfold Band.value Band.Inside Band.keyPos
  simp only [e1]
  rfl

theorem v91 : val_main_v91 (F := Ideal) x0 x1 (ix5 b h c r d)
    = Attn.softRow (Band.score (P x0) (B x1) b h (pos c r)) (fun k => Band.value (P x0) b h (pos c r) k d) := by
  rw [v91_sum]
  unfold Attn.softRow
  simp only [v90, v87, v86, v80, v79, v42_value x0 b h c r]

theorem v94 (n : Fin 16384) (q : Fin 640) :
    val_main_v94 (F := Ideal) x0 (ix3 b n q) = Band.silu (x0 (ix3 b n ⟨4992 + q.val, by omega⟩)) := by
  have h7 : val_main_v7 (F := Ideal) x0 (ix3 b n q) = x0 (ix3 b n ⟨4992 + q.val, by omega⟩) := by
    pointwise [val_main_v7]
  rw [← h7]
  unfold val_main_v94 val_main_call5_v5 val_main_call5_v3 val_main_call5_v1 val_main_call5_v0 Band.silu
  generalize val_main_v7 (F := Ideal) x0 = y
  pointwise [val_main_call5_v4, val_main_call5_v2, val_main_call5_cst, val_main_call5_cst_0]

theorem v93 (n : Fin 16384) (q : Fin 640) : val_main_v93 (F := Ideal) x0 x1 (ix3 b n q)
    = val_main_v91 (F := Ideal) x0 x1 (ix5 b ⟨q.val / 128, by omega⟩ ⟨n.val / 64, by omega⟩ ⟨n.val % 64, by omega⟩
        ⟨q.val % 128, by omega⟩) := by
  unfold val_main_v93 val_main_v92
  generalize val_main_v91 (F := Ideal) x0 x1 = y
  pointwise

theorem v96 (M : Fin 32768) (q : Fin 640) : val_main_v96 (F := Ideal) x0 x1 (ix2 M q)
    = val_main_v95 (F := Ideal) x0 x1 (ix3 ⟨M.val / 16384, by omega⟩ ⟨M.val % 16384, by omega⟩ q) := by
  unfold val_main_v96
  generalize val_main_v95 (F := Ideal) x0 x1 = y
  pointwise

theorem v97 (M : Fin 32768) (q : Fin 640) : val_main_v97 (F := Ideal) x0 x1 (ix2 M q) = val_main_v96 (F := Ideal) x0 x1 (ix2 M q) := by
  unfold val_main_v97
  generalize val_main_v96 (F := Ideal) x0 x1 = y
  rfl

theorem v95 (n : Fin 16384) (q : Fin 640) : val_main_v95 (F := Ideal) x0 x1 (ix3 b n q)
    = val_main_v93 (F := Ideal) x0 x1 (ix3 b n q) * val_main_v94 (F := Ideal) x0 (ix3 b n q) := by
  rw [val_main_v95_apply]
  generalize val_main_v93 (F := Ideal) x0 x1 (ix3 b n q) = y
  generalize val_main_v94 (F := Ideal) x0 (ix3 b n q) = z
  rfl

/-- The reference's result, as the plain function of its arguments. -/
theorem result_apply (M : Fin 32768) (q : Fin 640) : val_main_v97 (F := Ideal) x0 x1 (ix2 M q)
    = Band.out (P x0) (B x1) ⟨M.val / 16384, by omega⟩ ⟨q.val / 128, by omega⟩ ⟨M.val % 16384, by omega⟩ ⟨q.val % 128, by omega⟩ := by
  rw [v97, v96, v95, v93, v91, v94]
  have e1 : pos ⟨M.val % 16384 / 64, by omega⟩ ⟨M.val % 16384 % 64, by omega⟩ = (⟨M.val % 16384, by omega⟩ : Fin 16384) :=
    Fin.ext (by show 64 * (M.val % 16384 / 64) + M.val % 16384 % 64 = M.val % 16384; omega)
  have e2 : (⟨4992 + q.val, by omega⟩ : Fin 7552) = Band.col 4992 (by omega) ⟨q.val / 128, by omega⟩ ⟨q.val % 128, by omega⟩ :=
    Fin.ext (by show 4992 + q.val = 4992 + (q.val / 128 * 128 + q.val % 128); omega)
  rw [e1, e2]
  rfl

end Cert.ReferenceIdeal.Band
-- ==== Proof.NormSpec.lean ====
/- A row scaled by its root mean square, and the mixers' outputs side by side, in plain functions. -/
module

public import Idealize.ShloMosaic.PureOps.Ideal

@[expose] public section

noncomputable section

namespace Cert.Norm

open Idealize.ShloMosaic

/-- Feature `d` of the row `f`, divided by the root of its mean square (plus the small constant), times the gain `g`. -/
def norm (f g : Fin 2048 → EReal) (d : Fin 2048) : EReal :=
  f d * Ideal.rsqrt (Ideal.div (∑ j, f j * f j) (Ideal.ofBits FTy.f32 0x45000000#32) + Ideal.ofBits FTy.f32 0x358637BD#32) * g d

/-- Three rows of 768, 640 and 640 features side by side. -/
def beside (a : Fin 768 → EReal) (b c : Fin 640 → EReal) (e : Fin 2048) : EReal :=
  if h : e.val < 768 then a ⟨e.val, h⟩ else if h' : e.val - 768 < 640 then b ⟨e.val - 768, h'⟩
    else c ⟨e.val - 768 - 640, by omega⟩

/-- A row of the residual stream plus the product of a row with the output weights. -/
def residual (y x : Fin 2048 → EReal) (w : Fin 2048 → Fin 2048 → EReal) (d : Fin 2048) : EReal := x d + ∑ e, y e * w e d

end Cert.Norm
-- ==== Proof.OutKernel.lean ====
/- The output projection's kernel read at an index. -/
module

public import proofs.«01_k».proof.Proof.Gen.OutprojIdeal.Value
public import proofs.«01_k».proof.Proof.NormSpec
public import Idealize.ShloMosaic.Lib.Pipeline.ValueKit
public import Idealize.ShloMosaic.Lib.StableHlo.ReadAt

@[expose] public section

set_option maxRecDepth 16384
set_option maxHeartbeats 1000000

noncomputable section

namespace Cert.OutprojIdeal.Out

open Cert.OutprojIdeal Cert.OutprojIdeal.Gen Idealize.ShloMosaic Idealize.ShloMosaic.TcCoe Idealize.SL.Sem

/-- What the body stores at a row and column of its block, from the blocks it loads. -/
theorem pay_apply (a : Vec Ideal S512x768 .bf16) (b c : Vec Ideal S512x640 .bf16) (x : Vec Ideal S512x2048 .f32)
    (w : Vec Ideal S2048x2048 .bf16) (g : Vec Ideal S1x2048 .f32) (r : Fin 512) (d : Fin 2048) :
    k0_pay1 a b c x w g (ix2 r d)
      = Norm.norm (Norm.residual (Norm.beside (fun e => a (ix2 r e)) (fun e => b (ix2 r e)) (fun e => c (ix2 r e)))
          (fun d => x (ix2 r d)) (fun e d => w (ix2 e d))) (fun d => g (ix2 0 d)) d := by
  unfold k0_pay1
  pointwise
  rfl

variable (m : (ℓ : Loc nD τ sig) → Buf (Elt Ideal) ℓ) (c : Dev nD)

/-- The three mixers' outputs, the residual rows, the weights and the gain as the kernel finds them. -/
abbrev rowsA : S32768x768.Idx → EReal := V m c main_v1
abbrev rowsB : S32768x640.Idx → EReal := V m c main_v3
abbrev rowsC : S32768x640.Idx → EReal := V m c main_v5
abbrev rowsX : S32768x2048.Idx → EReal := V m c main_v6
abbrev weights : S2048x2048.Idx → EReal := V m c main_v7
abbrev gain : S1x2048.Idx → EReal := V m c main_v8

/-- The kernel's result as a function of the arrays it finds. -/
def result (i : S32768x2048.Idx) : EReal :=
  Norm.norm (Norm.residual
      (Norm.beside (fun e => rowsA m c (ix2 (i 0) e)) (fun e => rowsB m c (ix2 (i 0) e)) (fun e => rowsC m c (ix2 (i 0) e)))
      (fun d => rowsX m c (ix2 (i 0) d)) (fun e d => weights m c (ix2 e d))) (fun d => gain m c (ix2 0 d)) (i 1)

/-- The block indices of the windows: rows by the point, columns, weights and gain whole. -/
theorem window_index : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0))

theorem point_lt (t : Fin cfg0.N) : t.val < 64 := lt_of_lt_of_eq t.isLt (show cfg0.N = 64 from N_0)

/-! ## A block at an index is its array at the place the window gives it -/

theorem block_0 (t : Fin cfg0.N) (r : Fin 512) (e : Fin 768) (M : Fin 32768) (hM : M.val = 512 * t.val + r.val) :
    iblk m c 0 t (ix2 r e) = rowsA m c (ix2 M e) := by
  have hw := window_index t
  show rowsA m c (((cfg0.win 0).blk t).view.emb (ix2 r e)) = _
  generalize rowsA m c = A
  congr 1
  funext a
  apply Fin.ext
  match a with
  | ⟨0, _⟩ => show win0_0.index t 0 * 512 + 1 * r.val = M.val; omega
  | ⟨1, _⟩ => show win0_0.index t 1 * 768 + 1 * e.val = e.val; omega

theorem block_1 (t : Fin cfg0.N) (r : Fin 512) (e : Fin 640) (M : Fin 32768) (hM : M.val = 512 * t.val + r.val) :
    iblk m c 1 t (ix2 r e) = rowsB m c (ix2 M e) := by
  have hw := window_index t
  show rowsB m c (((cfg0.win 1).blk t).view.emb (ix2 r e)) = _
  generalize rowsB m c = A
  congr 1
  funext a
  apply Fin.ext
  match a with
  | ⟨0, _⟩ => show win0_1.index t 0 * 512 + 1 * r.val = M.val; omega
  | ⟨1, _⟩ => show win0_1.index t 1 * 640 + 1 * e.val = e.val; omega

theorem block_2 (t : Fin cfg0.N) (r : Fin 512) (e : Fin 640) (M : Fin 32768) (hM : M.val = 512 * t.val + r.val) :
    iblk m c 2 t (ix2 r e) = rowsC m c (ix2 M e) := by
  have hw := window_index t
  show rowsC m c (((cfg0.win 2).blk t).view.emb (ix2 r e)) = _
  generalize rowsC m c = A
  congr 1
  funext a
  apply Fin.ext
  match a with
  | ⟨0, _⟩ => show win0_2.index t 0 * 512 + 1 * r.val = M.val; omega
  | ⟨1, _⟩ => show win0_2.index t 1 * 640 + 1 * e.val = e.val; omega

theorem block_3 (t : Fin cfg0.N) (r : Fin 512) (e : Fin 2048) (M : Fin 32768) (hM : M.val = 512 * t.val + r.val) :
    iblk m c 3 t (ix2 r e) = rowsX m c (ix2 M e) := by
  have hw := window_index t
  show rowsX m c (((cfg0.win 3).blk t).view.emb (ix2 r e)) = _
  generalize rowsX m c = A
  congr 1
  funext a
  apply Fin.ext
  match a with
  | ⟨0, _⟩ => show win0_3.index t 0 * 512 + 1 * r.val = M.val; omega
  | ⟨1, _⟩ => show win0_3.index t 1 * 2048 + 1 * e.val = e.val; omega

theorem block_4 (t : Fin cfg0.N) (e d : Fin 2048) : iblk m c 4 t (ix2 e d) = weights m c (ix2 e d) := by
  have hw := window_index t
  show weights m c (((cfg0.win 4).blk t).view.emb (ix2 e d)) = _
  generalize weights m c = A
  congr 1
  funext a
  apply Fin.ext
  match a with
  | ⟨0, _⟩ => show win0_4.index t 0 * 2048 + 1 * e.val = e.val; omega
  | ⟨1, _⟩ => show win0_4.index t 1 * 2048 + 1 * d.val = d.val; omega

theorem block_5 (t : Fin cfg0.N) (d : Fin 2048) : iblk m c 5 t (ix2 0 d) = gain m c (ix2 0 d) := by
  have hw := window_index t
  show gain m c (((cfg0.win 5).blk t).view.emb (ix2 0 d)) = _
  generalize gain m c = A
  congr 1
  funext a
  apply Fin.ext
  match a with
  | ⟨0, _⟩ => show win0_5.index t 0 * 1 + 1 * 0 = 0; omega
  | ⟨1, _⟩ => show win0_5.index t 1 * 2048 + 1 * d.val = d.val; omega

/-- The array the kernel leaves is that function. -/
theorem array_eq : (dats m 0 c).arrAt 6 cfg0.N = result m c := by
  refine (dats m 0 c).arrAt_eq_of_covers 6 _ (by decide +kernel) fun t hf y => ?_
  have hw := window_index t
  blk_simp
  rw [after0_6]
  frame_out
  idx_vars y
  rw [pay_apply]
  obtain ⟨M, hM⟩ : ∃ M : Fin 32768, M.val = 512 * t.val + y0.val := ⟨⟨512 * t.val + y0.val, by have := y0.isLt; have := point_lt t; omega⟩, rfl⟩
  have hemb : ((View.whole main_v9).slice (win0_6.rect t)).emb (ix2 y0 y1) = ix2 M y1 := by
    funext a
    apply Fin.ext
    match a with
    | ⟨0, _⟩ => show win0_6.index t 0 * 512 + 1 * y0.val = M.val; omega
    | ⟨1, _⟩ => show win0_6.index t 1 * 2048 + 1 * y1.val = y1.val; omega
  rw [hemb]
  show _ = Norm.norm (Norm.residual
      (Norm.beside (fun e => rowsA m c (ix2 M e)) (fun e => rowsB m c (ix2 M e)) (fun e => rowsC m c (ix2 M e)))
      (fun d => rowsX m c (ix2 M d)) (fun e d => weights m c (ix2 e d))) (fun d => gain m c (ix2 0 d)) y1
  rw [show (fun e => iblk m c 0 t (ix2 y0 e)) = fun e => rowsA m c (ix2 M e) from funext fun e => block_0 m c t y0 e M hM,
    show (fun e => iblk m c 1 t (ix2 y0 e)) = fun e => rowsB m c (ix2 M e) from funext fun e => block_1 m c t y0 e M hM,
    show (fun e => iblk m c 2 t (ix2 y0 e)) = fun e => rowsC m c (ix2 M e) from funext fun e => block_2 m c t y0 e M hM,
    show (fun d => iblk m c 3 t (ix2 y0 d)) = fun d => rowsX m c (ix2 M d) from funext fun d => block_3 m c t y0 d M hM,
    show (fun e d => iblk m c 4 t (ix2 e d)) = fun e d => weights m c (ix2 e d) from funext fun e => funext fun d => block_4 m c t e d,
    show (fun d => iblk m c 5 t (ix2 0 d)) = fun d => gain m c (ix2 0 d) from funext fun d => block_5 m c t d]

/-! ## The host's arrays at an index -/

theorem rowsA_apply (M : Fin 32768) (e : Fin 768) : rowsA m c (ix2 M e)
    = (m (c, Proc.tc.devRef main_arg0) : S2x16384x768.Idx → EReal) (ix3 ⟨M.val / 16384, by omega⟩ ⟨M.val % 16384, by omega⟩ e) := by
  unfold rowsA V
  after_reads_at

theorem rowsB_apply (M : Fin 32768) (e : Fin 640) : rowsB m c (ix2 M e)
    = (m (c, Proc.tc.devRef main_arg1) : S2x16384x640.Idx → EReal) (ix3 ⟨M.val / 16384, by omega⟩ ⟨M.val % 16384, by omega⟩ e) := by
  unfold rowsB V
  after_reads_at

theorem rowsC_apply (M : Fin 32768) (e : Fin 640) : rowsC m c (ix2 M e)
    = (m (c, Proc.tc.devRef main_arg2) : S2x16384x640.Idx → EReal) (ix3 ⟨M.val / 16384, by omega⟩ ⟨M.val % 16384, by omega⟩ e) := by
  unfold rowsC V
  after_reads_at

theorem rowsX_apply (M : Fin 32768) (d : Fin 2048) : rowsX m c (ix2 M d)
    = (m (c, Proc.tc.devRef main_arg3) : S2x16384x2048.Idx → EReal) (ix3 ⟨M.val / 16384, by omega⟩ ⟨M.val % 16384, by omega⟩ d) := by
  unfold rowsX V
  after_reads_at

theorem weights_apply (e d : Fin 2048) : weights m c (ix2 e d)
    = (m (c, Proc.tc.devRef main_arg4) : S2048x2048.Idx → EReal) (ix2 e d) := by
  unfold weights V
  after_reads_at

theorem gain_apply (d : Fin 2048) : gain m c (ix2 0 d)
    = (m (c, Proc.tc.devRef main_arg5) : S2048.Idx → EReal) (ix1 d) := by
  unfold gain V
  after_reads_at

end Cert.OutprojIdeal.Out
-- ==== Proof.OutRef.lean ====
/- The output projection's reference read at an index. -/
module

public import proofs.«01_k».proof.Proof.Gen.OutprojReferenceIdeal.Read
public import proofs.«01_k».proof.Proof.NormSpec
public import Idealize.ShloMosaic.Lib.Pipeline.ValueKit

@[expose] public section

set_option maxRecDepth 16384
set_option maxHeartbeats 1000000

noncomputable section

namespace Cert.OutprojReferenceIdeal.Out

open Cert.OutprojReferenceIdeal Cert.OutprojReferenceIdeal.Gen Cert.OutprojReferenceIdeal.Read Idealize.ShloMosaic Idealize.ShloMosaic.TcCoe Idealize.SL.Sem

variable (x0 : (⟨S2x16384x768, .f32⟩ : BufTy).Contents (Elt Ideal)) (x1 x2 : (⟨S2x16384x640, .f32⟩ : BufTy).Contents (Elt Ideal))
  (x3 : (⟨S2x16384x2048, .f32⟩ : BufTy).Contents (Elt Ideal)) (x4 : (⟨S2048x2048, .f32⟩ : BufTy).Contents (Elt Ideal))
  (x5 : (⟨S2048, .f32⟩ : BufTy).Contents (Elt Ideal))
variable (b : Fin 2) (n : Fin 16384) (d : Fin 2048)

theorem v0 (e : Fin 2048) : val_main_v0 (F := Ideal) x0 x1 x2 (ix3 b n e)
    = Norm.beside (fun e => x0 (ix3 b n e)) (fun e => x1 (ix3 b n e)) (fun e => x2 (ix3 b n e)) e := by
  unfold val_main_v0
  pointwise
  rfl

theorem v1 : val_main_v1 (F := Ideal) x0 x1 x2 x4 (ix3 b n d)
    = ∑ e, Norm.beside (fun e => x0 (ix3 b n e)) (fun e => x1 (ix3 b n e)) (fun e => x2 (ix3 b n e)) e * x4 (ix2 e d) := by
  unfold val_main_v1
  pointwise
  refine Finset.sum_congr rfl fun e _ => ?_
  rw [v0]

/-- The row that is normalised. -/
abbrev row : Fin 2048 → EReal :=
  Norm.residual (Norm.beside (fun e => x0 (ix3 b n e)) (fun e => x1 (ix3 b n e)) (fun e => x2 (ix3 b n e)))
    (fun d => x3 (ix3 b n d)) (fun e d => x4 (ix2 e d))

theorem v2 : val_main_v2 (F := Ideal) x0 x1 x2 x3 x4 (ix3 b n d) = row x0 x1 x2 x3 x4 b n d := by
  unfold val_main_v2
  pointwise
  rw [v1]
  rfl

theorem v15 : val_main_v15 (F := Ideal) x0 x1 x2 x3 x4 x5 (ix3 b n d)
    = Norm.norm (row x0 x1 x2 x3 x4 b n) (fun d => x5 (ix1 d)) d := by
  have h := fun d => v2 x0 x1 x2 x3 x4 b n d
  unfold val_main_v15 val_main_v14 val_main_v13 val_main_v12 val_main_v11 val_main_v10 val_main_v9 val_main_v8 val_main_v7
    val_main_v6 val_main_v5 val_main_v4 val_main_v3 val_main_cst val_main_cst_0 val_main_cst_1
  revert h
  generalize val_main_v2 (F := Ideal) x0 x1 x2 x3 x4 = f
  generalize row x0 x1 x2 x3 x4 b n = g
  intro h
  pointwise
  simp only [h]
  rfl

theorem v16 (M : Fin 32768) : val_main_v16 (F := Ideal) x0 x1 x2 x3 x4 x5 (ix2 M d)
    = Norm.norm (row x0 x1 x2 x3 x4 ⟨M.val / 16384, by omega⟩ ⟨M.val % 16384, by omega⟩) (fun d => x5 (ix1 d)) d := by
  rw [← v15]
  unfold val_main_v16
  generalize val_main_v15 (F := Ideal) x0 x1 x2 x3 x4 x5 = f
  pointwise

end Cert.OutprojReferenceIdeal.Out
-- ==== Proof.InSpec.lean ====
/- What the input projection stores in each of its 60 slots: an activation of the projected column, by slot, as the kernel
   computes it. -/
module

public import Idealize.ShloMosaic.PureOps.Ideal

@[expose] public section

noncomputable section

namespace Cert.In

open Idealize.ShloMosaic

/-- `t` times its sigmoid, as the kernel computes it: half of `t`, plus that times its hyperbolic tangent. -/
def siluK (t : EReal) : EReal :=
  Ideal.ofBits FTy.f32 0x3F000000#32 * t + Ideal.ofBits FTy.f32 0x3F000000#32 * t * Ideal.tanh (Ideal.ofBits FTy.f32 0x3F000000#32 * t)

/-- One minus the bound `b`, times the sigmoid of `-t`, as the kernel computes it: from the exponential of minus the
    magnitude of `t`. -/
def keepK (b t : EReal) : EReal :=
  (1 - b) * if 0 ≤ t then Ideal.exp (0 - FloatOps.absf (F := Ideal) (φ := .f32) t) * Ideal.div 1 (1 + Ideal.exp (0 - FloatOps.absf (F := Ideal) (φ := .f32) t))
    else Ideal.div 1 (1 + Ideal.exp (0 - FloatOps.absf (F := Ideal) (φ := .f32) t))

/-- What is done to a slot: 0 nothing, 1 `siluK`, 2 `keepK`, 3 the spare slot, which holds zeros. -/
def kind (σ : ℕ) : ℕ :=
  if σ < 6 then 1 else if σ < 12 then 2 else if σ < 18 then 0 else if σ < 24 then 1 else if σ < 25 then 3 else if σ < 40 then 0
  else if σ < 45 then 1 else if σ < 55 then 0 else 1

/-- The group of 128 columns of the weights that slot `σ` is projected by: the spare slot 24 has none. -/
def groupOf (σ : ℕ) : ℕ := if 24 < σ then σ - 1 else σ

/-- Column `l` of slot `σ` from the projected column `t` and the bounds `lb` (used by slots 6 to 11, 128 bounds a slot). -/
def value (σ : ℕ) (lb : Fin 768 → EReal) (l : Fin 128) (t : EReal) : EReal :=
  if kind σ = 1 then siluK t else if kind σ = 2 then keepK (lb ⟨(128 * (σ - 6) + l.val) % 768, Nat.mod_lt _ (by decide)⟩) t
  else if kind σ = 3 then 0 else t

end Cert.In
-- ==== Proof.InBlock.lean ====
/- The block of 20 slots that a grid point of the input projection leaves, in plain functions of the normalised rows and of
   the blocks it reads, and that block at the place a store of one slot puts it. -/
module

public import proofs.«01_k».proof.Proof.Gen.InprojIdeal.Frame
public import proofs.«01_k».proof.Proof.InSpec
public import Idealize.ShloMosaic.Lib.Pipeline.Value
public import Idealize.ShloMosaic.Lib.Pipeline.ReadBack
public import Idealize.ShloMosaic.Lib.Pipeline.ValueKit

@[expose] public section

set_option maxRecDepth 16384
set_option maxHeartbeats 1000000

noncomputable section

namespace Cert.InprojIdeal.In

open Cert.InprojIdeal Cert.InprojIdeal.Gen Idealize.ShloMosaic Idealize.ShloMosaic.TcCoe Idealize.SL.Sem

/-- The group of 128 columns, in the block of weights of step `j`, that slot `s` of the step is projected by: the spare slot
    (slot 4 of step 1) has no columns. -/
def group (j s : ℕ) : ℕ := if j = 1 ∧ 4 < s then s - 1 else s

theorem group_le (j s : ℕ) : group j s ≤ s := by unfold group; split <;> omega

/-- Slot `s`, row `r`, column `l` of the block that step `j` leaves, from the normalised rows `h`, the weights' block `w` and
    the bounds `lb`. -/
def blockOut (j : ℕ) (h : S1024x2048.Idx → EReal) (w : S2048x2560.Idx → EReal) (lb : S1x768.Idx → EReal) :
    S20x1024x128.Idx → EReal := fun y =>
  Cert.In.value (20 * j + (y 0).val) (fun q => lb (ix2 0 q)) (y 2)
    (∑ k : Fin 2048, h (ix2 (y 1) k) * w (ix2 k ⟨128 * group j (y 0).val + (y 2).val, by
      have := (y 0).isLt; have := (y 2).isLt; have := group_le j (y 0).val
      change (y 0).val < 20 at *; change (y 2).val < 128 at *; omega⟩))

variable (j : ℕ) (h : S1024x2048.Idx → EReal) (w : S2048x2560.Idx → EReal) (lb : S1x768.Idx → EReal)
  (x0 : Fin 1) (r : Fin 1024) (l : Fin 128) (s n : ℕ)

theorem blockOut_emb (hs : s < 20) (inb) :
    blockOut j h w lb ((Rect.unit (s := S20x1024x128) ![s, 0, 0] ![1, 1024, 128] inb).emb (ix3 x0 r l)) = blockOut j h w lb (ix3 ⟨s, hs⟩ r l) := by
  congr 1
  funext a
  apply Fin.ext
  match a with
  | ⟨0, _⟩ => show s + 1 * x0.val = s; omega
  | ⟨1, _⟩ => show 0 + 1 * r.val = r.val; omega
  | ⟨2, _⟩ => show 0 + 1 * l.val = l.val; omega

/-- The projected column. -/
abbrev column (hn : n < 20) : EReal := ∑ k : Fin 2048, h (ix2 r k) * w (ix2 k ⟨128 * n + l.val, by omega⟩)

theorem at_none (hs : s < 20) (hn : n < 20) (hg : group j s = n) (hk : Cert.In.kind (20 * j + s) = 0) (inb) :
    blockOut j h w lb ((Rect.unit (s := S20x1024x128) ![s, 0, 0] ![1, 1024, 128] inb).emb (ix3 x0 r l)) = column h w r l n hn := by
  subst hg
  rw [blockOut_emb j h w lb x0 r l s hs inb]
  show Cert.In.value (20 * j + s) _ _ _ = _
  unfold Cert.In.value
  rw [hk, if_neg (by decide), if_neg (by decide), if_neg (by decide)]
  rfl

theorem at_silu (hs : s < 20) (hn : n < 20) (hg : group j s = n) (hk : Cert.In.kind (20 * j + s) = 1) (inb) :
    blockOut j h w lb ((Rect.unit (s := S20x1024x128) ![s, 0, 0] ![1, 1024, 128] inb).emb (ix3 x0 r l))
      = Cert.In.siluK (column h w r l n hn) := by
  subst hg
  rw [blockOut_emb j h w lb x0 r l s hs inb]
  show Cert.In.value (20 * j + s) _ _ _ = _
  unfold Cert.In.value
  rw [hk, if_pos rfl]
  rfl

theorem at_zero (hs : s < 20) (hk : Cert.In.kind (20 * j + s) = 3) (inb) :
    blockOut j h w lb ((Rect.unit (s := S20x1024x128) ![s, 0, 0] ![1, 1024, 128] inb).emb (ix3 x0 r l)) = 0 := by
  rw [blockOut_emb j h w lb x0 r l s hs inb]
  show Cert.In.value (20 * j + s) _ _ _ = _
  unfold Cert.In.value
  rw [hk, if_neg (by decide), if_neg (by decide), if_pos rfl]

theorem at_keep (hs : s < 20) (hn : n < 20) (hg : group j s = n) (hk : Cert.In.kind (20 * j + s) = 2) (hq : 20 * j + s < 12) (inb) :
    blockOut j h w lb ((Rect.unit (s := S20x1024x128) ![s, 0, 0] ![1, 1024, 128] inb).emb (ix3 x0 r l))
      = Cert.In.keepK (lb (ix2 0 ⟨128 * (20 * j + s - 6) + l.val, by omega⟩)) (column h w r l n hn) := by
  subst hg
  rw [blockOut_emb j h w lb x0 r l s hs inb]
  show Cert.In.value (20 * j + s) _ _ _ = _
  unfold Cert.In.value
  rw [hk, if_neg (by decide), if_pos rfl]
  have e : (⟨(128 * (20 * j + s - 6) + l.val) % 768, Nat.mod_lt _ (by decide)⟩ : Fin 768) = ⟨128 * (20 * j + s - 6) + l.val, by omega⟩ :=
    Fin.ext (Nat.mod_eq_of_lt (by omega))
  show Cert.In.keepK (lb (ix2 0 ⟨(128 * (20 * j + s - 6) + l.val) % 768, _⟩)) _ = _
  rw [e]
  rfl

end Cert.InprojIdeal.In
-- ==== Proof.InBlockA.lean ====
/- A point of step 0 leaves the block of the rows it has just normalised. -/
module

public import proofs.«01_k».proof.Proof.InBlock

@[expose] public section

set_option maxRecDepth 16384
set_option maxHeartbeats 1000000

noncomputable section

namespace Cert.InprojIdeal.In

open Cert.InprojIdeal Cert.InprojIdeal.Gen Idealize.ShloMosaic Idealize.ShloMosaic.TcCoe Idealize.SL.Sem

variable (m : (ℓ : Loc nD τ sig) → Buf (Elt Ideal) ℓ)

theorem outs_A (c : Dev nD) (t : Fin cfg0.N) (h0 : t.val % 3 = 0) (h2 : ¬t.val % 3 = 1) (h3 : ¬t.val % 3 = 2) :
    (outsAt0 m c t.val t.isLt).1
      = blockOut 0 (k0_pay1 (View.ld (iblk m c 0 t) (Rect.unit ![0, 0] ![1024, 2048] inb_S1024x2048_S1024x2048_0_0)) (View.ld (iblk m c 1 t) (Rect.unit ![0, 0] ![1, 2048] inb_S1x2048_S1x2048_0_0))) (iblk m c 2 t) (iblk m c 3 t) := by
  rw [outsAt0_A m c t h0 h0 h2 h3]
  dsimp only
  unfold out0_A_4
  rw [View.read_writes_eq_canon _ _ _ (fun y => cover0_A_4 _ _ _ _ _ _ _ _ _ _ _ _ _ _ _ _ _ _ _ _ _ _ y)]
  funext y
  refine View.canon_apply_of_pieces (Val := Elt Ideal) (blockOut 0 (k0_pay1 (View.ld (iblk m c 0 t) (Rect.unit ![0, 0] ![1024, 2048] inb_S1024x2048_S1024x2048_0_0)) (View.ld (iblk m c 1 t) (Rect.unit ![0, 0] ![1, 2048] inb_S1x2048_S1x2048_0_0))) (iblk m c 2 t) (iblk m c 3 t)) _ (View.PiecesOf.mem ?_) y (cover0_A_4 _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, View.readCov_cons_toLoadRect]
  generalize k0_pay1 (View.ld (iblk m c 0 t) (Rect.unit ![0, 0] ![1024, 2048] inb_S1024x2048_S1024x2048_0_0)) (View.ld (iblk m c 1 t) (Rect.unit ![0, 0] ![1, 2048] inb_S1x2048_S1x2048_0_0)) = S
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_, fun x => ?_, fun x => ?_,
    fun x => ?_, fun x => ?_, trivial⟩

  all_goals
    idx_vars x
  · rw [at_none 0 _ _ _ _ _ _ 15 15 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 0 _ _ _ _ _ _ 14 14 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 0 _ _ _ _ _ _ 13 13 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 0 _ _ _ _ _ _ 12 12 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 0 _ _ _ _ _ _ 19 19 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 0 _ _ _ _ _ _ 18 18 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 0 _ _ _ _ _ _ 17 17 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 0 _ _ _ _ _ _ 16 16 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 0 _ _ _ _ _ _ 3 3 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 0 _ _ _ _ _ _ 2 2 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 0 _ _ _ _ _ _ 1 1 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 0 _ _ _ _ _ _ 0 0 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_keep 0 _ _ _ _ _ _ 11 11 (by decide) (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_keep 0 _ _ _ _ _ _ 10 10 (by decide) (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_keep 0 _ _ _ _ _ _ 9 9 (by decide) (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_keep 0 _ _ _ _ _ _ 8 8 (by decide) (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_keep 0 _ _ _ _ _ _ 7 7 (by decide) (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_keep 0 _ _ _ _ _ _ 6 6 (by decide) (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 0 _ _ _ _ _ _ 5 5 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 0 _ _ _ _ _ _ 4 4 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]

end Cert.InprojIdeal.In

end
-- ==== Proof.InBlockB.lean ====
/- A point of step 1 leaves the block of the rows the point before held. -/
module

public import proofs.«01_k».proof.Proof.InBlock

@[expose] public section

set_option maxRecDepth 16384
set_option maxHeartbeats 1000000

noncomputable section

namespace Cert.InprojIdeal.In

open Cert.InprojIdeal Cert.InprojIdeal.Gen Idealize.ShloMosaic Idealize.ShloMosaic.TcCoe Idealize.SL.Sem

variable (m : (ℓ : Loc nD τ sig) → Buf (Elt Ideal) ℓ)

theorem outs_B (c : Dev nD) (t : Fin cfg0.N) (h0 : ¬t.val % 3 = 0) (h2 : t.val % 3 = 1) (h3 : ¬t.val % 3 = 2) :
    (outsAt0 m c t.val t.isLt).1
      = blockOut 1 ((outsAt0 m c (t.val - 1) (Nat.lt_of_le_of_lt (Nat.sub_le _ _) t.isLt)).2) (iblk m c 2 t) (iblk m c 3 t) := by
  rw [outsAt0_B m c t h0 h0 h2 h3]
  dsimp only
  unfold out0_B_4
  rw [View.read_writes_eq_canon _ _ _ (fun y => cover0_B_4 _ _ _ _ _ _ _ _ _ _ _ _ _ _ _ _ _ _ _ _ _ _ _ y)]
  funext y
  refine View.canon_apply_of_pieces (Val := Elt Ideal) (blockOut 1 ((outsAt0 m c (t.val - 1) (Nat.lt_of_le_of_lt (Nat.sub_le _ _) t.isLt)).2) (iblk m c 2 t) (iblk m c 3 t)) _ (View.PiecesOf.mem ?_) y (cover0_B_4 _ _ _ _ _ _ _ _ _ _ _ _ _ _ _ _ _ _ _ _ _ _ _ y)
  generalize (outsAt0 m c (t.val - 1) (Nat.lt_of_le_of_lt (Nat.sub_le _ _) t.isLt)).2 = S
  unfold kernelRun0_B
  dsimp only
  sl_unfold_words
  simp only [View.readAt_eq_ld, (hs0_0 t).read_unread, (hs0_1 t).read_unread, (hs0_2 t).read_unread, (hs0_3 t).read_unread, read_unread_whole]
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_, fun x => ?_, fun x => ?_,
    fun x => ?_, fun x => ?_, trivial⟩

  all_goals
    idx_vars x
  · rw [at_none 1 _ _ _ _ _ _ 19 18 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 1 _ _ _ _ _ _ 18 17 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 1 _ _ _ _ _ _ 17 16 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 1 _ _ _ _ _ _ 16 15 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 1 _ _ _ _ _ _ 15 14 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 1 _ _ _ _ _ _ 14 13 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 1 _ _ _ _ _ _ 13 12 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 1 _ _ _ _ _ _ 12 11 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 1 _ _ _ _ _ _ 11 10 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 1 _ _ _ _ _ _ 10 9 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 1 _ _ _ _ _ _ 9 8 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 1 _ _ _ _ _ _ 8 7 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 1 _ _ _ _ _ _ 7 6 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 1 _ _ _ _ _ _ 6 5 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 1 _ _ _ _ _ _ 5 4 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 1 _ _ _ _ _ _ 3 3 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 1 _ _ _ _ _ _ 2 2 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 1 _ _ _ _ _ _ 1 1 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 1 _ _ _ _ _ _ 0 0 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_zero 1 _ _ _ _ _ _ 4 (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]

end Cert.InprojIdeal.In

end
-- ==== Proof.InBlockC.lean ====
/- A point of step 2 leaves the block of the rows the point before held. -/
module

public import proofs.«01_k».proof.Proof.InBlock

@[expose] public section

set_option maxRecDepth 16384
set_option maxHeartbeats 1000000

noncomputable section

namespace Cert.InprojIdeal.In

open Cert.InprojIdeal Cert.InprojIdeal.Gen Idealize.ShloMosaic Idealize.ShloMosaic.TcCoe Idealize.SL.Sem

variable (m : (ℓ : Loc nD τ sig) → Buf (Elt Ideal) ℓ)

theorem outs_C (c : Dev nD) (t : Fin cfg0.N) (h0 : ¬t.val % 3 = 0) (h2 : ¬t.val % 3 = 1) (h3 : t.val % 3 = 2) :
    (outsAt0 m c t.val t.isLt).1
      = blockOut 2 ((outsAt0 m c (t.val - 1) (Nat.lt_of_le_of_lt (Nat.sub_le _ _) t.isLt)).2) (iblk m c 2 t) (iblk m c 3 t) := by
  rw [outsAt0_C m c t h0 h0 h2 h3]
  dsimp only
  unfold out0_C_4
  rw [View.read_writes_eq_canon _ _ _ (fun y => cover0_C_4 _ _ _ _ _ _ _ _ _ _ _ _ _ _ _ _ _ _ _ _ _ _ _ y)]
  funext y
  refine View.canon_apply_of_pieces (Val := Elt Ideal) (blockOut 2 ((outsAt0 m c (t.val - 1) (Nat.lt_of_le_of_lt (Nat.sub_le _ _) t.isLt)).2) (iblk m c 2 t) (iblk m c 3 t)) _ (View.PiecesOf.mem ?_) y (cover0_C_4 _ _ _ _ _ _ _ _ _ _ _ _ _ _ _ _ _ _ _ _ _ _ _ y)
  generalize (outsAt0 m c (t.val - 1) (Nat.lt_of_le_of_lt (Nat.sub_le _ _) t.isLt)).2 = S
  unfold kernelRun0_C
  dsimp only
  sl_unfold_words
  simp only [View.readAt_eq_ld, (hs0_0 t).read_unread, (hs0_1 t).read_unread, (hs0_2 t).read_unread, (hs0_3 t).read_unread, read_unread_whole]
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_, fun x => ?_, fun x => ?_,
    fun x => ?_, fun x => ?_, trivial⟩

  all_goals
    idx_vars x
  · rw [at_none 2 _ _ _ _ _ _ 11 11 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 2 _ _ _ _ _ _ 10 10 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 2 _ _ _ _ _ _ 9 9 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 2 _ _ _ _ _ _ 8 8 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 2 _ _ _ _ _ _ 19 19 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 2 _ _ _ _ _ _ 18 18 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 2 _ _ _ _ _ _ 17 17 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 2 _ _ _ _ _ _ 16 16 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 2 _ _ _ _ _ _ 15 15 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 2 _ _ _ _ _ _ 14 14 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 2 _ _ _ _ _ _ 13 13 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 2 _ _ _ _ _ _ 12 12 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 2 _ _ _ _ _ _ 7 7 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 2 _ _ _ _ _ _ 6 6 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_none 2 _ _ _ _ _ _ 5 5 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 2 _ _ _ _ _ _ 4 4 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 2 _ _ _ _ _ _ 3 3 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 2 _ _ _ _ _ _ 2 2 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 2 _ _ _ _ _ _ 1 1 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]
  · rw [at_silu 2 _ _ _ _ _ _ 0 0 (by decide) (by decide) (by decide) (by decide)]
    pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    all_goals simp only [← Nat.add_assoc, Nat.reduceAdd, Nat.reduceMul, Nat.zero_add, Nat.reduceSub, Cert.In.siluK, Cert.In.keepK, column]

end Cert.InprojIdeal.In

end
-- ==== Proof.InKernel.lean ====
/- The input projection's kernel read at an index: the scratch that step 0 fills with the normalised rows is held through
   steps 1 and 2, so every slot of the result is its activation of the normalised rows times its columns of the weights. -/
module

public import proofs.«01_k».proof.Proof.InBlockA
public import proofs.«01_k».proof.Proof.InBlockB
public import proofs.«01_k».proof.Proof.InBlockC
public import proofs.«01_k».proof.Proof.NormSpec
public import proofs.«01_k».proof.Proof.Gen.InprojIdeal.Value
public import Idealize.ShloMosaic.Lib.StableHlo.ReadAt

@[expose] public section

set_option maxRecDepth 16384
set_option maxHeartbeats 1000000

noncomputable section

namespace Cert.InprojIdeal.In

open Cert.InprojIdeal Cert.InprojIdeal.Gen Idealize.ShloMosaic Idealize.ShloMosaic.TcCoe Idealize.SL.Sem

variable (m : (ℓ : Loc nD τ sig) → Buf (Elt Ideal) ℓ) (c : Dev nD)

/-- The residual rows, the gain, the weights (scaled by column) and the bounds as the kernel finds them. -/
abbrev rowsX : S32768x2048.Idx → EReal := V m c main_v0
abbrev gain : S1x2048.Idx → EReal := V m c main_v12
abbrev weights : S2048x7552.Idx → EReal := V m c main_v10
abbrev bounds : S1x768.Idx → EReal := V m c main_v11

theorem pay_norm (x : Vec Ideal S1024x2048 .f32) (g : Vec Ideal S1x2048 .f32) (r : Fin 1024) (d : Fin 2048) :
    k0_pay1 x g (ix2 r d) = Norm.norm (fun d => x (ix2 r d)) (fun d => g (ix2 0 d)) d := by
  unfold k0_pay1
  pointwise
  rfl

/-- The block indices of the windows; the weights' second is the first column of the step's block, in elements. -/
theorem window_index : ∀ t : Fin cfg0.N,
    (win0_0.index t 0 = t.val / 3 ∧ win0_0.index t 1 = 0) ∧ (win0_1.index t 0 = 0 ∧ win0_1.index t 1 = 0)
    ∧ (win0_2.index t 0 = 0 ∧ win0_2.index t 1 = 2560 * (t.val % 3) - 128 * (t.val % 3 / 2)) ∧ (win0_3.index t 0 = 0 ∧ win0_3.index t 1 = 0)
    ∧ (win0_4.index t 0 = t.val % 3 ∧ win0_4.index t 1 = t.val / 3 ∧ win0_4.index t 2 = 0) :=
  (by decide +kernel : ∀ t : Fin grid0.N,
    (win0_0.index t 0 = t.val / 3 ∧ win0_0.index t 1 = 0) ∧ (win0_1.index t 0 = 0 ∧ win0_1.index t 1 = 0)
    ∧ (win0_2.index t 0 = 0 ∧ win0_2.index t 1 = 2560 * (t.val % 3) - 128 * (t.val % 3 / 2)) ∧ (win0_3.index t 0 = 0 ∧ win0_3.index t 1 = 0)
    ∧ (win0_4.index t 0 = t.val % 3 ∧ win0_4.index t 1 = t.val / 3 ∧ win0_4.index t 2 = 0))

theorem point_lt (t : Fin cfg0.N) : t.val < 96 := lt_of_lt_of_eq t.isLt (show cfg0.N = 96 from N_0)

/-! ## A block at an index is its array at the place the window gives it -/

theorem block_0 (t : Fin cfg0.N) (r : Fin 1024) (d : Fin 2048) (M : Fin 32768) (hM : M.val = 1024 * (t.val / 3) + r.val) :
    iblk m c 0 t (ix2 r d) = rowsX m c (ix2 M d) := by
  have hw := window_index t
  show rowsX m c (((cfg0.win 0).blk t).view.emb (ix2 r d)) = _
  generalize rowsX m c = A
  congr 1
  funext a
  apply Fin.ext
  match a with
  | ⟨0, _⟩ => show win0_0.index t 0 * 1024 + 1 * r.val = M.val; omega
  | ⟨1, _⟩ => show win0_0.index t 1 * 2048 + 1 * d.val = d.val; omega

theorem block_1 (t : Fin cfg0.N) (d : Fin 2048) : iblk m c 1 t (ix2 0 d) = gain m c (ix2 0 d) := by
  have hw := window_index t
  show gain m c (((cfg0.win 1).blk t).view.emb (ix2 0 d)) = _
  generalize gain m c = A
  congr 1
  funext a
  apply Fin.ext
  match a with
  | ⟨0, _⟩ => show win0_1.index t 0 * 1 + 1 * 0 = 0; omega
  | ⟨1, _⟩ => show win0_1.index t 1 * 2048 + 1 * d.val = d.val; omega

theorem block_2 (t : Fin cfg0.N) (k : Fin 2048) (q : Fin 2560) (Q : Fin 7552)
    (hQ : Q.val = 2560 * (t.val % 3) - 128 * (t.val % 3 / 2) + q.val) : iblk m c 2 t (ix2 k q) = weights m c (ix2 k Q) := by
  have hw := window_index t
  show weights m c (((cfg0.win 2).blk t).view.emb (ix2 k q)) = _
  generalize weights m c = A
  congr 1
  funext a
  apply Fin.ext
  match a with
  | ⟨0, _⟩ => show win0_2.index t 0 + 1 * k.val = k.val; omega
  | ⟨1, _⟩ => show win0_2.index t 1 + 1 * q.val = Q.val; omega

theorem block_3 (t : Fin cfg0.N) (q : Fin 768) : iblk m c 3 t (ix2 0 q) = bounds m c (ix2 0 q) := by
  have hw := window_index t
  show bounds m c (((cfg0.win 3).blk t).view.emb (ix2 0 q)) = _
  generalize bounds m c = A
  congr 1
  funext a
  apply Fin.ext
  match a with
  | ⟨0, _⟩ => show win0_3.index t 0 * 1 + 1 * 0 = 0; omega
  | ⟨1, _⟩ => show win0_3.index t 1 * 768 + 1 * q.val = q.val; omega

/-! ## The scratch -/

/-- Row `M` normalised. -/
abbrev normed (M : Fin 32768) : Fin 2048 → EReal := Norm.norm (fun d => rowsX m c (ix2 M d)) (fun d => gain m c (ix2 0 d))

theorem stored_block (t : Fin cfg0.N) (r : Fin 1024) (d : Fin 2048) (M : Fin 32768) (hM : M.val = 1024 * (t.val / 3) + r.val) :
    k0_pay1 (iblk m c 0 t) (iblk m c 1 t) (ix2 r d) = normed m c M d := by
  rw [pay_norm]
  rw [show (fun d => iblk m c 0 t (ix2 r d)) = fun d => rowsX m c (ix2 M d) from funext fun d => block_0 m c t r d M hM,
    show (fun d => iblk m c 1 t (ix2 0 d)) = fun d => gain m c (ix2 0 d) from funext fun d => block_1 m c t d]

theorem stored (t : Fin cfg0.N) (r : Fin 1024) (d : Fin 2048) (M : Fin 32768) (hM : M.val = 1024 * (t.val / 3) + r.val) :
    k0_pay1 (View.ld (iblk m c 0 t) (Rect.unit ![0, 0] ![1024, 2048] inb_S1024x2048_S1024x2048_0_0))
      (View.ld (iblk m c 1 t) (Rect.unit ![0, 0] ![1, 2048] inb_S1x2048_S1x2048_0_0)) (ix2 r d) = normed m c M d := by
  have e0 : View.ld (iblk m c 0 t) (Rect.unit ![0, 0] ![1024, 2048] inb_S1024x2048_S1024x2048_0_0) = iblk m c 0 t := by
    funext y
    idx_vars y
    pointwise
  have e1 : View.ld (iblk m c 1 t) (Rect.unit ![0, 0] ![1, 2048] inb_S1x2048_S1x2048_0_0) = iblk m c 1 t := by
    funext y
    idx_vars y
    rw [Subsingleton.elim y0 0]
    pointwise
  rw [e0, e1]
  exact stored_block m c t r d M hM

/-- Step 0 leaves the normalised rows of its block in the scratch. -/
theorem scratch_A (t : Fin cfg0.N) (h0 : t.val % 3 = 0) (r : Fin 1024) (d : Fin 2048) (M : Fin 32768)
    (hM : M.val = 1024 * (t.val / 3) + r.val) : (outsAt0 m c t.val t.isLt).2 (ix2 r d) = normed m c M d := by
  rw [outsAt0_A m c t h0 h0 (by omega) (by omega)]
  dsimp only
  frame_out
  exact stored_block m c t r d M hM

/-- The scratch after every point: the normalised rows of the point's block. -/
theorem scratch : ∀ (n : ℕ) (hn : n < cfg0.N) (r : Fin 1024) (d : Fin 2048) (M : Fin 32768)
    (_ : M.val = 1024 * (n / 3) + r.val), (outsAt0 m c n hn).2 (ix2 r d) = normed m c M d := by
  intro n
  induction n with
  | zero => intro hn r d M hM; exact scratch_A m c ⟨0, hn⟩ rfl r d M hM
  | succ n ih =>
    intro hn r d M hM
    by_cases h0 : (n + 1) % 3 = 0
    · exact scratch_A m c ⟨n + 1, hn⟩ h0 r d M hM
    · by_cases h1 : (n + 1) % 3 = 1
      · rw [outsAt0_B m c ⟨n + 1, hn⟩ h0 h0 h1 (by show ¬(n + 1) % 3 = 2; omega)]
        exact ih (Nat.lt_of_succ_lt hn) r d M (by omega)
      · rw [outsAt0_C m c ⟨n + 1, hn⟩ h0 h0 h1 (by show (n + 1) % 3 = 2; omega)]
        exact ih (Nat.lt_of_succ_lt hn) r d M (by omega)

/-! ## The result -/

/-- Slot `σ`, row `M`, column `l` of the kernel's result, from the arrays it finds. -/
def result (i : S60x32768x128.Idx) : EReal :=
  Cert.In.value (i 0).val (fun q => bounds m c (ix2 0 q)) (i 2)
    (∑ k : Fin 2048, normed m c (i 1) k * weights m c (ix2 k ⟨128 * Cert.In.groupOf (i 0).val + (i 2).val, by
      have := (i 0).isLt; have := (i 2).isLt
      change (i 0).val < 60 at *; change (i 2).val < 128 at *; unfold Cert.In.groupOf; split <;> omega⟩))

/-- What a point leaves at an index of its block, from rows `h` that are the normalised rows of its block. -/
theorem point_eq (t : Fin cfg0.N) (j : ℕ) (hj : t.val % 3 = j) (h : S1024x2048.Idx → EReal) (s : Fin 20) (r : Fin 1024) (l : Fin 128)
    (σ : Fin 60) (hσ : σ.val = 20 * j + s.val) (M : Fin 32768) (hM : M.val = 1024 * (t.val / 3) + r.val)
    (hh : ∀ d, h (ix2 r d) = normed m c M d) :
    blockOut j h (iblk m c 2 t) (iblk m c 3 t) (ix3 s r l) = result m c (ix3 σ M l) := by
  have hj3 : j < 3 := by omega
  show Cert.In.value (20 * j + s.val) (fun q => iblk m c 3 t (ix2 0 q)) l
      (∑ k : Fin 2048, h (ix2 r k) * iblk m c 2 t (ix2 k ⟨128 * group j s.val + l.val, _⟩))
    = Cert.In.value σ.val (fun q => bounds m c (ix2 0 q)) l (∑ k : Fin 2048, normed m c M k * weights m c (ix2 k ⟨128 * Cert.In.groupOf σ.val + l.val, _⟩))
  rw [show (fun q => iblk m c 3 t (ix2 0 q)) = fun q => bounds m c (ix2 0 q) from funext fun q => block_3 m c t q, ← hσ]
  refine congrArg (Cert.In.value σ.val _ l) (Finset.sum_congr rfl fun k _ => ?_)
  rw [hh]
  refine congrArg (fun y => normed m c M k * y) (block_2 m c t k _ _ ?_)
  show 128 * Cert.In.groupOf σ.val + l.val = 2560 * (t.val % 3) - 128 * (t.val % 3 / 2) + (128 * group j s.val + l.val)
  unfold Cert.In.groupOf group
  have := s.isLt
  have := l.isLt
  rw [hj]
  split <;> split <;> omega

/-- The array the kernel leaves is that function. -/
theorem array_eq : (dats m 0 c).arrAt 4 cfg0.N = result m c := by
  refine (dats m 0 c).arrAt_eq_of_covers 4 _ (by decide +kernel) fun t hf y => ?_
  have hw := window_index t
  have ht := point_lt t
  blk_simp
  rw [after0_4]
  idx_vars y
  obtain ⟨M, hM⟩ : ∃ M : Fin 32768, M.val = 1024 * (t.val / 3) + y1.val := ⟨⟨1024 * (t.val / 3) + y1.val, by have := y1.isLt; omega⟩, rfl⟩
  obtain ⟨σ, hσ⟩ : ∃ σ : Fin 60, σ.val = 20 * (t.val % 3) + y0.val := ⟨⟨20 * (t.val % 3) + y0.val, by have := y0.isLt; omega⟩, rfl⟩
  have hemb : ((View.whole main_v13).slice (win0_4.rect t)).emb (ix3 y0 y1 y2) = ix3 σ M y2 := by
    funext a
    apply Fin.ext
    match a with
    | ⟨0, _⟩ => show win0_4.index t 0 * 20 + 1 * y0.val = σ.val; omega
    | ⟨1, _⟩ => show win0_4.index t 1 * 1024 + 1 * y1.val = M.val; omega
    | ⟨2, _⟩ => show win0_4.index t 2 * 128 + 1 * y2.val = y2.val; omega
  rw [hemb]
  by_cases h0 : t.val % 3 = 0
  · rw [outs_A m c t h0 (by omega) (by omega)]
    exact point_eq m c t 0 h0 _ y0 y1 y2 σ (by omega) M hM fun d => stored m c t y1 d M hM
  · have hs : ∀ d, (outsAt0 m c (t.val - 1) (Nat.lt_of_le_of_lt (Nat.sub_le _ _) t.isLt)).2 (ix2 y1 d) = normed m c M d :=
      fun d => scratch m c _ _ y1 d M (by omega)
    by_cases h1 : t.val % 3 = 1
    · rw [outs_B m c t h0 h1 (by omega)]
      exact point_eq m c t 1 h1 _ y0 y1 y2 σ (by omega) M hM hs
    · rw [outs_C m c t h0 h1 (by omega)]
      exact point_eq m c t 2 (by omega) _ y0 y1 y2 σ (by omega) M hM hs

/-! ## The host's arrays at an index -/

theorem rowsX_apply (M : Fin 32768) (d : Fin 2048) : rowsX m c (ix2 M d)
    = (m (c, Proc.tc.devRef main_arg0) : S2x16384x2048.Idx → EReal) (ix3 ⟨M.val / 16384, by omega⟩ ⟨M.val % 16384, by omega⟩ d) := by
  unfold rowsX V
  after_reads_at

theorem gain_apply (d : Fin 2048) : gain m c (ix2 0 d) = (m (c, Proc.tc.devRef main_arg1) : S2048.Idx → EReal) (ix1 d) := by
  unfold gain V
  after_reads_at

theorem bounds_apply (q : Fin 768) : bounds m c (ix2 0 q) = (m (c, Proc.tc.devRef main_arg3) : S768.Idx → EReal) (ix1 q) := by
  unfold bounds V
  after_reads_at

/-- The factor of column `q` of the weights: the scores' scale for the queries, one elsewhere. -/
def factor (q : ℕ) : EReal :=
  if q < 3072 then 1 else if q - 3072 < 640 then Ideal.ofBits FTy.f32 1035273459#32 * Ideal.div 1 (Ideal.log (Ideal.ofBits FTy.f32 1073741824#32)) else 1

/-- The weights as the caller gives them. -/
abbrev rawWeights (k : Fin 2048) (q : Fin 7552) : EReal := (m (c, Proc.tc.devRef main_arg2) : S2048x7552.Idx → EReal) (ix2 k q)

theorem weights_apply (k : Fin 2048) (q : Fin 7552) : weights m c (ix2 k q)
    = rawWeights m c k q * factor q.val := by
  unfold weights V factor rawWeights
  after_reads_at
  refine congrArg (fun y : EReal => rawWeights m c k q * y) ?_
  split
  · after_reads_at
  · split
    · after_reads_at
    · after_reads_at

end Cert.InprojIdeal.In

end
-- ==== Proof.InRef.lean ====
/- The input projection's reference read at an index. -/
module

public import proofs.«01_k».proof.Proof.Gen.InprojReferenceIdeal.Read
public import proofs.«01_k».proof.Proof.NormSpec
public import proofs.«01_k».proof.Proof.InSpec
public import Idealize.ShloMosaic.Lib.Pipeline.ValueKit

@[expose] public section

set_option maxRecDepth 16384
set_option maxHeartbeats 1000000

noncomputable section

namespace Cert.InprojReferenceIdeal.In

open Cert.InprojReferenceIdeal Cert.InprojReferenceIdeal.Gen Cert.InprojReferenceIdeal.Read Idealize.ShloMosaic Idealize.ShloMosaic.TcCoe Idealize.SL.Sem

variable (x0 : (⟨S2x16384x2048, .f32⟩ : BufTy).Contents (Elt Ideal)) (x1 : (⟨S2048, .f32⟩ : BufTy).Contents (Elt Ideal))
  (x2 : (⟨S2048x7552, .f32⟩ : BufTy).Contents (Elt Ideal)) (x3 : (⟨S768, .f32⟩ : BufTy).Contents (Elt Ideal))
variable (b : Fin 2) (n : Fin 16384)

theorem v12 (d : Fin 2048) : val_main_v12 (F := Ideal) x0 x1 (ix3 b n d)
    = Norm.norm (fun d => x0 (ix3 b n d)) (fun d => x1 (ix1 d)) d := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  rfl

/-- Column `q` of the projections. -/
abbrev column (q : Fin 7552) : EReal := ∑ k, Norm.norm (fun d => x0 (ix3 b n d)) (fun d => x1 (ix1 d)) k * x2 (ix2 k q)

theorem v13 (q : Fin 7552) : val_main_v13 (F := Ideal) x0 x1 x2 (ix3 b n q) = column x0 x1 x2 b n q := by
  unfold val_main_v13
  pointwise
  refine Finset.sum_congr rfl fun k _ => ?_
  rw [v12]

theorem v14 (q : Fin 768) : val_main_v14 (F := Ideal) x0 x1 x2 (ix3 b n q) = column x0 x1 x2 b n ⟨q.val, by omega⟩ := by
  unfold val_main_v14
  pointwise
  exact v13 x0 x1 x2 b n _

theorem v15 (q : Fin 768) : val_main_v15 (F := Ideal) x0 x1 x2 (ix3 b n q) = column x0 x1 x2 b n ⟨768 + q.val, by omega⟩ := by
  unfold val_main_v15
  pointwise
  exact v13 x0 x1 x2 b n _

theorem v16 (q : Fin 768) : val_main_v16 (F := Ideal) x0 x1 x2 (ix3 b n q) = column x0 x1 x2 b n ⟨1536 + q.val, by omega⟩ := by
  unfold val_main_v16
  pointwise
  exact v13 x0 x1 x2 b n _

theorem v17 (q : Fin 768) : val_main_v17 (F := Ideal) x0 x1 x2 (ix3 b n q) = column x0 x1 x2 b n ⟨2304 + q.val, by omega⟩ := by
  unfold val_main_v17
  pointwise
  exact v13 x0 x1 x2 b n _

theorem v18 (q : Fin 640) : val_main_v18 (F := Ideal) x0 x1 x2 (ix3 b n q) = column x0 x1 x2 b n ⟨3072 + q.val, by omega⟩ := by
  unfold val_main_v18
  pointwise
  exact v13 x0 x1 x2 b n _

theorem v19 (q : Fin 640) : val_main_v19 (F := Ideal) x0 x1 x2 (ix3 b n q) = column x0 x1 x2 b n ⟨3712 + q.val, by omega⟩ := by
  unfold val_main_v19
  pointwise
  exact v13 x0 x1 x2 b n _

theorem v20 (q : Fin 640) : val_main_v20 (F := Ideal) x0 x1 x2 (ix3 b n q) = column x0 x1 x2 b n ⟨4352 + q.val, by omega⟩ := by
  unfold val_main_v20
  pointwise
  exact v13 x0 x1 x2 b n _

theorem v21 (q : Fin 640) : val_main_v21 (F := Ideal) x0 x1 x2 (ix3 b n q) = column x0 x1 x2 b n ⟨4992 + q.val, by omega⟩ := by
  unfold val_main_v21
  pointwise
  exact v13 x0 x1 x2 b n _

theorem v22 (q : Fin 320) : val_main_v22 (F := Ideal) x0 x1 x2 (ix3 b n q) = column x0 x1 x2 b n ⟨5632 + q.val, by omega⟩ := by
  unfold val_main_v22
  pointwise
  exact v13 x0 x1 x2 b n _

theorem v23 (q : Fin 320) : val_main_v23 (F := Ideal) x0 x1 x2 (ix3 b n q) = column x0 x1 x2 b n ⟨5952 + q.val, by omega⟩ := by
  unfold val_main_v23
  pointwise
  exact v13 x0 x1 x2 b n _

theorem v24 (q : Fin 640) : val_main_v24 (F := Ideal) x0 x1 x2 (ix3 b n q) = column x0 x1 x2 b n ⟨6272 + q.val, by omega⟩ := by
  unfold val_main_v24
  pointwise
  exact v13 x0 x1 x2 b n _

theorem v25 (q : Fin 640) : val_main_v25 (F := Ideal) x0 x1 x2 (ix3 b n q) = column x0 x1 x2 b n ⟨6912 + q.val, by omega⟩ := by
  unfold val_main_v25
  pointwise
  exact v13 x0 x1 x2 b n _

/-- A projection times its logistic. -/
abbrev silu (t : EReal) : EReal := t * Ideal.div 1 (1 + Ideal.exp (-t))

/-- What the reference stores in column `l` of slot `σ`, from the projected column `t`. -/
def value (σ : ℕ) (lb : Fin 768 → EReal) (l : Fin 128) (t : EReal) : EReal :=
  if Cert.In.kind σ = 1 then silu t
  else if Cert.In.kind σ = 2 then (1 - lb ⟨(128 * (σ - 6) + l.val) % 768, Nat.mod_lt _ (by decide)⟩) * Ideal.div 1 (1 + Ideal.exp (- -t))
  else if Cert.In.kind σ = 3 then 0
  else if 25 ≤ σ ∧ σ < 30 then t * (Ideal.ofBits FTy.f32 1035273459#32 * Ideal.div 1 (Ideal.log (Ideal.ofBits FTy.f32 1073741824#32))) else t

theorem v39 (q : Fin 768) : val_main_v39 (F := Ideal) x0 x1 x2 (ix3 b n q) = silu (column x0 x1 x2 b n ⟨q.val, by omega⟩) := by
  unfold val_main_v39 val_main_call0_v5 val_main_call0_v4 val_main_call0_v3 val_main_call0_v2 val_main_call0_v1 val_main_call0_v0 val_main_call0_cst val_main_call0_cst_0
  have h := v14 x0 x1 x2 b n q
  revert h
  generalize val_main_v14 (F := Ideal) x0 x1 x2 = f
  intro h
  pointwise
  rw [h]

theorem v40 (q : Fin 768) : val_main_v40 (F := Ideal) x0 x1 x2 (ix3 b n q) = silu (column x0 x1 x2 b n ⟨2304 + q.val, by omega⟩) := by
  unfold val_main_v40 val_main_call1_v5 val_main_call1_v4 val_main_call1_v3 val_main_call1_v2 val_main_call1_v1 val_main_call1_v0 val_main_call1_cst val_main_call1_cst_0
  have h := v17 x0 x1 x2 b n q
  revert h
  generalize val_main_v17 (F := Ideal) x0 x1 x2 = f
  intro h
  pointwise
  rw [h]

theorem v46 (q : Fin 640) : val_main_v46 (F := Ideal) x0 x1 x2 (ix3 b n q) = silu (column x0 x1 x2 b n ⟨4992 + q.val, by omega⟩) := by
  unfold val_main_v46 val_main_call2_v5 val_main_call2_v4 val_main_call2_v3 val_main_call2_v2 val_main_call2_v1 val_main_call2_v0 val_main_call2_cst val_main_call2_cst_0
  have h := v21 x0 x1 x2 b n q
  revert h
  generalize val_main_v21 (F := Ideal) x0 x1 x2 = f
  intro h
  pointwise
  rw [h]

theorem v47 (q : Fin 640) : val_main_v47 (F := Ideal) x0 x1 x2 (ix3 b n q) = silu (column x0 x1 x2 b n ⟨6912 + q.val, by omega⟩) := by
  unfold val_main_v47 val_main_call3_v5 val_main_call3_v4 val_main_call3_v3 val_main_call3_v2 val_main_call3_v1 val_main_call3_v0 val_main_call3_cst val_main_call3_cst_0
  have h := v25 x0 x1 x2 b n q
  revert h
  generalize val_main_v25 (F := Ideal) x0 x1 x2 = f
  intro h
  pointwise
  rw [h]

theorem v37 (q : Fin 768) : val_main_v37 (F := Ideal) x0 x1 x2 x3 (ix3 b n q)
    = (1 - x3 (ix1 q)) * Ideal.div 1 (1 + Ideal.exp (- -column x0 x1 x2 b n ⟨768 + q.val, by omega⟩)) := by
  unfold val_main_v37 val_main_v36 val_main_v35 val_main_v34 val_main_v33 val_main_v32 val_main_v31 val_main_v30 val_main_v29 val_main_v28 val_main_v27 val_main_v26 val_main_cst_2 val_main_cst_3 val_main_cst_4
  have h := v15 x0 x1 x2 b n q
  revert h
  generalize val_main_v15 (F := Ideal) x0 x1 x2 = f
  intro h
  pointwise
  rw [h]

theorem v45 (q : Fin 640) : val_main_v45 (F := Ideal) x0 x1 x2 (ix3 b n q)
    = column x0 x1 x2 b n ⟨3072 + q.val, by omega⟩ * (Ideal.ofBits FTy.f32 1035273459#32 * Ideal.div 1 (Ideal.log (Ideal.ofBits FTy.f32 1073741824#32))) := by
  unfold val_main_v45 val_main_v44 val_main_v43 val_main_v42 val_main_v41 val_main_cst_6 val_main_cst_7 val_main_cst_8
  have h := v18 x0 x1 x2 b n q
  revert h
  generalize val_main_v18 (F := Ideal) x0 x1 x2 = f
  intro h
  pointwise
  rw [h]

theorem v38 (q : Fin 128) : val_main_v38 (F := Ideal) (ix3 b n q) = 0 := by
  unfold val_main_v38 val_main_cst_5
  pointwise

theorem v51 (σ : Fin 60) (M : Fin 32768) (l : Fin 128) : val_main_v51 (F := Ideal) x0 x1 x2 x3 (ix3 σ M l)
    = val_main_v48 (F := Ideal) x0 x1 x2 x3 (ix3 ⟨M.val / 16384, by omega⟩ ⟨M.val % 16384, by omega⟩ ⟨σ.val * 128 + l.val, by omega⟩) := by
  unfold val_main_v51 val_main_v50 val_main_v49
  generalize val_main_v48 (F := Ideal) x0 x1 x2 x3 = f
  pointwise

theorem slot_index (σ : Fin 60) (l : Fin 128) : 128 * Cert.In.groupOf σ.val + l.val < 7552 := by
  unfold Cert.In.groupOf
  split <;> omega

/-- Thirteen pieces side by side, read at a column. -/
def chain (f39 : Fin 768 → EReal) (f37 : Fin 768 → EReal) (f16 : Fin 768 → EReal) (f40 : Fin 768 → EReal) (f38 : Fin 128 → EReal) (f45 : Fin 640 → EReal) (f19 : Fin 640 → EReal) (f20 : Fin 640 → EReal) (f46 : Fin 640 → EReal) (f22 : Fin 320 → EReal) (f23 : Fin 320 → EReal) (f24 : Fin 640 → EReal) (f47 : Fin 640 → EReal) (e : Fin 7680) : EReal :=
  if h : e.val < 768 then f39 ⟨e.val, h⟩ else
  if h : e.val - 768 < 768 then f37 ⟨e.val - 768, h⟩ else
  if h : e.val - 768 - 768 < 768 then f16 ⟨e.val - 768 - 768, h⟩ else
  if h : e.val - 768 - 768 - 768 < 768 then f40 ⟨e.val - 768 - 768 - 768, h⟩ else
  if h : e.val - 768 - 768 - 768 - 768 < 128 then f38 ⟨e.val - 768 - 768 - 768 - 768, h⟩ else
  if h : e.val - 768 - 768 - 768 - 768 - 128 < 640 then f45 ⟨e.val - 768 - 768 - 768 - 768 - 128, h⟩ else
  if h : e.val - 768 - 768 - 768 - 768 - 128 - 640 < 640 then f19 ⟨e.val - 768 - 768 - 768 - 768 - 128 - 640, h⟩ else
  if h : e.val - 768 - 768 - 768 - 768 - 128 - 640 - 640 < 640 then f20 ⟨e.val - 768 - 768 - 768 - 768 - 128 - 640 - 640, h⟩ else
  if h : e.val - 768 - 768 - 768 - 768 - 128 - 640 - 640 - 640 < 640 then f46 ⟨e.val - 768 - 768 - 768 - 768 - 128 - 640 - 640 - 640, h⟩ else
  if h : e.val - 768 - 768 - 768 - 768 - 128 - 640 - 640 - 640 - 640 < 320 then f22 ⟨e.val - 768 - 768 - 768 - 768 - 128 - 640 - 640 - 640 - 640, h⟩ else
  if h : e.val - 768 - 768 - 768 - 768 - 128 - 640 - 640 - 640 - 640 - 320 < 320 then f23 ⟨e.val - 768 - 768 - 768 - 768 - 128 - 640 - 640 - 640 - 640 - 320, h⟩ else
  if h : e.val - 768 - 768 - 768 - 768 - 128 - 640 - 640 - 640 - 640 - 320 - 320 < 640 then f24 ⟨e.val - 768 - 768 - 768 - 768 - 128 - 640 - 640 - 640 - 640 - 320 - 320, h⟩ else
  f47 ⟨e.val - 768 - 768 - 768 - 768 - 128 - 640 - 640 - 640 - 640 - 320 - 320 - 640, by omega⟩

theorem v48_chain (e : Fin 7680) : val_main_v48 (F := Ideal) x0 x1 x2 x3 (ix3 b n e) = chain
    (fun q => val_main_v39 (F := Ideal) x0 x1 x2 (ix3 b n q)) (fun q => val_main_v37 (F := Ideal) x0 x1 x2 x3 (ix3 b n q)) (fun q => val_main_v16 (F := Ideal) x0 x1 x2 (ix3 b n q)) (fun q => val_main_v40 (F := Ideal) x0 x1 x2 (ix3 b n q)) (fun q => val_main_v38 (F := Ideal)  (ix3 b n q)) (fun q => val_main_v45 (F := Ideal) x0 x1 x2 (ix3 b n q)) (fun q => val_main_v19 (F := Ideal) x0 x1 x2 (ix3 b n q)) (fun q => val_main_v20 (F := Ideal) x0 x1 x2 (ix3 b n q)) (fun q => val_main_v46 (F := Ideal) x0 x1 x2 (ix3 b n q)) (fun q => val_main_v22 (F := Ideal) x0 x1 x2 (ix3 b n q)) (fun q => val_main_v23 (F := Ideal) x0 x1 x2 (ix3 b n q)) (fun q => val_main_v24 (F := Ideal) x0 x1 x2 (ix3 b n q)) (fun q => val_main_v47 (F := Ideal) x0 x1 x2 (ix3 b n q)) e := by
  unfold val_main_v48
  generalize val_main_v39 (F := Ideal) x0 x1 x2 = f39
  generalize val_main_v37 (F := Ideal) x0 x1 x2 x3 = f37
  generalize val_main_v16 (F := Ideal) x0 x1 x2 = f16
  generalize val_main_v40 (F := Ideal) x0 x1 x2 = f40
  generalize val_main_v38 (F := Ideal)  = f38
  generalize val_main_v45 (F := Ideal) x0 x1 x2 = f45
  generalize val_main_v19 (F := Ideal) x0 x1 x2 = f19
  generalize val_main_v20 (F := Ideal) x0 x1 x2 = f20
  generalize val_main_v46 (F := Ideal) x0 x1 x2 = f46
  generalize val_main_v22 (F := Ideal) x0 x1 x2 = f22
  generalize val_main_v23 (F := Ideal) x0 x1 x2 = f23
  generalize val_main_v24 (F := Ideal) x0 x1 x2 = f24
  generalize val_main_v47 (F := Ideal) x0 x1 x2 = f47
  generalize hy : chain (fun q => f39 (ix3 b n q)) (fun q => f37 (ix3 b n q)) (fun q => f16 (ix3 b n q)) (fun q => f40 (ix3 b n q)) (fun q => f38 (ix3 b n q)) (fun q => f45 (ix3 b n q)) (fun q => f19 (ix3 b n q)) (fun q => f20 (ix3 b n q)) (fun q => f46 (ix3 b n q)) (fun q => f22 (ix3 b n q)) (fun q => f23 (ix3 b n q)) (fun q => f24 (ix3 b n q)) (fun q => f47 (ix3 b n q)) e = y
  pointwise
  rw [← hy]
  rfl

theorem v48 (σ : Fin 60) (l : Fin 128) : val_main_v48 (F := Ideal) x0 x1 x2 x3 (ix3 b n ⟨σ.val * 128 + l.val, by omega⟩)
    = value σ.val (fun q => x3 (ix1 q)) l (column x0 x1 x2 b n ⟨128 * Cert.In.groupOf σ.val + l.val, slot_index σ l⟩) := by
  have h39 := v39 x0 x1 x2 b n
  have h37 := v37 x0 x1 x2 x3 b n
  have h16 := v16 x0 x1 x2 b n
  have h40 := v40 x0 x1 x2 b n
  have h38 := v38 b n
  have h45 := v45 x0 x1 x2 b n
  have h19 := v19 x0 x1 x2 b n
  have h20 := v20 x0 x1 x2 b n
  have h46 := v46 x0 x1 x2 b n
  have h22 := v22 x0 x1 x2 b n
  have h23 := v23 x0 x1 x2 b n
  have h24 := v24 x0 x1 x2 b n
  have h47 := v47 x0 x1 x2 b n
  rw [v48_chain]
  simp only [h39, h37, h16, h40, h38, h45, h19, h20, h46, h22, h23, h24, h47]
  generalize column x0 x1 x2 b n = T
  unfold chain
  have hl := l.isLt
  have same : ∀ a b : Fin 7552, a.val = b.val → T a = T b := fun a b h => congrArg T (Fin.ext h)
  by_cases c0 : σ.val * 128 + l.val < 768
  · rw [dif_pos c0]
    have hk : Cert.In.kind σ.val = 1 := by unfold Cert.In.kind; (repeat' split) <;> omega
    unfold value
    rw [hk]
    rw [if_pos rfl]
    exact congrArg silu (same _ _ (by unfold Cert.In.groupOf; dsimp only; split <;> omega))
  rw [dif_neg c0]
  by_cases c1 : σ.val * 128 + l.val - 768 < 768
  · rw [dif_pos c1]
    have hk : Cert.In.kind σ.val = 2 := by unfold Cert.In.kind; (repeat' split) <;> omega
    unfold value
    rw [hk]
    rw [if_neg (by decide), if_pos rfl]
    have e1 : (⟨σ.val * 128 + l.val - 768, c1⟩ : Fin 768) = ⟨(128 * (σ.val - 6) + l.val) % 768, Nat.mod_lt _ (by decide)⟩ :=
      Fin.ext (by dsimp only; omega)
    have e2 : T ⟨768 + (σ.val * 128 + l.val - 768), by omega⟩ = T ⟨128 * Cert.In.groupOf σ.val + l.val, slot_index σ l⟩ :=
      same _ _ (by unfold Cert.In.groupOf; dsimp only; split <;> omega)
    rw [← e1, ← e2]
  rw [dif_neg c1]
  by_cases c2 : σ.val * 128 + l.val - 768 - 768 < 768
  · rw [dif_pos c2]
    have hk : Cert.In.kind σ.val = 0 := by unfold Cert.In.kind; (repeat' split) <;> omega
    unfold value
    rw [hk]
    rw [if_neg (by decide), if_neg (by decide), if_neg (by decide), if_neg (by omega)]
    exact same _ _ (by unfold Cert.In.groupOf; dsimp only; split <;> omega)
  rw [dif_neg c2]
  by_cases c3 : σ.val * 128 + l.val - 768 - 768 - 768 < 768
  · rw [dif_pos c3]
    have hk : Cert.In.kind σ.val = 1 := by unfold Cert.In.kind; (repeat' split) <;> omega
    unfold value
    rw [hk]
    rw [if_pos rfl]
    exact congrArg silu (same _ _ (by unfold Cert.In.groupOf; dsimp only; split <;> omega))
  rw [dif_neg c3]
  by_cases c4 : σ.val * 128 + l.val - 768 - 768 - 768 - 768 < 128
  · rw [dif_pos c4]
    have hk : Cert.In.kind σ.val = 3 := by unfold Cert.In.kind; (repeat' split) <;> omega
    unfold value
    rw [hk]
    rw [if_neg (by decide), if_neg (by decide), if_pos rfl]
  rw [dif_neg c4]
  by_cases c5 : σ.val * 128 + l.val - 768 - 768 - 768 - 768 - 128 < 640
  · rw [dif_pos c5]
    have hk : Cert.In.kind σ.val = 0 := by unfold Cert.In.kind; (repeat' split) <;> omega
    unfold value
    rw [hk]
    rw [if_neg (by decide), if_neg (by decide), if_neg (by decide), if_pos (by omega)]
    exact congrArg (fun y : EReal => y * _) (same _ _ (by unfold Cert.In.groupOf; dsimp only; split <;> omega))
  rw [dif_neg c5]
  by_cases c6 : σ.val * 128 + l.val - 768 - 768 - 768 - 768 - 128 - 640 < 640
  · rw [dif_pos c6]
    have hk : Cert.In.kind σ.val = 0 := by unfold Cert.In.kind; (repeat' split) <;> omega
    unfold value
    rw [hk]
    rw [if_neg (by decide), if_neg (by decide), if_neg (by decide), if_neg (by omega)]
    exact same _ _ (by unfold Cert.In.groupOf; dsimp only; split <;> omega)
  rw [dif_neg c6]
  by_cases c7 : σ.val * 128 + l.val - 768 - 768 - 768 - 768 - 128 - 640 - 640 < 640
  · rw [dif_pos c7]
    have hk : Cert.In.kind σ.val = 0 := by unfold Cert.In.kind; (repeat' split) <;> omega
    unfold value
    rw [hk]
    rw [if_neg (by decide), if_neg (by decide), if_neg (by decide), if_neg (by omega)]
    exact same _ _ (by unfold Cert.In.groupOf; dsimp only; split <;> omega)
  rw [dif_neg c7]
  by_cases c8 : σ.val * 128 + l.val - 768 - 768 - 768 - 768 - 128 - 640 - 640 - 640 < 640
  · rw [dif_pos c8]
    have hk : Cert.In.kind σ.val = 1 := by unfold Cert.In.kind; (repeat' split) <;> omega
    unfold value
    rw [hk]
    rw [if_pos rfl]
    exact congrArg silu (same _ _ (by unfold Cert.In.groupOf; dsimp only; split <;> omega))
  rw [dif_neg c8]
  by_cases c9 : σ.val * 128 + l.val - 768 - 768 - 768 - 768 - 128 - 640 - 640 - 640 - 640 < 320
  · rw [dif_pos c9]
    have hk : Cert.In.kind σ.val = 0 := by unfold Cert.In.kind; (repeat' split) <;> omega
    unfold value
    rw [hk]
    rw [if_neg (by decide), if_neg (by decide), if_neg (by decide), if_neg (by omega)]
    exact same _ _ (by unfold Cert.In.groupOf; dsimp only; split <;> omega)
  rw [dif_neg c9]
  by_cases c10 : σ.val * 128 + l.val - 768 - 768 - 768 - 768 - 128 - 640 - 640 - 640 - 640 - 320 < 320
  · rw [dif_pos c10]
    have hk : Cert.In.kind σ.val = 0 := by unfold Cert.In.kind; (repeat' split) <;> omega
    unfold value
    rw [hk]
    rw [if_neg (by decide), if_neg (by decide), if_neg (by decide), if_neg (by omega)]
    exact same _ _ (by unfold Cert.In.groupOf; dsimp only; split <;> omega)
  rw [dif_neg c10]
  by_cases c11 : σ.val * 128 + l.val - 768 - 768 - 768 - 768 - 128 - 640 - 640 - 640 - 640 - 320 - 320 < 640
  · rw [dif_pos c11]
    have hk : Cert.In.kind σ.val = 0 := by unfold Cert.In.kind; (repeat' split) <;> omega
    unfold value
    rw [hk]
    rw [if_neg (by decide), if_neg (by decide), if_neg (by decide), if_neg (by omega)]
    exact same _ _ (by unfold Cert.In.groupOf; dsimp only; split <;> omega)
  rw [dif_neg c11]
  have hk : Cert.In.kind σ.val = 1 := by unfold Cert.In.kind; (repeat' split) <;> omega
  unfold value
  rw [hk]
  rw [if_pos rfl]
  exact congrArg silu (same _ _ (by unfold Cert.In.groupOf; dsimp only; split <;> omega))

/-- The reference's packed projections at an index. -/
theorem result (σ : Fin 60) (M : Fin 32768) (l : Fin 128) : val_main_v51 (F := Ideal) x0 x1 x2 x3 (ix3 σ M l)
    = value σ.val (fun q => x3 (ix1 q)) l (column x0 x1 x2 ⟨M.val / 16384, by omega⟩ ⟨M.val % 16384, by omega⟩
        ⟨128 * Cert.In.groupOf σ.val + l.val, slot_index σ l⟩) := by
  rw [v51, v48]

end Cert.InprojReferenceIdeal.In

end
-- ==== Proof.InMath.lean ====
/- The input projection's two activations as the kernel and as the reference compute them are the same function of a real
   number, and the normalised rows are real when the rows and the gain are. -/
module

public import proofs.«01_k».proof.Proof.AttnMath
public import proofs.«01_k».proof.Proof.BandEq
public import proofs.«01_k».proof.Proof.NormSpec
public import proofs.«01_k».proof.Proof.InSpec
public import Mathlib.Analysis.SpecialFunctions.Trigonometric.Basic

@[expose] public section

noncomputable section

namespace Cert.In

open Idealize.ShloMosaic

theorem half_eq : Ideal.ofBits FTy.f32 0x3F000000#32 = ((1 / 2 : ℝ) : EReal) := by
  simp [Ideal.ofBits, Ideal.ieee]
  rw [← EReal.coe_mul]
  norm_num

theorem div_one_add_exp (x : ℝ) : Ideal.div 1 (1 + Ideal.exp (x : EReal)) = ((1 / (1 + Real.exp x) : ℝ) : EReal) := by
  have h : (1 + Real.exp x : ℝ) ≠ 0 := by positivity
  rw [Ideal.exp_coe, ← EReal.coe_one, ← EReal.coe_add, Ideal.div_coe h, ← EReal.coe_mul, one_mul]

/-- Half of `x`, plus that times its hyperbolic tangent, is `x` times its sigmoid. -/
theorem half_tanh (x : ℝ) : 1 / 2 * x + 1 / 2 * x * Real.tanh (1 / 2 * x) = x * (1 / (1 + Real.exp (-x))) := by
  have h1 : Real.exp (-x) = Real.exp (-(1 / 2 * x)) * Real.exp (-(1 / 2 * x)) := by rw [← Real.exp_add]; ring_nf
  have h2 : Real.exp (1 / 2 * x) * Real.exp (-(1 / 2 * x)) = 1 := by rw [← Real.exp_add, add_neg_cancel, Real.exp_zero]
  rw [h1, Real.tanh_eq_sinh_div_cosh, Real.sinh_eq, Real.cosh_eq]
  have hu := Real.exp_pos (1 / 2 * x)
  have hv := Real.exp_pos (-(1 / 2 * x))
  generalize Real.exp (1 / 2 * x) = u at *
  generalize Real.exp (-(1 / 2 * x)) = v at *
  have hs : u + v ≠ 0 := by positivity
  have hd : 1 + v * v ≠ 0 := by positivity
  field_simp
  linear_combination (2 * x * v) * h2

theorem siluK_coe (x : ℝ) : siluK (x : EReal) = (x : EReal) * Ideal.div 1 (1 + Ideal.exp (-(x : EReal))) := by
  unfold siluK
  rw [half_eq, ← EReal.coe_neg, div_one_add_exp, ← EReal.coe_mul, Ideal.tanh_coe, ← EReal.coe_mul, ← EReal.coe_add, ← EReal.coe_mul, half_tanh]

theorem neg_abs (x : ℝ) : (0 : EReal) - FloatOps.absf (F := Ideal) (φ := .f32) (x : EReal) = ((-|x| : ℝ) : EReal) := by
  show (0 : EReal) - max (x : EReal) (-(x : EReal)) = _
  have h : max (x : EReal) ((-x : ℝ) : EReal) = ((|x| : ℝ) : EReal) := (Monotone.map_max EReal.coe_strictMono.monotone).symm
  rw [zero_sub, ← EReal.coe_neg x, h, ← EReal.coe_neg]

theorem keepK_coe (b : EReal) (x : ℝ) : keepK b (x : EReal) = (1 - b) * Ideal.div 1 (1 + Ideal.exp (- -(x : EReal))) := by
  unfold keepK
  rw [neg_abs, neg_neg, div_one_add_exp, div_one_add_exp, Ideal.exp_coe]
  refine congrArg (fun y : EReal => (1 - b) * y) ?_
  split
  · next h =>
    have hx : 0 ≤ x := by exact_mod_cast h
    rw [abs_of_nonneg hx, ← EReal.coe_mul, Real.exp_neg]
    have := Real.exp_pos x
    refine congrArg (fun y : ℝ => (y : EReal)) ?_
    field_simp
    ring
  · next h =>
    have hx : x < 0 := by
      rw [not_le] at h
      exact_mod_cast h
    rw [abs_of_neg hx, neg_neg]

theorem len_eq : Ideal.ofBits FTy.f32 0x45000000#32 = ((2048 : ℝ) : EReal) := by
  simp [Ideal.ofBits, Ideal.ieee]
  rw [← EReal.coe_mul]
  norm_num

theorem eps_eq : ∃ e : ℝ, 0 < e ∧ Ideal.ofBits FTy.f32 0x358637BD#32 = (e : EReal) := by
  refine ⟨(8796093 : ℝ) * (2 : ℝ) ^ (-43 : ℤ), by positivity, ?_⟩
  simp [Ideal.ofBits, Ideal.ieee]

/-- The normalised row of a real row under a real gain is real. -/
theorem norm_real (f g : Fin 2048 → EReal) (hf : ∀ d, ∃ x : ℝ, f d = (x : EReal)) (hg : ∀ d, ∃ x : ℝ, g d = (x : EReal)) (d : Fin 2048) :
    ∃ x : ℝ, Norm.norm f g d = (x : EReal) := by
  choose a ha using hf
  choose b hb using hg
  obtain ⟨e, he, hE⟩ := eps_eq
  obtain ⟨S, hs⟩ := Band.sum_real (fun j => f j * f j) fun j => ⟨a j * a j, by rw [ha, EReal.coe_mul]⟩
  have h0 : 0 ≤ S := by
    have : (0 : EReal) ≤ ∑ j, f j * f j := Finset.sum_nonneg fun j _ => by
      rw [ha, ← EReal.coe_mul]
      exact_mod_cast mul_self_nonneg (a j)
    rw [hs] at this
    exact_mod_cast this
  have hp : 0 < S * (1 / 2048) + e := by positivity
  unfold Norm.norm
  rw [hs, len_eq, hE, Ideal.div_coe (by norm_num), ← EReal.coe_mul, ← EReal.coe_add, Ideal.rsqrt_coe, if_neg (not_lt.2 hp.le), if_neg hp.ne', ha, hb,
    ← EReal.coe_mul, ← EReal.coe_mul]
  exact ⟨_, rfl⟩

/-- A scale on a column of the weights is a scale on the projected column. -/
theorem sum_scale (h w : Fin 2048 → EReal) {s : ℝ} (hs : 0 ≤ s) : (∑ k, h k * (w k * (s : EReal))) = (∑ k, h k * w k) * (s : EReal) := by
  rw [Attn.sum_mul_coe _ hs]
  exact Finset.sum_congr rfl fun k _ => (mul_assoc _ _ _).symm

end Cert.In

end
-- ==== Proof.InEq.lean ====
/- The input projection's kernel and its reference store the same values when the rows, the gain and the weights are real. -/
module

public import proofs.«01_k».proof.Proof.InKernel
public import proofs.«01_k».proof.Proof.InRef
public import proofs.«01_k».proof.Proof.InMath

@[expose] public section

set_option maxRecDepth 16384
set_option maxHeartbeats 1000000

noncomputable section

namespace Cert.InprojIdeal.In

open Cert.InprojIdeal Cert.InprojIdeal.Gen Idealize.ShloMosaic Idealize.ShloMosaic.TcCoe Idealize.SL.Sem

/-- The kernel's activation of a column whose weights were scaled is the reference's of the column itself, for a real column. -/
theorem value_eq (σ : Fin 60) (lb : Fin 768 → EReal) (l : Fin 128) (x : ℝ) (t : EReal)
    (ht : t = (x : EReal) * factor (128 * Cert.In.groupOf σ.val + l.val)) :
    Cert.In.value σ.val lb l t = Cert.InprojReferenceIdeal.In.value σ.val lb l (x : EReal) := by
  have hl := l.isLt
  have hσ := σ.isLt
  by_cases hq : 25 ≤ σ.val ∧ σ.val < 30
  · have hk : Cert.In.kind σ.val = 0 := by unfold Cert.In.kind; (repeat' split) <;> omega
    have hg : Cert.In.groupOf σ.val = σ.val - 1 := by unfold Cert.In.groupOf; split <;> omega
    unfold Cert.In.value Cert.InprojReferenceIdeal.In.value
    rw [hk, if_neg (by decide), if_neg (by decide), if_neg (by decide), if_neg (by decide), if_neg (by decide), if_neg (by decide), if_pos hq, ht]
    unfold factor
    rw [hg, if_neg (by omega), if_pos (by omega)]
  by_cases h24 : σ.val = 24
  · have hk : Cert.In.kind σ.val = 3 := by unfold Cert.In.kind; (repeat' split) <;> omega
    unfold Cert.In.value Cert.InprojReferenceIdeal.In.value
    rw [hk, if_neg (by decide), if_neg (by decide), if_pos rfl, if_neg (by decide), if_neg (by decide), if_pos rfl]
  · have hf : factor (128 * Cert.In.groupOf σ.val + l.val) = 1 := by
      unfold factor Cert.In.groupOf
      (repeat' split) <;> first | rfl | omega
    rw [hf, mul_one] at ht
    rw [ht]
    unfold Cert.In.value Cert.InprojReferenceIdeal.In.value
    rw [if_neg hq, Cert.In.siluK_coe, Cert.In.keepK_coe]

variable (m : (ℓ : Loc nD τ sig) → Buf (Elt Ideal) ℓ) (c : Dev nD)

theorem factor_real (q : ℕ) : ∃ s : ℝ, 0 ≤ s ∧ factor q = (s : EReal) := by
  obtain ⟨s, hs, hS⟩ := Cert.Band.scale_eq
  unfold Cert.Band.scale at hS
  unfold factor
  split
  · exact ⟨1, zero_le_one, rfl⟩
  · split
    · refine ⟨s * (1 / Real.log 2), mul_nonneg hs (one_div_nonneg.2 (Real.log_nonneg (by norm_num))), ?_⟩
      rw [hS, Cert.Band.log2e_eq, EReal.coe_mul]
    · exact ⟨1, zero_le_one, rfl⟩

/-- The rows, the gain and the bounds as the caller gives them. -/
abbrev rawX : S2x16384x2048.Idx → EReal := m (c, Proc.tc.devRef main_arg0)
abbrev rawGain : S2048.Idx → EReal := m (c, Proc.tc.devRef main_arg1)
abbrev rawBounds : S768.Idx → EReal := m (c, Proc.tc.devRef main_arg3)

theorem result_eq (hX : ∀ i, ∃ x : ℝ, rawX m c i = (x : EReal)) (hG : ∀ i, ∃ x : ℝ, rawGain m c i = (x : EReal))
    (hW : ∀ i : S2048x7552.Idx, ∃ x : ℝ, (m (c, Proc.tc.devRef main_arg2) : S2048x7552.Idx → EReal) i = (x : EReal))
    (σ : Fin 60) (M : Fin 32768) (l : Fin 128) : result m c (ix3 σ M l)
    = Cert.InprojReferenceIdeal.In.value σ.val (fun q => rawBounds m c (ix1 q)) l
        (Cert.InprojReferenceIdeal.In.column (rawX m c) (rawGain m c) (m (c, Proc.tc.devRef main_arg2)) ⟨M.val / 16384, by omega⟩ ⟨M.val % 16384, by omega⟩
          ⟨128 * Cert.In.groupOf σ.val + l.val, Cert.InprojReferenceIdeal.In.slot_index σ l⟩) := by
  have hN : ∀ k, normed m c M k = Norm.norm (fun d => rawX m c (ix3 ⟨M.val / 16384, by omega⟩ ⟨M.val % 16384, by omega⟩ d)) (fun d => rawGain m c (ix1 d)) k := fun k => by
    unfold normed
    rw [show (fun d => rowsX m c (ix2 M d)) = fun d => rawX m c (ix3 ⟨M.val / 16384, by omega⟩ ⟨M.val % 16384, by omega⟩ d) from funext fun d => rowsX_apply m c M d,
      show (fun d => gain m c (ix2 0 d)) = fun d => rawGain m c (ix1 d) from funext fun d => gain_apply m c d]
  have hB : (fun q => bounds m c (ix2 0 q)) = fun q => rawBounds m c (ix1 q) := funext fun q => bounds_apply m c q
  obtain ⟨s, hs, hS⟩ := factor_real (128 * Cert.In.groupOf σ.val + l.val)
  obtain ⟨x, hx⟩ := Cert.Band.sum_real
    (fun k => normed m c M k * rawWeights m c k ⟨128 * Cert.In.groupOf σ.val + l.val, Cert.InprojReferenceIdeal.In.slot_index σ l⟩) (fun k => by
      obtain ⟨a, ha⟩ := Cert.In.norm_real _ _ (fun d => hX (ix3 ⟨M.val / 16384, by omega⟩ ⟨M.val % 16384, by omega⟩ d)) (fun d => hG (ix1 d)) k
      obtain ⟨w, hw⟩ := hW (ix2 k ⟨128 * Cert.In.groupOf σ.val + l.val, Cert.InprojReferenceIdeal.In.slot_index σ l⟩)
      refine ⟨a * w, ?_⟩
      rw [hN, ha, EReal.coe_mul]
      exact congrArg (fun y : EReal => (a : EReal) * y) hw)
  have hcol : Cert.InprojReferenceIdeal.In.column (rawX m c) (rawGain m c) (m (c, Proc.tc.devRef main_arg2)) ⟨M.val / 16384, by omega⟩ ⟨M.val % 16384, by omega⟩
      ⟨128 * Cert.In.groupOf σ.val + l.val, Cert.InprojReferenceIdeal.In.slot_index σ l⟩ = (x : EReal) := by
    rw [← hx]
    exact Finset.sum_congr rfl fun k _ => congrArg (fun y : EReal => y * rawWeights m c k _) (hN k).symm
  rw [hcol, ← hB]
  refine value_eq σ _ l x _ ?_
  show (∑ k : Fin 2048, normed m c M k * weights m c (ix2 k ⟨128 * Cert.In.groupOf σ.val + l.val, _⟩)) = _
  rw [hS, ← hx, ← Cert.In.sum_scale _ _ hs]
  refine Finset.sum_congr rfl fun k _ => ?_
  rw [weights_apply, hS]

end Cert.InprojIdeal.In

end
-- ==== Proof.FiniteInputs.lean ====
/- What the input projection's precondition says: the rows, the norm's gain and the weights hold real numbers. -/
module

public import proofs.«01_k».proof.Pre_finite_inputs
public import proofs.«01_k».proof.Proof.Finite

@[expose] public section

set_option maxRecDepth 16384

noncomputable section

namespace Cert.Pre_finite_inputs

open Idealize.ShloMosaic

variable [Facts]

instance : Subsingleton S_.Idx := ⟨fun a b => funext fun i => i.elim0⟩

theorem real_of_fn (x0 : FVec Ideal S2x16384x2048 .f32) (x1 : FVec Ideal S2048 .f32) (x2 : FVec Ideal S2048x7552 .f32) (x3 : FVec Ideal S768 .f32)
    (h : fn x0 x1 x2 x3 = fun _ => 1#1) :
    (∀ i, ∃ x : ℝ, x0 i = (x : EReal)) ∧ (∀ i, ∃ x : ℝ, x1 i = (x : EReal)) ∧ ∀ i, ∃ x : ℝ, x2 i = (x : EReal) := by
  have h0 := congrFun h (Shape.Idx.first Facts.h_S_)
  dsimp only [fn] at h0
  have h1 := IntOp.andi_eq_one.1 h0
  have h2 := IntOp.andi_eq_one.1 h1.1
  exact ⟨fun i => Cert.Pre_finite_scores.real_of_abs_lt _ (Host.reduce_andi_all _ _ _ _ _ h2.1 i),
    fun i => Cert.Pre_finite_scores.real_of_abs_lt _ (Host.reduce_andi_all _ _ _ _ _ h2.2 i),
    fun i => Cert.Pre_finite_scores.real_of_abs_lt _ (Host.reduce_andi_all _ _ _ _ _ h1.2 i)⟩

end Cert.Pre_finite_inputs

end
-- ==== Proof.OutFirstKernel.lean ====
/- The first output projection's kernel, which leaves the residual rows and the normalised rows, read at an index. -/
module

public import proofs.«01_k».proof.Proof.Gen.OutprojFirstIdeal.Value
public import proofs.«01_k».proof.Proof.NormSpec
public import Idealize.ShloMosaic.Lib.Pipeline.ValueKit
public import Idealize.ShloMosaic.Lib.StableHlo.ReadAt

@[expose] public section

set_option maxRecDepth 16384
set_option maxHeartbeats 1000000

noncomputable section

namespace Cert.OutprojFirstIdeal.Out

open Cert.OutprojFirstIdeal Cert.OutprojFirstIdeal.Gen Idealize.ShloMosaic Idealize.ShloMosaic.TcCoe Idealize.SL.Sem

/-- What the body stores in its first output at a row and column of its block, from the blocks it loads. -/
theorem pay_row (a : Vec Ideal S512x768 .bf16) (b c : Vec Ideal S512x640 .bf16) (x : Vec Ideal S512x2048 .f32)
    (w : Vec Ideal S2048x2048 .bf16) (r : Fin 512) (d : Fin 2048) :
    k0_pay1 a b c x w (ix2 r d)
      = Norm.residual (Norm.beside (fun e => a (ix2 r e)) (fun e => b (ix2 r e)) (fun e => c (ix2 r e)))
          (fun d => x (ix2 r d)) (fun e d => w (ix2 e d)) d := by
  unfold k0_pay1
  pointwise
  rfl

/-- What it stores in its second. -/
theorem pay_apply (a : Vec Ideal S512x768 .bf16) (b c : Vec Ideal S512x640 .bf16) (x : Vec Ideal S512x2048 .f32)
    (w : Vec Ideal S2048x2048 .bf16) (g : Vec Ideal S1x2048 .f32) (r : Fin 512) (d : Fin 2048) :
    k0_pay2 a b c x w g (ix2 r d)
      = Norm.norm (Norm.residual (Norm.beside (fun e => a (ix2 r e)) (fun e => b (ix2 r e)) (fun e => c (ix2 r e)))
          (fun d => x (ix2 r d)) (fun e d => w (ix2 e d))) (fun d => g (ix2 0 d)) d := by
  have h := fun d => pay_row a b c x w r d
  unfold k0_pay2
  revert h
  generalize k0_pay1 a b c x w = f
  generalize Norm.residual (Norm.beside (fun e => a (ix2 r e)) (fun e => b (ix2 r e)) (fun e => c (ix2 r e)))
          (fun d => x (ix2 r d)) (fun e d => w (ix2 e d)) = q
  intro h
  pointwise
  simp only [h]
  rfl

variable (m : (ℓ : Loc nD τ sig) → Buf (Elt Ideal) ℓ) (c : Dev nD)

/-- The three mixers' outputs, the residual rows, the weights and the gain as the kernel finds them. -/
abbrev rowsA : S32768x768.Idx → EReal := V m c main_v1
abbrev rowsB : S32768x640.Idx → EReal := V m c main_v3
abbrev rowsC : S32768x640.Idx → EReal := V m c main_v5
abbrev rowsX : S32768x2048.Idx → EReal := V m c main_v6
abbrev weights : S2048x2048.Idx → EReal := V m c main_v7
abbrev gain : S1x2048.Idx → EReal := V m c main_v8

/-- The row that the kernel leaves at row `M`. -/
abbrev row (M : Fin 32768) : Fin 2048 → EReal :=
  Norm.residual (Norm.beside (fun e => rowsA m c (ix2 M e)) (fun e => rowsB m c (ix2 M e)) (fun e => rowsC m c (ix2 M e)))
    (fun d => rowsX m c (ix2 M d)) (fun e d => weights m c (ix2 e d))

/-- The kernel's two results as functions of the arrays it finds. -/
def rows (i : S32768x2048.Idx) : EReal := row m c (i 0) (i 1)
def result (i : S32768x2048.Idx) : EReal := Norm.norm (row m c (i 0)) (fun d => gain m c (ix2 0 d)) (i 1)

/-- The block indices of the windows: rows by the point, columns, weights and gain whole. -/
theorem window_index : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0))

theorem point_lt (t : Fin cfg0.N) : t.val < 64 := lt_of_lt_of_eq t.isLt (show cfg0.N = 64 from N_0)

/-! ## A block at an index is its array at the place the window gives it -/

theorem block_0 (t : Fin cfg0.N) (r : Fin 512) (e : Fin 768) (M : Fin 32768) (hM : M.val = 512 * t.val + r.val) :
    iblk m c 0 t (ix2 r e) = rowsA m c (ix2 M e) := by
  have hw := window_index t
  show rowsA m c (((cfg0.win 0).blk t).view.emb (ix2 r e)) = _
  generalize rowsA m c = A
  congr 1
  funext a
  apply Fin.ext
  match a with
  | ⟨0, _⟩ => show win0_0.index t 0 * 512 + 1 * r.val = M.val; omega
  | ⟨1, _⟩ => show win0_0.index t 1 * 768 + 1 * e.val = e.val; omega

theorem block_1 (t : Fin cfg0.N) (r : Fin 512) (e : Fin 640) (M : Fin 32768) (hM : M.val = 512 * t.val + r.val) :
    iblk m c 1 t (ix2 r e) = rowsB m c (ix2 M e) := by
  have hw := window_index t
  show rowsB m c (((cfg0.win 1).blk t).view.emb (ix2 r e)) = _
  generalize rowsB m c = A
  congr 1
  funext a
  apply Fin.ext
  match a with
  | ⟨0, _⟩ => show win0_1.index t 0 * 512 + 1 * r.val = M.val; omega
  | ⟨1, _⟩ => show win0_1.index t 1 * 640 + 1 * e.val = e.val; omega

theorem block_2 (t : Fin cfg0.N) (r : Fin 512) (e : Fin 640) (M : Fin 32768) (hM : M.val = 512 * t.val + r.val) :
    iblk m c 2 t (ix2 r e) = rowsC m c (ix2 M e) := by
  have hw := window_index t
  show rowsC m c (((cfg0.win 2).blk t).view.emb (ix2 r e)) = _
  generalize rowsC m c = A
  congr 1
  funext a
  apply Fin.ext
  match a with
  | ⟨0, _⟩ => show win0_2.index t 0 * 512 + 1 * r.val = M.val; omega
  | ⟨1, _⟩ => show win0_2.index t 1 * 640 + 1 * e.val = e.val; omega

theorem block_3 (t : Fin cfg0.N) (r : Fin 512) (e : Fin 2048) (M : Fin 32768) (hM : M.val = 512 * t.val + r.val) :
    iblk m c 3 t (ix2 r e) = rowsX m c (ix2 M e) := by
  have hw := window_index t
  show rowsX m c (((cfg0.win 3).blk t).view.emb (ix2 r e)) = _
  generalize rowsX m c = A
  congr 1
  funext a
  apply Fin.ext
  match a with
  | ⟨0, _⟩ => show win0_3.index t 0 * 512 + 1 * r.val = M.val; omega
  | ⟨1, _⟩ => show win0_3.index t 1 * 2048 + 1 * e.val = e.val; omega

theorem block_4 (t : Fin cfg0.N) (e d : Fin 2048) : iblk m c 4 t (ix2 e d) = weights m c (ix2 e d) := by
  have hw := window_index t
  show weights m c (((cfg0.win 4).blk t).view.emb (ix2 e d)) = _
  generalize weights m c = A
  congr 1
  funext a
  apply Fin.ext
  match a with
  | ⟨0, _⟩ => show win0_4.index t 0 * 2048 + 1 * e.val = e.val; omega
  | ⟨1, _⟩ => show win0_4.index t 1 * 2048 + 1 * d.val = d.val; omega

theorem block_5 (t : Fin cfg0.N) (d : Fin 2048) : iblk m c 5 t (ix2 0 d) = gain m c (ix2 0 d) := by
  have hw := window_index t
  show gain m c (((cfg0.win 5).blk t).view.emb (ix2 0 d)) = _
  generalize gain m c = A
  congr 1
  funext a
  apply Fin.ext
  match a with
  | ⟨0, _⟩ => show win0_5.index t 0 * 1 + 1 * 0 = 0; omega
  | ⟨1, _⟩ => show win0_5.index t 1 * 2048 + 1 * d.val = d.val; omega

/-- The first array the kernel leaves is the first function. -/
theorem rows_eq : (dats m 0 c).arrAt 6 cfg0.N = rows m c := by
  refine (dats m 0 c).arrAt_eq_of_covers 6 _ (by decide +kernel) fun t hf y => ?_
  have hw := window_index t
  blk_simp
  rw [after0_6]
  frame_out
  idx_vars y
  rw [pay_row]
  obtain ⟨M, hM⟩ : ∃ M : Fin 32768, M.val = 512 * t.val + y0.val := ⟨⟨512 * t.val + y0.val, by have := y0.isLt; have := point_lt t; omega⟩, rfl⟩
  have hemb : ((View.whole main_v9_0).slice (win0_6.rect t)).emb (ix2 y0 y1) = ix2 M y1 := by
    funext a
    apply Fin.ext
    match a with
    | ⟨0, _⟩ => show win0_6.index t 0 * 512 + 1 * y0.val = M.val; omega
    | ⟨1, _⟩ => show win0_6.index t 1 * 2048 + 1 * y1.val = y1.val; omega
  rw [hemb]
  show _ = row m c M y1
  rw [show (fun e => iblk m c 0 t (ix2 y0 e)) = fun e => rowsA m c (ix2 M e) from funext fun e => block_0 m c t y0 e M hM,
    show (fun e => iblk m c 1 t (ix2 y0 e)) = fun e => rowsB m c (ix2 M e) from funext fun e => block_1 m c t y0 e M hM,
    show (fun e => iblk m c 2 t (ix2 y0 e)) = fun e => rowsC m c (ix2 M e) from funext fun e => block_2 m c t y0 e M hM,
    show (fun d => iblk m c 3 t (ix2 y0 d)) = fun d => rowsX m c (ix2 M d) from funext fun d => block_3 m c t y0 d M hM,
    show (fun e d => iblk m c 4 t (ix2 e d)) = fun e d => weights m c (ix2 e d) from funext fun e => funext fun d => block_4 m c t e d]

/-- The second array it leaves is the second. -/
theorem array_eq : (dats m 0 c).arrAt 7 cfg0.N = result m c := by
  refine (dats m 0 c).arrAt_eq_of_covers 7 _ (by decide +kernel) fun t hf y => ?_
  have hw := window_index t
  blk_simp
  rw [after0_7]
  frame_out
  idx_vars y
  rw [pay_apply]
  obtain ⟨M, hM⟩ : ∃ M : Fin 32768, M.val = 512 * t.val + y0.val := ⟨⟨512 * t.val + y0.val, by have := y0.isLt; have := point_lt t; omega⟩, rfl⟩
  have hemb : ((View.whole main_v9_1).slice (win0_7.rect t)).emb (ix2 y0 y1) = ix2 M y1 := by
    funext a
    apply Fin.ext
    match a with
    | ⟨0, _⟩ => show win0_7.index t 0 * 512 + 1 * y0.val = M.val; omega
    | ⟨1, _⟩ => show win0_7.index t 1 * 2048 + 1 * y1.val = y1.val; omega
  rw [hemb]
  show _ = Norm.norm (row m c M) (fun d => gain m c (ix2 0 d)) y1
  rw [show (fun e => iblk m c 0 t (ix2 y0 e)) = fun e => rowsA m c (ix2 M e) from funext fun e => block_0 m c t y0 e M hM,
    show (fun e => iblk m c 1 t (ix2 y0 e)) = fun e => rowsB m c (ix2 M e) from funext fun e => block_1 m c t y0 e M hM,
    show (fun e => iblk m c 2 t (ix2 y0 e)) = fun e => rowsC m c (ix2 M e) from funext fun e => block_2 m c t y0 e M hM,
    show (fun d => iblk m c 3 t (ix2 y0 d)) = fun d => rowsX m c (ix2 M d) from funext fun d => block_3 m c t y0 d M hM,
    show (fun e d => iblk m c 4 t (ix2 e d)) = fun e d => weights m c (ix2 e d) from funext fun e => funext fun d => block_4 m c t e d,
    show (fun d => iblk m c 5 t (ix2 0 d)) = fun d => gain m c (ix2 0 d) from funext fun d => block_5 m c t d]

/-! ## The host's arrays at an index -/

theorem rowsA_apply (M : Fin 32768) (e : Fin 768) : rowsA m c (ix2 M e)
    = (m (c, Proc.tc.devRef main_arg0) : S2x16384x768.Idx → EReal) (ix3 ⟨M.val / 16384, by omega⟩ ⟨M.val % 16384, by omega⟩ e) := by
  unfold rowsA V
  after_reads_at

theorem rowsB_apply (M : Fin 32768) (e : Fin 640) : rowsB m c (ix2 M e)
    = (m (c, Proc.tc.devRef main_arg1) : S2x16384x640.Idx → EReal) (ix3 ⟨M.val / 16384, by omega⟩ ⟨M.val % 16384, by omega⟩ e) := by
  unfold rowsB V
  after_reads_at

theorem rowsC_apply (M : Fin 32768) (e : Fin 640) : rowsC m c (ix2 M e)
    = (m (c, Proc.tc.devRef main_arg2) : S2x16384x640.Idx → EReal) (ix3 ⟨M.val / 16384, by omega⟩ ⟨M.val % 16384, by omega⟩ e) := by
  unfold rowsC V
  after_reads_at

theorem rowsX_apply (M : Fin 32768) (d : Fin 2048) : rowsX m c (ix2 M d)
    = (m (c, Proc.tc.devRef main_arg3) : S2x16384x2048.Idx → EReal) (ix3 ⟨M.val / 16384, by omega⟩ ⟨M.val % 16384, by omega⟩ d) := by
  unfold rowsX V
  after_reads_at

theorem weights_apply (e d : Fin 2048) : weights m c (ix2 e d)
    = (m (c, Proc.tc.devRef main_arg4) : S2048x2048.Idx → EReal) (ix2 e d) := by
  unfold weights V
  after_reads_at

theorem gain_apply (d : Fin 2048) : gain m c (ix2 0 d)
    = (m (c, Proc.tc.devRef main_arg5) : S2048.Idx → EReal) (ix1 d) := by
  unfold gain V
  after_reads_at

end Cert.OutprojFirstIdeal.Out
-- ==== Proof.OutFirstRef.lean ====
/- The first output projection's reference read at an index. -/
module

public import proofs.«01_k».proof.Proof.Gen.OutprojFirstReferenceIdeal.Read
public import proofs.«01_k».proof.Proof.NormSpec
public import Idealize.ShloMosaic.Lib.Pipeline.ValueKit

@[expose] public section

set_option maxRecDepth 16384
set_option maxHeartbeats 1000000

noncomputable section

namespace Cert.OutprojFirstReferenceIdeal.Out

open Cert.OutprojFirstReferenceIdeal Cert.OutprojFirstReferenceIdeal.Gen Cert.OutprojFirstReferenceIdeal.Read Idealize.ShloMosaic Idealize.ShloMosaic.TcCoe Idealize.SL.Sem

variable (x0 : (⟨S2x16384x768, .f32⟩ : BufTy).Contents (Elt Ideal)) (x1 x2 : (⟨S2x16384x640, .f32⟩ : BufTy).Contents (Elt Ideal))
  (x3 : (⟨S2x16384x2048, .f32⟩ : BufTy).Contents (Elt Ideal)) (x4 : (⟨S2048x2048, .f32⟩ : BufTy).Contents (Elt Ideal))
  (x5 : (⟨S2048, .f32⟩ : BufTy).Contents (Elt Ideal))
variable (b : Fin 2) (n : Fin 16384) (d : Fin 2048)

theorem v0 (e : Fin 2048) : val_main_v0 (F := Ideal) x0 x1 x2 (ix3 b n e)
    = Norm.beside (fun e => x0 (ix3 b n e)) (fun e => x1 (ix3 b n e)) (fun e => x2 (ix3 b n e)) e := by
  unfold val_main_v0
  pointwise
  rfl

theorem v1 : val_main_v1 (F := Ideal) x0 x1 x2 x4 (ix3 b n d)
    = ∑ e, Norm.beside (fun e => x0 (ix3 b n e)) (fun e => x1 (ix3 b n e)) (fun e => x2 (ix3 b n e)) e * x4 (ix2 e d) := by
  unfold val_main_v1
  pointwise
  refine Finset.sum_congr rfl fun e _ => ?_
  rw [v0]

/-- The row that is normalised. -/
abbrev row : Fin 2048 → EReal :=
  Norm.residual (Norm.beside (fun e => x0 (ix3 b n e)) (fun e => x1 (ix3 b n e)) (fun e => x2 (ix3 b n e)))
    (fun d => x3 (ix3 b n d)) (fun e d => x4 (ix2 e d))

theorem v2 : val_main_v2 (F := Ideal) x0 x1 x2 x3 x4 (ix3 b n d) = row x0 x1 x2 x3 x4 b n d := by
  unfold val_main_v2
  pointwise
  rw [v1]
  rfl

theorem v3 (M : Fin 32768) : val_main_v3 (F := Ideal) x0 x1 x2 x3 x4 (ix2 M d)
    = row x0 x1 x2 x3 x4 ⟨M.val / 16384, by omega⟩ ⟨M.val % 16384, by omega⟩ d := by
  rw [← v2]
  unfold val_main_v3
  generalize val_main_v2 (F := Ideal) x0 x1 x2 x3 x4 = f
  pointwise

theorem v16 : val_main_v16 (F := Ideal) x0 x1 x2 x3 x4 x5 (ix3 b n d)
    = Norm.norm (row x0 x1 x2 x3 x4 b n) (fun d => x5 (ix1 d)) d := by
  have h := fun d => v2 x0 x1 x2 x3 x4 b n d
  unfold val_main_v16 val_main_v15 val_main_v14 val_main_v13 val_main_v12 val_main_v11 val_main_v10 val_main_v9 val_main_v8
    val_main_v7 val_main_v6 val_main_v5 val_main_v4 val_main_cst val_main_cst_0 val_main_cst_1
  revert h
  generalize val_main_v2 (F := Ideal) x0 x1 x2 x3 x4 = f
  generalize row x0 x1 x2 x3 x4 b n = g
  intro h
  pointwise
  simp only [h]
  rfl

theorem v18 (M : Fin 32768) : val_main_v18 (F := Ideal) x0 x1 x2 x3 x4 x5 (ix2 M d)
    = Norm.norm (row x0 x1 x2 x3 x4 ⟨M.val / 16384, by omega⟩ ⟨M.val % 16384, by omega⟩) (fun d => x5 (ix1 d)) d := by
  rw [← v16]
  unfold val_main_v18 val_main_v17
  generalize val_main_v16 (F := Ideal) x0 x1 x2 x3 x4 x5 = f
  pointwise

end Cert.OutprojFirstReferenceIdeal.Out
-- ==== Proof.SecondBlock.lean ====
/- The block of 20 slots that a grid point of the second input projection (whose rows come in already normalised) leaves, in
   plain functions of the blocks it reads, and that block at the place a store of one slot puts it. -/
module

public import proofs.«01_k».proof.Proof.Gen.InprojSecondIdeal.Frame
public import proofs.«01_k».proof.Proof.InSpec
public import Idealize.ShloMosaic.Lib.Pipeline.Value
public import Idealize.ShloMosaic.Lib.Pipeline.ReadBack
public import Idealize.ShloMosaic.Lib.Pipeline.ValueKit

@[expose] public section

set_option maxRecDepth 16384
set_option maxHeartbeats 1000000

noncomputable section

namespace Cert.InprojSecondIdeal.In

open Cert.InprojSecondIdeal Cert.InprojSecondIdeal.Gen Idealize.ShloMosaic Idealize.ShloMosaic.TcCoe Idealize.SL.Sem

/-- The group of 128 columns, in the block of weights of step `j`, that slot `s` of the step is projected by: the spare slot
    (slot 4 of step 1) has no columns. -/
def group (j s : ℕ) : ℕ := if j = 1 ∧ 4 < s then s - 1 else s

theorem group_le (j s : ℕ) : group j s ≤ s := by unfold group; split <;> omega

/-- Slot `s`, row `r`, column `l` of the block that step `j` leaves, from the rows `h`, the weights' block `w` and
    the bounds `lb`. -/
def blockOut (j : ℕ) (h : S1024x2048.Idx → EReal) (w : S2048x2560.Idx → EReal) (lb : S1x768.Idx → EReal) :
    S20x1024x128.Idx → EReal := fun y =>
  Cert.In.value (20 * j + (y 0).val) (fun q => lb (ix2 0 q)) (y 2)
    (∑ k : Fin 2048, h (ix2 (y 1) k) * w (ix2 k ⟨128 * group j (y 0).val + (y 2).val, by
      have := (y 0).isLt; have := (y 2).isLt; have := group_le j (y 0).val
      change (y 0).val < 20 at *; change (y 2).val < 128 at *; omega⟩))

variable (j : ℕ) (h : S1024x2048.Idx → EReal) (w : S2048x2560.Idx → EReal) (lb : S1x768.Idx → EReal)
  (x0 : Fin 1) (r : Fin 1024) (l : Fin 128) (s n : ℕ)

theorem blockOut_emb (hs : s < 20) (inb) :
    blockOut j h w lb ((Rect.unit (s := S20x1024x128) ![s, 0, 0] ![1, 1024, 128] inb).emb (ix3 x0 r l)) = blockOut j h w lb (ix3 ⟨s, hs⟩ r l) := by
  congr 1
  funext a
  apply Fin.ext
  match a with
  | ⟨0, _⟩ => show s + 1 * x0.val = s; omega
  | ⟨1, _⟩ => show 0 + 1 * r.val = r.val; omega
  | ⟨2, _⟩ => show 0 + 1 * l.val = l.val; omega

/-- The projected column. -/
abbrev column (hn : n < 20) : EReal := ∑ k : Fin 2048, h (ix2 r k) * w (ix2 k ⟨128 * n + l.val, by omega⟩)

theorem at_none (hs : s < 20) (hn : n < 20) (hg : group j s = n) (hk : Cert.In.kind (20 * j + s) = 0) (inb) :
    blockOut j h w lb ((Rect.unit (s := S20x1024x128) ![s, 0, 0] ![1, 1024, 128] inb).emb (ix3 x0 r l)) = column h w r l n hn := by
  subst hg
  rw [blockOut_emb j h w lb x0 r l s hs inb]
  show Cert.In.value (20 * j + s) _ _ _ = _
  unfold Cert.In.value
  rw [hk, if_neg (by decide), if_neg (by decide), if_neg (by decide)]
  rfl

theorem at_silu (hs : s < 20) (hn : n < 20) (hg : group j s = n) (hk : Cert.In.kind (20 * j + s) = 1) (inb) :
    blockOut j h w lb ((Rect.unit (s := S20x1024x128) ![s, 0, 0] ![1, 1024, 128] inb).emb (ix3 x0 r l))
      = Cert.In.siluK (column h w r l n hn) := by
  subst hg
  rw [blockOut_emb j h w lb x0 r l s hs inb]
  show Cert.In.value (20 * j + s) _ _ _ = _
  unfold Cert.In.value
  rw [hk, if_pos rfl]
  rfl

theorem at_zero (hs : s < 20) (hk : Cert.In.kind (20 * j + s) = 3) (inb) :
    blockOut j h w lb ((Rect.unit (s := S20x1024x128) ![s, 0, 0] ![1, 1024, 128] inb).emb (ix3 x0 r l)) = 0 := by
  rw [blockOut_emb j h w lb x0 r l s hs inb]
  show Cert.In.value (20 * j + s) _ _ _ = _
  unfold Cert.In.value
  rw [hk, if_neg (by decide), if_neg (by decide), if_pos rfl]

theorem at_keep (hs : s < 20) (hn : n < 20) (hg : group j s = n) (hk : Cert.In.kind (20 * j + s) = 2) (hq : 20 * j + s < 12) (inb) :
    blockOut j h w lb ((Rect.unit (s := S20x1024x128) ![s, 0, 0] ![1, 1024, 128] inb).emb (ix3 x0 r l))
      = Cert.In.keepK (lb (ix2 0 ⟨128 * (20 * j + s - 6) + l.val, by omega⟩)) (column h w r l n hn) := by
  subst hg
  rw [blockOut_emb j h w lb x0 r l s hs inb]
  show Cert.In.value (20 * j + s) _ _ _ = _
  unfold Cert.In.value
  rw [hk, if_neg (by decide), if_pos rfl]
  have e : (⟨(128 * (20 * j + s - 6) + l.val) % 768, Nat.mod_lt _ (by decide)⟩ : Fin 768) = ⟨128 * (20 * j + s - 6) + l.val, by omega⟩ :=
    Fin.ext (Nat.mod_eq_of_lt (by omega))
  show Cert.In.keepK (lb (ix2 0 ⟨(128 * (20 * j + s - 6) + l.val) % 768, _⟩)) _ = _
  rw [e]
  rfl

end Cert.InprojSecondIdeal.In
-- ==== Proof.SecondBlockA.lean ====
/- A point of step 0 leaves the block of the rows it loads. -/
module

public import proofs.«01_k».proof.Proof.SecondBlock

@[expose] public section

set_option maxRecDepth 16384
set_option maxHeartbeats 1000000

noncomputable section

namespace Cert.InprojSecondIdeal.In

open Cert.InprojSecondIdeal Cert.InprojSecondIdeal.Gen Idealize.ShloMosaic Idealize.ShloMosaic.TcCoe Idealize.SL.Sem

variable (m : (ℓ : Loc nD τ sig) → Buf (Elt Ideal) ℓ)

theorem outs_A (c : Dev nD) (t : Fin cfg0.N) (h0 : t.val % 3 = 0) (h1 : ¬t.val % 3 = 1) (h2 : ¬t.val % 3 = 2) :
    outsAt0 m c t.val t.isLt = blockOut 0 (iblk m c 0 t) (iblk m c 1 t) (iblk m c 2 t) := by
  rw [outsAt0_A m c t h0 h1 h2]
  unfold out0_A_3
  rw [View.read_writes_eq_canon _ _ _ (fun y => cover0_A_3 _ _ _ _ _ _ _ _ _ _ _ _ _ _ _ _ y)]
  funext y
  refine View.canon_apply_of_pieces (Val := Elt Ideal) (blockOut 0 (iblk m c 0 t) (iblk m c 1 t) (iblk m c 2 t)) _ (View.PiecesOf.mem ?_) y (cover0_A_3 _ _ _ _ _ _ _ _ _ _ _ _ _ _ _ _ y)
  unfold kernelRun0_A
  dsimp only
  sl_unfold_words
  simp only [View.readAt_eq_ld, (hs0_0 t).read_unread, (hs0_1 t).read_unread, (hs0_2 t).read_unread]
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_, fun x => ?_, fun x => ?_,
    fun x => ?_, fun x => ?_, trivial⟩
  all_goals
    idx_vars x
  · rw [at_none 0 _ _ _ _ _ _ 15 15 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 0 _ _ _ _ _ _ 14 14 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 0 _ _ _ _ _ _ 13 13 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 0 _ _ _ _ _ _ 12 12 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 0 _ _ _ _ _ _ 19 19 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 0 _ _ _ _ _ _ 18 18 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 0 _ _ _ _ _ _ 17 17 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 0 _ _ _ _ _ _ 16 16 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 0 _ _ _ _ _ _ 3 3 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 0 _ _ _ _ _ _ 2 2 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 0 _ _ _ _ _ _ 1 1 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 0 _ _ _ _ _ _ 0 0 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_keep 0 _ _ _ _ _ _ 11 11 (by decide) (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_keep 0 _ _ _ _ _ _ 10 10 (by decide) (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_keep 0 _ _ _ _ _ _ 9 9 (by decide) (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_keep 0 _ _ _ _ _ _ 8 8 (by decide) (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_keep 0 _ _ _ _ _ _ 7 7 (by decide) (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_keep 0 _ _ _ _ _ _ 6 6 (by decide) (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 0 _ _ _ _ _ _ 5 5 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 0 _ _ _ _ _ _ 4 4 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]

end Cert.InprojSecondIdeal.In
-- ==== Proof.SecondBlockB.lean ====
/- A point of step 1 leaves the block of the rows it loads. -/
module

public import proofs.«01_k».proof.Proof.SecondBlock

@[expose] public section

set_option maxRecDepth 16384
set_option maxHeartbeats 1000000

noncomputable section

namespace Cert.InprojSecondIdeal.In

open Cert.InprojSecondIdeal Cert.InprojSecondIdeal.Gen Idealize.ShloMosaic Idealize.ShloMosaic.TcCoe Idealize.SL.Sem

variable (m : (ℓ : Loc nD τ sig) → Buf (Elt Ideal) ℓ)

theorem outs_B (c : Dev nD) (t : Fin cfg0.N) (h0 : ¬t.val % 3 = 0) (h1 : t.val % 3 = 1) (h2 : ¬t.val % 3 = 2) :
    outsAt0 m c t.val t.isLt = blockOut 1 (iblk m c 0 t) (iblk m c 1 t) (iblk m c 2 t) := by
  rw [outsAt0_B m c t h0 h1 h2]
  unfold out0_B_3
  rw [View.read_writes_eq_canon _ _ _ (fun y => cover0_B_3 _ _ _ _ _ _ _ _ _ _ _ _ _ _ _ _ y)]
  funext y
  refine View.canon_apply_of_pieces (Val := Elt Ideal) (blockOut 1 (iblk m c 0 t) (iblk m c 1 t) (iblk m c 2 t)) _ (View.PiecesOf.mem ?_) y (cover0_B_3 _ _ _ _ _ _ _ _ _ _ _ _ _ _ _ _ y)
  unfold kernelRun0_B
  dsimp only
  sl_unfold_words
  simp only [View.readAt_eq_ld, (hs0_0 t).read_unread, (hs0_1 t).read_unread, (hs0_2 t).read_unread]
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_, fun x => ?_, fun x => ?_,
    fun x => ?_, fun x => ?_, trivial⟩
  all_goals
    idx_vars x
  · rw [at_none 1 _ _ _ _ _ _ 19 18 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 1 _ _ _ _ _ _ 18 17 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 1 _ _ _ _ _ _ 17 16 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 1 _ _ _ _ _ _ 16 15 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 1 _ _ _ _ _ _ 15 14 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 1 _ _ _ _ _ _ 14 13 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 1 _ _ _ _ _ _ 13 12 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 1 _ _ _ _ _ _ 12 11 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 1 _ _ _ _ _ _ 11 10 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 1 _ _ _ _ _ _ 10 9 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 1 _ _ _ _ _ _ 9 8 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 1 _ _ _ _ _ _ 8 7 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 1 _ _ _ _ _ _ 7 6 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 1 _ _ _ _ _ _ 6 5 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 1 _ _ _ _ _ _ 5 4 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 1 _ _ _ _ _ _ 3 3 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 1 _ _ _ _ _ _ 2 2 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 1 _ _ _ _ _ _ 1 1 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 1 _ _ _ _ _ _ 0 0 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_zero 1 _ _ _ _ _ _ 4 (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]

end Cert.InprojSecondIdeal.In
-- ==== Proof.SecondBlockC.lean ====
/- A point of step 2 leaves the block of the rows it loads. -/
module

public import proofs.«01_k».proof.Proof.SecondBlock

@[expose] public section

set_option maxRecDepth 16384
set_option maxHeartbeats 1000000

noncomputable section

namespace Cert.InprojSecondIdeal.In

open Cert.InprojSecondIdeal Cert.InprojSecondIdeal.Gen Idealize.ShloMosaic Idealize.ShloMosaic.TcCoe Idealize.SL.Sem

variable (m : (ℓ : Loc nD τ sig) → Buf (Elt Ideal) ℓ)

theorem outs_C (c : Dev nD) (t : Fin cfg0.N) (h0 : ¬t.val % 3 = 0) (h1 : ¬t.val % 3 = 1) (h2 : t.val % 3 = 2) :
    outsAt0 m c t.val t.isLt = blockOut 2 (iblk m c 0 t) (iblk m c 1 t) (iblk m c 2 t) := by
  rw [outsAt0_C m c t h0 h1 h2]
  unfold out0_C_3
  rw [View.read_writes_eq_canon _ _ _ (fun y => cover0_C_3 _ _ _ _ _ _ _ _ _ _ _ _ _ _ _ _ y)]
  funext y
  refine View.canon_apply_of_pieces (Val := Elt Ideal) (blockOut 2 (iblk m c 0 t) (iblk m c 1 t) (iblk m c 2 t)) _ (View.PiecesOf.mem ?_) y (cover0_C_3 _ _ _ _ _ _ _ _ _ _ _ _ _ _ _ _ y)
  unfold kernelRun0_C
  dsimp only
  sl_unfold_words
  simp only [View.readAt_eq_ld, (hs0_0 t).read_unread, (hs0_1 t).read_unread, (hs0_2 t).read_unread]
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_, fun x => ?_, fun x => ?_,
    fun x => ?_, fun x => ?_, trivial⟩
  all_goals
    idx_vars x
  · rw [at_none 2 _ _ _ _ _ _ 11 11 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 2 _ _ _ _ _ _ 10 10 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 2 _ _ _ _ _ _ 9 9 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 2 _ _ _ _ _ _ 8 8 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 2 _ _ _ _ _ _ 19 19 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 2 _ _ _ _ _ _ 18 18 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 2 _ _ _ _ _ _ 17 17 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 2 _ _ _ _ _ _ 16 16 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 2 _ _ _ _ _ _ 15 15 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 2 _ _ _ _ _ _ 14 14 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 2 _ _ _ _ _ _ 13 13 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 2 _ _ _ _ _ _ 12 12 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 2 _ _ _ _ _ _ 7 7 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 2 _ _ _ _ _ _ 6 6 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_none 2 _ _ _ _ _ _ 5 5 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 2 _ _ _ _ _ _ 4 4 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 2 _ _ _ _ _ _ 3 3 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 2 _ _ _ _ _ _ 2 2 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 2 _ _ _ _ _ _ 1 1 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]
  · rw [at_silu 2 _ _ _ _ _ _ 0 0 (by decide) (by decide) (by decide) (by decide)]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95]
    all_goals simp only [← Nat.add_assoc, Nat.reduceAdd, Nat.reduceMul, Nat.zero_add, Nat.reduceSub, Cert.In.siluK, Cert.In.keepK, column]

end Cert.InprojSecondIdeal.In
-- ==== Proof.SecondKernel.lean ====
/- The second input projection's kernel read at an index: every slot of the result is its activation of the rows times its
   columns of the weights. -/
module

public import proofs.«01_k».proof.Proof.SecondBlockA
public import proofs.«01_k».proof.Proof.SecondBlockB
public import proofs.«01_k».proof.Proof.SecondBlockC
public import proofs.«01_k».proof.Proof.InKernel
public import proofs.«01_k».proof.Proof.Gen.InprojSecondIdeal.Value
public import Idealize.ShloMosaic.Lib.StableHlo.ReadAt

@[expose] public section

set_option maxRecDepth 16384
set_option maxHeartbeats 1000000

noncomputable section

namespace Cert.InprojSecondIdeal.In

open Cert.InprojSecondIdeal Cert.InprojSecondIdeal.Gen Idealize.ShloMosaic Idealize.ShloMosaic.TcCoe Idealize.SL.Sem

variable (m : (ℓ : Loc nD τ sig) → Buf (Elt Ideal) ℓ) (c : Dev nD)

/-- The rows, the weights (scaled by column) and the bounds as the kernel finds them. -/
abbrev rowsX : S32768x2048.Idx → EReal := V m c main_v1
abbrev weights : S2048x7552.Idx → EReal := V m c main_v11
abbrev bounds : S1x768.Idx → EReal := V m c main_v12

/-- The block indices of the windows; the weights' second is the first column of the step's block, in elements. -/
theorem window_index : ∀ t : Fin cfg0.N,
    (win0_0.index t 0 = t.val / 3 ∧ win0_0.index t 1 = 0)
    ∧ (win0_1.index t 0 = 0 ∧ win0_1.index t 1 = 2560 * (t.val % 3) - 128 * (t.val % 3 / 2)) ∧ (win0_2.index t 0 = 0 ∧ win0_2.index t 1 = 0)
    ∧ (win0_3.index t 0 = t.val % 3 ∧ win0_3.index t 1 = t.val / 3 ∧ win0_3.index t 2 = 0) :=
  (by decide +kernel : ∀ t : Fin grid0.N,
    (win0_0.index t 0 = t.val / 3 ∧ win0_0.index t 1 = 0)
    ∧ (win0_1.index t 0 = 0 ∧ win0_1.index t 1 = 2560 * (t.val % 3) - 128 * (t.val % 3 / 2)) ∧ (win0_2.index t 0 = 0 ∧ win0_2.index t 1 = 0)
    ∧ (win0_3.index t 0 = t.val % 3 ∧ win0_3.index t 1 = t.val / 3 ∧ win0_3.index t 2 = 0))

theorem point_lt (t : Fin cfg0.N) : t.val < 96 := lt_of_lt_of_eq t.isLt (show cfg0.N = 96 from N_0)

/-! ## A block at an index is its array at the place the window gives it -/

theorem block_0 (t : Fin cfg0.N) (r : Fin 1024) (d : Fin 2048) (M : Fin 32768) (hM : M.val = 1024 * (t.val / 3) + r.val) :
    iblk m c 0 t (ix2 r d) = rowsX m c (ix2 M d) := by
  have hw := window_index t
  show rowsX m c (((cfg0.win 0).blk t).view.emb (ix2 r d)) = _
  generalize rowsX m c = A
  congr 1
  funext a
  apply Fin.ext
  match a with
  | ⟨0, _⟩ => show win0_0.index t 0 * 1024 + 1 * r.val = M.val; omega
  | ⟨1, _⟩ => show win0_0.index t 1 * 2048 + 1 * d.val = d.val; omega

theorem block_1 (t : Fin cfg0.N) (k : Fin 2048) (q : Fin 2560) (Q : Fin 7552)
    (hQ : Q.val = 2560 * (t.val % 3) - 128 * (t.val % 3 / 2) + q.val) : iblk m c 1 t (ix2 k q) = weights m c (ix2 k Q) := by
  have hw := window_index t
  show weights m c (((cfg0.win 1).blk t).view.emb (ix2 k q)) = _
  generalize weights m c = A
  congr 1
  funext a
  apply Fin.ext
  match a with
  | ⟨0, _⟩ => show win0_1.index t 0 + 1 * k.val = k.val; omega
  | ⟨1, _⟩ => show win0_1.index t 1 + 1 * q.val = Q.val; omega

theorem block_2 (t : Fin cfg0.N) (q : Fin 768) : iblk m c 2 t (ix2 0 q) = bounds m c (ix2 0 q) := by
  have hw := window_index t
  show bounds m c (((cfg0.win 2).blk t).view.emb (ix2 0 q)) = _
  generalize bounds m c = A
  congr 1
  funext a
  apply Fin.ext
  match a with
  | ⟨0, _⟩ => show win0_2.index t 0 * 1 + 1 * 0 = 0; omega
  | ⟨1, _⟩ => show win0_2.index t 1 * 768 + 1 * q.val = q.val; omega

/-! ## The result -/

/-- Slot `σ`, row `M`, column `l` of the kernel's result, from the arrays it finds. -/
def result (i : S60x32768x128.Idx) : EReal :=
  Cert.In.value (i 0).val (fun q => bounds m c (ix2 0 q)) (i 2)
    (∑ k : Fin 2048, rowsX m c (ix2 (i 1) k) * weights m c (ix2 k ⟨128 * Cert.In.groupOf (i 0).val + (i 2).val, by
      have := (i 0).isLt; have := (i 2).isLt
      change (i 0).val < 60 at *; change (i 2).val < 128 at *; unfold Cert.In.groupOf; split <;> omega⟩))

/-- What a point leaves at an index of its block, from rows `h` that are those of its block. -/
theorem point_eq (t : Fin cfg0.N) (j : ℕ) (hj : t.val % 3 = j) (h : S1024x2048.Idx → EReal) (s : Fin 20) (r : Fin 1024) (l : Fin 128)
    (σ : Fin 60) (hσ : σ.val = 20 * j + s.val) (M : Fin 32768) (hM : M.val = 1024 * (t.val / 3) + r.val)
    (hh : ∀ d, h (ix2 r d) = rowsX m c (ix2 M d)) :
    blockOut j h (iblk m c 1 t) (iblk m c 2 t) (ix3 s r l) = result m c (ix3 σ M l) := by
  have hj3 : j < 3 := by omega
  show Cert.In.value (20 * j + s.val) (fun q => iblk m c 2 t (ix2 0 q)) l
      (∑ k : Fin 2048, h (ix2 r k) * iblk m c 1 t (ix2 k ⟨128 * group j s.val + l.val, _⟩))
    = Cert.In.value σ.val (fun q => bounds m c (ix2 0 q)) l (∑ k : Fin 2048, rowsX m c (ix2 M k) * weights m c (ix2 k ⟨128 * Cert.In.groupOf σ.val + l.val, _⟩))
  rw [show (fun q => iblk m c 2 t (ix2 0 q)) = fun q => bounds m c (ix2 0 q) from funext fun q => block_2 m c t q, ← hσ]
  refine congrArg (Cert.In.value σ.val _ l) (Finset.sum_congr rfl fun k _ => ?_)
  rw [hh]
  refine congrArg (fun y => rowsX m c (ix2 M k) * y) (block_1 m c t k _ _ ?_)
  show 128 * Cert.In.groupOf σ.val + l.val = 2560 * (t.val % 3) - 128 * (t.val % 3 / 2) + (128 * group j s.val + l.val)
  unfold Cert.In.groupOf group
  have := s.isLt
  have := l.isLt
  rw [hj]
  split <;> split <;> omega

/-- The array the kernel leaves is that function. -/
theorem array_eq : (dats m 0 c).arrAt 3 cfg0.N = result m c := by
  refine (dats m 0 c).arrAt_eq_of_covers 3 _ (by decide +kernel) fun t hf y => ?_
  have hw := window_index t
  have ht := point_lt t
  blk_simp
  rw [after0_3]
  idx_vars y
  obtain ⟨M, hM⟩ : ∃ M : Fin 32768, M.val = 1024 * (t.val / 3) + y1.val := ⟨⟨1024 * (t.val / 3) + y1.val, by have := y1.isLt; omega⟩, rfl⟩
  obtain ⟨σ, hσ⟩ : ∃ σ : Fin 60, σ.val = 20 * (t.val % 3) + y0.val := ⟨⟨20 * (t.val % 3) + y0.val, by have := y0.isLt; omega⟩, rfl⟩
  have hemb : ((View.whole main_v13).slice (win0_3.rect t)).emb (ix3 y0 y1 y2) = ix3 σ M y2 := by
    funext a
    apply Fin.ext
    match a with
    | ⟨0, _⟩ => show win0_3.index t 0 * 20 + 1 * y0.val = σ.val; omega
    | ⟨1, _⟩ => show win0_3.index t 1 * 1024 + 1 * y1.val = M.val; omega
    | ⟨2, _⟩ => show win0_3.index t 2 * 128 + 1 * y2.val = y2.val; omega
  rw [hemb]
  have hh := fun d => block_0 m c t y1 d M hM
  by_cases h0 : t.val % 3 = 0
  · rw [outs_A m c t h0 (by omega) (by omega)]
    exact point_eq m c t 0 h0 _ y0 y1 y2 σ (by omega) M hM hh
  · by_cases h1 : t.val % 3 = 1
    · rw [outs_B m c t h0 h1 (by omega)]
      exact point_eq m c t 1 h1 _ y0 y1 y2 σ (by omega) M hM hh
    · rw [outs_C m c t h0 h1 (by omega)]
      exact point_eq m c t 2 (by omega) _ y0 y1 y2 σ (by omega) M hM hh

/-! ## The host's arrays at an index -/

theorem rowsX_apply (M : Fin 32768) (d : Fin 2048) : rowsX m c (ix2 M d)
    = (m (c, Proc.tc.devRef main_arg0) : S2x16384x2048.Idx → EReal) (ix3 ⟨M.val / 16384, by omega⟩ ⟨M.val % 16384, by omega⟩ d) := by
  unfold rowsX V
  after_reads_at

theorem bounds_apply (q : Fin 768) : bounds m c (ix2 0 q) = (m (c, Proc.tc.devRef main_arg2) : S768.Idx → EReal) (ix1 q) := by
  unfold bounds V
  after_reads_at

/-- The weights as the caller gives them. -/
abbrev rawWeights (k : Fin 2048) (q : Fin 7552) : EReal := (m (c, Proc.tc.devRef main_arg1) : S2048x7552.Idx → EReal) (ix2 k q)

theorem weights_apply (k : Fin 2048) (q : Fin 7552) : weights m c (ix2 k q)
    = rawWeights m c k q * Cert.InprojIdeal.In.factor q.val := by
  unfold weights V Cert.InprojIdeal.In.factor rawWeights
  after_reads_at
  refine congrArg (fun y : EReal => rawWeights m c k q * y) ?_
  split
  · after_reads_at
  · split
    · after_reads_at
    · after_reads_at

end Cert.InprojSecondIdeal.In

end
-- ==== Proof.SecondRef.lean ====
/- The second input projection's reference, whose rows come in already normalised, read at an index. -/
module

public import proofs.«01_k».proof.Proof.Gen.InprojSecondReferenceIdeal.Read
public import proofs.«01_k».proof.Proof.InRef
public import proofs.«01_k».proof.Proof.InSpec
public import Idealize.ShloMosaic.Lib.Pipeline.ValueKit

@[expose] public section

set_option maxRecDepth 16384
set_option maxHeartbeats 1000000

noncomputable section

namespace Cert.InprojSecondReferenceIdeal.In

open Cert.InprojSecondReferenceIdeal Cert.InprojSecondReferenceIdeal.Gen Cert.InprojSecondReferenceIdeal.Read Idealize.ShloMosaic Idealize.ShloMosaic.TcCoe Idealize.SL.Sem

open Cert.InprojReferenceIdeal.In (silu value chain slot_index)

variable (x0 : (⟨S2x16384x2048, .f32⟩ : BufTy).Contents (Elt Ideal)) (x1 : (⟨S2048x7552, .f32⟩ : BufTy).Contents (Elt Ideal))
  (x2 : (⟨S768, .f32⟩ : BufTy).Contents (Elt Ideal))
variable (b : Fin 2) (n : Fin 16384)

/-- Column `q` of the projections. -/
abbrev column (q : Fin 7552) : EReal := ∑ k, x0 (ix3 b n k) * x1 (ix2 k q)

theorem v0 (q : Fin 7552) : val_main_v0 (F := Ideal) x0 x1 (ix3 b n q) = column x0 x1 b n q := by
  unfold val_main_v0
  pointwise

theorem v1 (q : Fin 768) : val_main_v1 (F := Ideal) x0 x1 (ix3 b n q) = column x0 x1 b n ⟨q.val, by omega⟩ := by
  unfold val_main_v1
  pointwise
  exact v0 x0 x1 b n _

theorem v2 (q : Fin 768) : val_main_v2 (F := Ideal) x0 x1 (ix3 b n q) = column x0 x1 b n ⟨768 + q.val, by omega⟩ := by
  unfold val_main_v2
  pointwise
  exact v0 x0 x1 b n _

theorem v3 (q : Fin 768) : val_main_v3 (F := Ideal) x0 x1 (ix3 b n q) = column x0 x1 b n ⟨1536 + q.val, by omega⟩ := by
  unfold val_main_v3
  pointwise
  exact v0 x0 x1 b n _

theorem v4 (q : Fin 768) : val_main_v4 (F := Ideal) x0 x1 (ix3 b n q) = column x0 x1 b n ⟨2304 + q.val, by omega⟩ := by
  unfold val_main_v4
  pointwise
  exact v0 x0 x1 b n _

theorem v5 (q : Fin 640) : val_main_v5 (F := Ideal) x0 x1 (ix3 b n q) = column x0 x1 b n ⟨3072 + q.val, by omega⟩ := by
  unfold val_main_v5
  pointwise
  exact v0 x0 x1 b n _

theorem v6 (q : Fin 640) : val_main_v6 (F := Ideal) x0 x1 (ix3 b n q) = column x0 x1 b n ⟨3712 + q.val, by omega⟩ := by
  unfold val_main_v6
  pointwise
  exact v0 x0 x1 b n _

theorem v7 (q : Fin 640) : val_main_v7 (F := Ideal) x0 x1 (ix3 b n q) = column x0 x1 b n ⟨4352 + q.val, by omega⟩ := by
  unfold val_main_v7
  pointwise
  exact v0 x0 x1 b n _

theorem v8 (q : Fin 640) : val_main_v8 (F := Ideal) x0 x1 (ix3 b n q) = column x0 x1 b n ⟨4992 + q.val, by omega⟩ := by
  unfold val_main_v8
  pointwise
  exact v0 x0 x1 b n _

theorem v9 (q : Fin 320) : val_main_v9 (F := Ideal) x0 x1 (ix3 b n q) = column x0 x1 b n ⟨5632 + q.val, by omega⟩ := by
  unfold val_main_v9
  pointwise
  exact v0 x0 x1 b n _

theorem v10 (q : Fin 320) : val_main_v10 (F := Ideal) x0 x1 (ix3 b n q) = column x0 x1 b n ⟨5952 + q.val, by omega⟩ := by
  unfold val_main_v10
  pointwise
  exact v0 x0 x1 b n _

theorem v11 (q : Fin 640) : val_main_v11 (F := Ideal) x0 x1 (ix3 b n q) = column x0 x1 b n ⟨6272 + q.val, by omega⟩ := by
  unfold val_main_v11
  pointwise
  exact v0 x0 x1 b n _

theorem v12 (q : Fin 640) : val_main_v12 (F := Ideal) x0 x1 (ix3 b n q) = column x0 x1 b n ⟨6912 + q.val, by omega⟩ := by
  unfold val_main_v12
  pointwise
  exact v0 x0 x1 b n _

theorem v26 (q : Fin 768) : val_main_v26 (F := Ideal) x0 x1 (ix3 b n q) = silu (column x0 x1 b n ⟨q.val, by omega⟩) := by
  unfold val_main_v26 val_main_call0_v5 val_main_call0_v4 val_main_call0_v3 val_main_call0_v2 val_main_call0_v1 val_main_call0_v0 val_main_call0_cst val_main_call0_cst_0
  have h := v1 x0 x1 b n q
  revert h
  generalize val_main_v1 (F := Ideal) x0 x1 = f
  intro h
  pointwise
  rw [h]

theorem v27 (q : Fin 768) : val_main_v27 (F := Ideal) x0 x1 (ix3 b n q) = silu (column x0 x1 b n ⟨2304 + q.val, by omega⟩) := by
  unfold val_main_v27 val_main_call1_v5 val_main_call1_v4 val_main_call1_v3 val_main_call1_v2 val_main_call1_v1 val_main_call1_v0 val_main_call1_cst val_main_call1_cst_0
  have h := v4 x0 x1 b n q
  revert h
  generalize val_main_v4 (F := Ideal) x0 x1 = f
  intro h
  pointwise
  rw [h]

theorem v33 (q : Fin 640) : val_main_v33 (F := Ideal) x0 x1 (ix3 b n q) = silu (column x0 x1 b n ⟨4992 + q.val, by omega⟩) := by
  unfold val_main_v33 val_main_call2_v5 val_main_call2_v4 val_main_call2_v3 val_main_call2_v2 val_main_call2_v1 val_main_call2_v0 val_main_call2_cst val_main_call2_cst_0
  have h := v8 x0 x1 b n q
  revert h
  generalize val_main_v8 (F := Ideal) x0 x1 = f
  intro h
  pointwise
  rw [h]

theorem v34 (q : Fin 640) : val_main_v34 (F := Ideal) x0 x1 (ix3 b n q) = silu (column x0 x1 b n ⟨6912 + q.val, by omega⟩) := by
  unfold val_main_v34 val_main_call3_v5 val_main_call3_v4 val_main_call3_v3 val_main_call3_v2 val_main_call3_v1 val_main_call3_v0 val_main_call3_cst val_main_call3_cst_0
  have h := v12 x0 x1 b n q
  revert h
  generalize val_main_v12 (F := Ideal) x0 x1 = f
  intro h
  pointwise
  rw [h]

theorem v24 (q : Fin 768) : val_main_v24 (F := Ideal) x0 x1 x2 (ix3 b n q)
    = (1 - x2 (ix1 q)) * Ideal.div 1 (1 + Ideal.exp (- -column x0 x1 b n ⟨768 + q.val, by omega⟩)) := by
  unfold val_main_v24 val_main_v23 val_main_v22 val_main_v21 val_main_v20 val_main_v19 val_main_v18 val_main_v17 val_main_v16 val_main_v15 val_main_v14 val_main_v13 val_main_cst val_main_cst_0 val_main_cst_1
  have h := v2 x0 x1 b n q
  revert h
  generalize val_main_v2 (F := Ideal) x0 x1 = f
  intro h
  pointwise
  rw [h]

theorem v32 (q : Fin 640) : val_main_v32 (F := Ideal) x0 x1 (ix3 b n q)
    = column x0 x1 b n ⟨3072 + q.val, by omega⟩ * (Ideal.ofBits FTy.f32 1035273459#32 * Ideal.div 1 (Ideal.log (Ideal.ofBits FTy.f32 1073741824#32))) := by
  unfold val_main_v32 val_main_v31 val_main_v30 val_main_v29 val_main_v28 val_main_cst_3 val_main_cst_4 val_main_cst_5
  have h := v5 x0 x1 b n q
  revert h
  generalize val_main_v5 (F := Ideal) x0 x1 = f
  intro h
  pointwise
  rw [h]

theorem v25 (q : Fin 128) : val_main_v25 (F := Ideal) (ix3 b n q) = 0 := by
  unfold val_main_v25 val_main_cst_2
  pointwise

theorem v38 (σ : Fin 60) (M : Fin 32768) (l : Fin 128) : val_main_v38 (F := Ideal) x0 x1 x2 (ix3 σ M l)
    = val_main_v35 (F := Ideal) x0 x1 x2 (ix3 ⟨M.val / 16384, by omega⟩ ⟨M.val % 16384, by omega⟩ ⟨σ.val * 128 + l.val, by omega⟩) := by
  unfold val_main_v38 val_main_v37 val_main_v36
  generalize val_main_v35 (F := Ideal) x0 x1 x2 = f
  pointwise

theorem v35_chain (e : Fin 7680) : val_main_v35 (F := Ideal) x0 x1 x2 (ix3 b n e) = chain
    (fun q => val_main_v26 (F := Ideal) x0 x1 (ix3 b n q)) (fun q => val_main_v24 (F := Ideal) x0 x1 x2 (ix3 b n q)) (fun q => val_main_v3 (F := Ideal) x0 x1 (ix3 b n q)) (fun q => val_main_v27 (F := Ideal) x0 x1 (ix3 b n q)) (fun q => val_main_v25 (F := Ideal)  (ix3 b n q)) (fun q => val_main_v32 (F := Ideal) x0 x1 (ix3 b n q)) (fun q => val_main_v6 (F := Ideal) x0 x1 (ix3 b n q)) (fun q => val_main_v7 (F := Ideal) x0 x1 (ix3 b n q)) (fun q => val_main_v33 (F := Ideal) x0 x1 (ix3 b n q)) (fun q => val_main_v9 (F := Ideal) x0 x1 (ix3 b n q)) (fun q => val_main_v10 (F := Ideal) x0 x1 (ix3 b n q)) (fun q => val_main_v11 (F := Ideal) x0 x1 (ix3 b n q)) (fun q => val_main_v34 (F := Ideal) x0 x1 (ix3 b n q)) e := by
  unfold val_main_v35
  generalize val_main_v26 (F := Ideal) x0 x1 = f26
  generalize val_main_v24 (F := Ideal) x0 x1 x2 = f24
  generalize val_main_v3 (F := Ideal) x0 x1 = f3
  generalize val_main_v27 (F := Ideal) x0 x1 = f27
  generalize val_main_v25 (F := Ideal)  = f25
  generalize val_main_v32 (F := Ideal) x0 x1 = f32
  generalize val_main_v6 (F := Ideal) x0 x1 = f6
  generalize val_main_v7 (F := Ideal) x0 x1 = f7
  generalize val_main_v33 (F := Ideal) x0 x1 = f33
  generalize val_main_v9 (F := Ideal) x0 x1 = f9
  generalize val_main_v10 (F := Ideal) x0 x1 = f10
  generalize val_main_v11 (F := Ideal) x0 x1 = f11
  generalize val_main_v34 (F := Ideal) x0 x1 = f34
  generalize hy : chain (fun q => f26 (ix3 b n q)) (fun q => f24 (ix3 b n q)) (fun q => f3 (ix3 b n q)) (fun q => f27 (ix3 b n q)) (fun q => f25 (ix3 b n q)) (fun q => f32 (ix3 b n q)) (fun q => f6 (ix3 b n q)) (fun q => f7 (ix3 b n q)) (fun q => f33 (ix3 b n q)) (fun q => f9 (ix3 b n q)) (fun q => f10 (ix3 b n q)) (fun q => f11 (ix3 b n q)) (fun q => f34 (ix3 b n q)) e = y
  pointwise
  rw [← hy]
  rfl

theorem v35 (σ : Fin 60) (l : Fin 128) : val_main_v35 (F := Ideal) x0 x1 x2 (ix3 b n ⟨σ.val * 128 + l.val, by omega⟩)
    = value σ.val (fun q => x2 (ix1 q)) l (column x0 x1 b n ⟨128 * Cert.In.groupOf σ.val + l.val, slot_index σ l⟩) := by
  have h26 := v26 x0 x1 b n
  have h24 := v24 x0 x1 x2 b n
  have h3 := v3 x0 x1 b n
  have h27 := v27 x0 x1 b n
  have h25 := v25 b n
  have h32 := v32 x0 x1 b n
  have h6 := v6 x0 x1 b n
  have h7 := v7 x0 x1 b n
  have h33 := v33 x0 x1 b n
  have h9 := v9 x0 x1 b n
  have h10 := v10 x0 x1 b n
  have h11 := v11 x0 x1 b n
  have h34 := v34 x0 x1 b n
  rw [v35_chain]
  simp only [h26, h24, h3, h27, h25, h32, h6, h7, h33, h9, h10, h11, h34]
  generalize column x0 x1 b n = T
  unfold chain
  have hl := l.isLt
  have same : ∀ a b : Fin 7552, a.val = b.val → T a = T b := fun a b h => congrArg T (Fin.ext h)
  by_cases c0 : σ.val * 128 + l.val < 768
  · rw [dif_pos c0]
    have hk : Cert.In.kind σ.val = 1 := by unfold Cert.In.kind; (repeat' split) <;> omega
    unfold value
    rw [hk]
    rw [if_pos rfl]
    exact congrArg silu (same _ _ (by unfold Cert.In.groupOf; dsimp only; split <;> omega))
  rw [dif_neg c0]
  by_cases c1 : σ.val * 128 + l.val - 768 < 768
  · rw [dif_pos c1]
    have hk : Cert.In.kind σ.val = 2 := by unfold Cert.In.kind; (repeat' split) <;> omega
    unfold value
    rw [hk]
    rw [if_neg (by decide), if_pos rfl]
    have e1 : (⟨σ.val * 128 + l.val - 768, c1⟩ : Fin 768) = ⟨(128 * (σ.val - 6) + l.val) % 768, Nat.mod_lt _ (by decide)⟩ :=
      Fin.ext (by dsimp only; omega)
    have e2 : T ⟨768 + (σ.val * 128 + l.val - 768), by omega⟩ = T ⟨128 * Cert.In.groupOf σ.val + l.val, slot_index σ l⟩ :=
      same _ _ (by unfold Cert.In.groupOf; dsimp only; split <;> omega)
    rw [← e1, ← e2]
  rw [dif_neg c1]
  by_cases c2 : σ.val * 128 + l.val - 768 - 768 < 768
  · rw [dif_pos c2]
    have hk : Cert.In.kind σ.val = 0 := by unfold Cert.In.kind; (repeat' split) <;> omega
    unfold value
    rw [hk]
    rw [if_neg (by decide), if_neg (by decide), if_neg (by decide), if_neg (by omega)]
    exact same _ _ (by unfold Cert.In.groupOf; dsimp only; split <;> omega)
  rw [dif_neg c2]
  by_cases c3 : σ.val * 128 + l.val - 768 - 768 - 768 < 768
  · rw [dif_pos c3]
    have hk : Cert.In.kind σ.val = 1 := by unfold Cert.In.kind; (repeat' split) <;> omega
    unfold value
    rw [hk]
    rw [if_pos rfl]
    exact congrArg silu (same _ _ (by unfold Cert.In.groupOf; dsimp only; split <;> omega))
  rw [dif_neg c3]
  by_cases c4 : σ.val * 128 + l.val - 768 - 768 - 768 - 768 < 128
  · rw [dif_pos c4]
    have hk : Cert.In.kind σ.val = 3 := by unfold Cert.In.kind; (repeat' split) <;> omega
    unfold value
    rw [hk]
    rw [if_neg (by decide), if_neg (by decide), if_pos rfl]
  rw [dif_neg c4]
  by_cases c5 : σ.val * 128 + l.val - 768 - 768 - 768 - 768 - 128 < 640
  · rw [dif_pos c5]
    have hk : Cert.In.kind σ.val = 0 := by unfold Cert.In.kind; (repeat' split) <;> omega
    unfold value
    rw [hk]
    rw [if_neg (by decide), if_neg (by decide), if_neg (by decide), if_pos (by omega)]
    exact congrArg (fun y : EReal => y * _) (same _ _ (by unfold Cert.In.groupOf; dsimp only; split <;> omega))
  rw [dif_neg c5]
  by_cases c6 : σ.val * 128 + l.val - 768 - 768 - 768 - 768 - 128 - 640 < 640
  · rw [dif_pos c6]
    have hk : Cert.In.kind σ.val = 0 := by unfold Cert.In.kind; (repeat' split) <;> omega
    unfold value
    rw [hk]
    rw [if_neg (by decide), if_neg (by decide), if_neg (by decide), if_neg (by omega)]
    exact same _ _ (by unfold Cert.In.groupOf; dsimp only; split <;> omega)
  rw [dif_neg c6]
  by_cases c7 : σ.val * 128 + l.val - 768 - 768 - 768 - 768 - 128 - 640 - 640 < 640
  · rw [dif_pos c7]
    have hk : Cert.In.kind σ.val = 0 := by unfold Cert.In.kind; (repeat' split) <;> omega
    unfold value
    rw [hk]
    rw [if_neg (by decide), if_neg (by decide), if_neg (by decide), if_neg (by omega)]
    exact same _ _ (by unfold Cert.In.groupOf; dsimp only; split <;> omega)
  rw [dif_neg c7]
  by_cases c8 : σ.val * 128 + l.val - 768 - 768 - 768 - 768 - 128 - 640 - 640 - 640 < 640
  · rw [dif_pos c8]
    have hk : Cert.In.kind σ.val = 1 := by unfold Cert.In.kind; (repeat' split) <;> omega
    unfold value
    rw [hk]
    rw [if_pos rfl]
    exact congrArg silu (same _ _ (by unfold Cert.In.groupOf; dsimp only; split <;> omega))
  rw [dif_neg c8]
  by_cases c9 : σ.val * 128 + l.val - 768 - 768 - 768 - 768 - 128 - 640 - 640 - 640 - 640 < 320
  · rw [dif_pos c9]
    have hk : Cert.In.kind σ.val = 0 := by unfold Cert.In.kind; (repeat' split) <;> omega
    unfold value
    rw [hk]
    rw [if_neg (by decide), if_neg (by decide), if_neg (by decide), if_neg (by omega)]
    exact same _ _ (by unfold Cert.In.groupOf; dsimp only; split <;> omega)
  rw [dif_neg c9]
  by_cases c10 : σ.val * 128 + l.val - 768 - 768 - 768 - 768 - 128 - 640 - 640 - 640 - 640 - 320 < 320
  · rw [dif_pos c10]
    have hk : Cert.In.kind σ.val = 0 := by unfold Cert.In.kind; (repeat' split) <;> omega
    unfold value
    rw [hk]
    rw [if_neg (by decide), if_neg (by decide), if_neg (by decide), if_neg (by omega)]
    exact same _ _ (by unfold Cert.In.groupOf; dsimp only; split <;> omega)
  rw [dif_neg c10]
  by_cases c11 : σ.val * 128 + l.val - 768 - 768 - 768 - 768 - 128 - 640 - 640 - 640 - 640 - 320 - 320 < 640
  · rw [dif_pos c11]
    have hk : Cert.In.kind σ.val = 0 := by unfold Cert.In.kind; (repeat' split) <;> omega
    unfold value
    rw [hk]
    rw [if_neg (by decide), if_neg (by decide), if_neg (by decide), if_neg (by omega)]
    exact same _ _ (by unfold Cert.In.groupOf; dsimp only; split <;> omega)
  rw [dif_neg c11]
  have hk : Cert.In.kind σ.val = 1 := by unfold Cert.In.kind; (repeat' split) <;> omega
  unfold value
  rw [hk]
  rw [if_pos rfl]
  exact congrArg silu (same _ _ (by unfold Cert.In.groupOf; dsimp only; split <;> omega))

/-- The reference's packed projections at an index. -/
theorem result (σ : Fin 60) (M : Fin 32768) (l : Fin 128) : val_main_v38 (F := Ideal) x0 x1 x2 (ix3 σ M l)
    = value σ.val (fun q => x2 (ix1 q)) l (column x0 x1 ⟨M.val / 16384, by omega⟩ ⟨M.val % 16384, by omega⟩
        ⟨128 * Cert.In.groupOf σ.val + l.val, slot_index σ l⟩) := by
  rw [v38, v35]

end Cert.InprojSecondReferenceIdeal.In

end
-- ==== Proof.SecondEq.lean ====
/- The second input projection's kernel and its reference store the same values when the rows and the weights are real. -/
module

public import proofs.«01_k».proof.Proof.SecondKernel
public import proofs.«01_k».proof.Proof.SecondRef
public import proofs.«01_k».proof.Proof.InEq

@[expose] public section

set_option maxRecDepth 16384
set_option maxHeartbeats 1000000

noncomputable section

namespace Cert.InprojSecondIdeal.In

open Cert.InprojSecondIdeal Cert.InprojSecondIdeal.Gen Idealize.ShloMosaic Idealize.ShloMosaic.TcCoe Idealize.SL.Sem

variable (m : (ℓ : Loc nD τ sig) → Buf (Elt Ideal) ℓ) (c : Dev nD)

/-- The rows and the bounds as the caller gives them. -/
abbrev rawX : S2x16384x2048.Idx → EReal := m (c, Proc.tc.devRef main_arg0)
abbrev rawBounds : S768.Idx → EReal := m (c, Proc.tc.devRef main_arg2)

theorem result_eq (hX : ∀ i, ∃ x : ℝ, rawX m c i = (x : EReal))
    (hW : ∀ i : S2048x7552.Idx, ∃ x : ℝ, (m (c, Proc.tc.devRef main_arg1) : S2048x7552.Idx → EReal) i = (x : EReal))
    (σ : Fin 60) (M : Fin 32768) (l : Fin 128) : result m c (ix3 σ M l)
    = Cert.InprojReferenceIdeal.In.value σ.val (fun q => rawBounds m c (ix1 q)) l
        (Cert.InprojSecondReferenceIdeal.In.column (rawX m c) (m (c, Proc.tc.devRef main_arg1)) ⟨M.val / 16384, by omega⟩ ⟨M.val % 16384, by omega⟩
          ⟨128 * Cert.In.groupOf σ.val + l.val, Cert.InprojReferenceIdeal.In.slot_index σ l⟩) := by
  have hN : ∀ k, rowsX m c (ix2 M k) = rawX m c (ix3 ⟨M.val / 16384, by omega⟩ ⟨M.val % 16384, by omega⟩ k) := fun k => rowsX_apply m c M k
  have hB : (fun q => bounds m c (ix2 0 q)) = fun q => rawBounds m c (ix1 q) := funext fun q => bounds_apply m c q
  obtain ⟨s, hs, hS⟩ := Cert.InprojIdeal.In.factor_real (128 * Cert.In.groupOf σ.val + l.val)
  obtain ⟨x, hx⟩ := Cert.Band.sum_real
    (fun k => rowsX m c (ix2 M k) * rawWeights m c k ⟨128 * Cert.In.groupOf σ.val + l.val, Cert.InprojReferenceIdeal.In.slot_index σ l⟩) (fun k => by
      obtain ⟨a, ha⟩ := hX (ix3 ⟨M.val / 16384, by omega⟩ ⟨M.val % 16384, by omega⟩ k)
      obtain ⟨w, hw⟩ := hW (ix2 k ⟨128 * Cert.In.groupOf σ.val + l.val, Cert.InprojReferenceIdeal.In.slot_index σ l⟩)
      refine ⟨a * w, ?_⟩
      rw [hN, ha, EReal.coe_mul]
      exact congrArg (fun y : EReal => (a : EReal) * y) hw)
  have hcol : Cert.InprojSecondReferenceIdeal.In.column (rawX m c) (m (c, Proc.tc.devRef main_arg1)) ⟨M.val / 16384, by omega⟩ ⟨M.val % 16384, by omega⟩
      ⟨128 * Cert.In.groupOf σ.val + l.val, Cert.InprojReferenceIdeal.In.slot_index σ l⟩ = (x : EReal) := by
    rw [← hx]
    exact Finset.sum_congr rfl fun k _ => congrArg (fun y : EReal => y * rawWeights m c k _) (hN k).symm
  rw [hcol, ← hB]
  refine Cert.InprojIdeal.In.value_eq σ _ l x _ ?_
  show (∑ k : Fin 2048, rowsX m c (ix2 M k) * weights m c (ix2 k ⟨128 * Cert.In.groupOf σ.val + l.val, _⟩)) = _
  rw [hS, ← hx, ← Cert.In.sum_scale _ _ hs]
  refine Finset.sum_congr rfl fun k _ => ?_
  rw [weights_apply, hS]

end Cert.InprojSecondIdeal.In

end
-- ==== Proof.FiniteRows.lean ====
/- What the second input projection's precondition says: the rows and the weights hold real numbers. -/
module

public import proofs.«01_k».proof.Pre_finite_rows
public import proofs.«01_k».proof.Proof.Finite

@[expose] public section

set_option maxRecDepth 16384

noncomputable section

namespace Cert.Pre_finite_rows

open Idealize.ShloMosaic

variable [Facts]

instance : Subsingleton S_.Idx := ⟨fun a b => funext fun i => i.elim0⟩

theorem real_of_fn (x0 : FVec Ideal S2x16384x2048 .f32) (x1 : FVec Ideal S2048x7552 .f32) (x2 : FVec Ideal S768 .f32)
    (h : fn x0 x1 x2 = fun _ => 1#1) : (∀ i, ∃ x : ℝ, x0 i = (x : EReal)) ∧ ∀ i, ∃ x : ℝ, x1 i = (x : EReal) := by
  have h0 := congrFun h (Shape.Idx.first Facts.h_S_)
  dsimp only [fn] at h0
  have h1 := IntOp.andi_eq_one.1 h0
  exact ⟨fun i => Cert.Pre_finite_scores.real_of_abs_lt _ (Host.reduce_andi_all _ _ _ _ _ h1.1 i),
    fun i => Cert.Pre_finite_scores.real_of_abs_lt _ (Host.reduce_andi_all _ _ _ _ _ h1.2 i)⟩

end Cert.Pre_finite_rows

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Pre_finite_scores
public import proofs.«01_k».proof.Proof.Gen.ReferenceIdeal.Run
public import proofs.«01_k».proof.Proof.Gen.ReferenceIdeal.Read
public import proofs.«01_k».proof.Proof.Gen.Outproj.Frame
public import proofs.«01_k».proof.Proof.Gen.OutprojIdeal.Frame
public import proofs.«01_k».proof.Proof.Gen.Inproj.Frame
public import proofs.«01_k».proof.Proof.Gen.InprojIdeal.Frame
public import proofs.«01_k».proof.Proof.Gen.Pre_finite_inputs
public import proofs.«01_k».proof.Proof.Gen.OutprojReferenceIdeal.Run
public import proofs.«01_k».proof.Proof.Gen.OutprojReferenceIdeal.Read
public import proofs.«01_k».proof.Proof.Gen.InprojReferenceIdeal.Run
public import proofs.«01_k».proof.Proof.Gen.InprojReferenceIdeal.Read
public import proofs.«01_k».proof.Proof.Gen.OutprojFirst.Frame
public import proofs.«01_k».proof.Proof.Gen.OutprojFirstIdeal.Frame
public import proofs.«01_k».proof.Proof.Gen.OutprojFirstIdeal.Value
public import proofs.«01_k».proof.Proof.Gen.InprojSecond.Frame
public import proofs.«01_k».proof.Proof.Gen.InprojSecondIdeal.Frame
public import proofs.«01_k».proof.Proof.Gen.InprojSecondIdeal.Value
public import proofs.«01_k».proof.Proof.Gen.Pre_finite_rows
public import proofs.«01_k».proof.Proof.Gen.OutprojFirstReferenceIdeal.Run
public import proofs.«01_k».proof.Proof.Gen.OutprojFirstReferenceIdeal.Read
public import proofs.«01_k».proof.Proof.Gen.InprojSecondReferenceIdeal.Run
public import proofs.«01_k».proof.Proof.Gen.InprojSecondReferenceIdeal.Read
public import proofs.«01_k».proof.Proof.Gen.OutprojIdeal.Value
public import proofs.«01_k».proof.Proof.Gen.InprojIdeal.Value
public import proofs.«01_k».proof.Proof.BandKernel
public import proofs.«01_k».proof.Proof.Finite
public import proofs.«01_k».proof.Proof.RefRead
public import proofs.«01_k».proof.Proof.OutKernel
public import proofs.«01_k».proof.Proof.OutRef
public import proofs.«01_k».proof.Proof.InEq
public import proofs.«01_k».proof.Proof.FiniteInputs
public import proofs.«01_k».proof.Proof.OutFirstKernel
public import proofs.«01_k».proof.Proof.OutFirstRef
public import proofs.«01_k».proof.Proof.SecondEq
public import proofs.«01_k».proof.Proof.FiniteRows
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

theorem reference_quiescent : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem reference_quiescent_finite : quiescent_ReferenceIdeal_pre_finite_scores := fun m ρ _ => reference_quiescent m ρ trivial

/-- The band attention's kernel and its reference end with equal results. -/
theorem band : algebraic_KernelIdeal_ReferenceIdeal_pre_finite_scores := by
  intro m ρ m' ρ' hpre hagree
  refine ⟨fun c => (Cert.KernelIdeal.Gen.dats m 0 c).arrAt 20 Cert.KernelIdeal.cfg0.N, Cert.KernelIdeal.Band.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v97_eq, (hagree c).1, (hagree c).2]
  have hR := Cert.Pre_finite_scores.real_of_fn _ _ (hpre c)
  funext i
  idx_vars i
  exact (Cert.ReferenceIdeal.Band.result_apply _ _ _ _).trans (Cert.KernelIdeal.Band.result_eq m c hR _ _).symm

theorem outproj_reference_quiescent : quiescent_OutprojReferenceIdeal := fun m ρ _ =>
  (θ_run Cert.OutprojReferenceIdeal.defs _ _).mono (fun r h => ⟨fun c => (h c).2, sem_eq_zero_of_no_sems (by decide) r.2⟩)
    (Cert.OutprojReferenceIdeal.Value.run (F := Ideal) m ρ)

/-- The output projection's kernel and its reference end with equal results. -/
theorem outproj : algebraic_OutprojIdeal_OutprojReferenceIdeal := by
  intro m ρ m' ρ' _ hagree
  refine ⟨fun c => (Cert.OutprojIdeal.Gen.dats m 0 c).arrAt 6 Cert.OutprojIdeal.cfg0.N, Cert.OutprojIdeal.Value.run_blocks m ρ, ?_⟩
  refine (θ_run Cert.OutprojReferenceIdeal.defs _ _).mono (fun _ h c => ⟨?_, (h c).2⟩) (Cert.OutprojReferenceIdeal.Value.run (F := Ideal) m' ρ')
  rw [(h c).1, Cert.OutprojReferenceIdeal.Read.val_main_v16_eq, (hagree c).1, (hagree c).2.1, (hagree c).2.2.1, (hagree c).2.2.2.1,
    (hagree c).2.2.2.2.1, (hagree c).2.2.2.2.2]
  refine Eq.trans ?_ (Cert.OutprojIdeal.Out.array_eq m c).symm
  funext i
  idx_vars i
  refine (Cert.OutprojReferenceIdeal.Out.v16 _ _ _ _ _ _ _ _).trans ?_
  unfold Cert.OutprojReferenceIdeal.Out.row
  change _ = Norm.norm (Norm.residual (Norm.beside (fun e => Cert.OutprojIdeal.Out.rowsA m c (ix2 i0 e)) (fun e => Cert.OutprojIdeal.Out.rowsB m c (ix2 i0 e))
    (fun e => Cert.OutprojIdeal.Out.rowsC m c (ix2 i0 e))) (fun d => Cert.OutprojIdeal.Out.rowsX m c (ix2 i0 d))
    (fun e d => Cert.OutprojIdeal.Out.weights m c (ix2 e d))) (fun d => Cert.OutprojIdeal.Out.gain m c (ix2 0 d)) i1
  rw [funext fun e => Cert.OutprojIdeal.Out.rowsA_apply m c i0 e, funext fun e => Cert.OutprojIdeal.Out.rowsB_apply m c i0 e,
    funext fun e => Cert.OutprojIdeal.Out.rowsC_apply m c i0 e, funext fun d => Cert.OutprojIdeal.Out.rowsX_apply m c i0 d,
    funext fun e => funext fun d => Cert.OutprojIdeal.Out.weights_apply m c e d, funext fun d => Cert.OutprojIdeal.Out.gain_apply m c d]

theorem inproj_reference_quiescent : quiescent_InprojReferenceIdeal := fun m ρ _ =>
  (θ_run Cert.InprojReferenceIdeal.defs _ _).mono (fun r h => ⟨fun c => (h c).2, sem_eq_zero_of_no_sems (by decide) r.2⟩)
    (Cert.InprojReferenceIdeal.Value.run (F := Ideal) m ρ)

theorem inproj_reference_quiescent_finite : quiescent_InprojReferenceIdeal_pre_finite_inputs := fun m ρ _ => inproj_reference_quiescent m ρ trivial

/-- The input projection's kernel and its reference end with equal results. -/
theorem inproj : algebraic_InprojIdeal_InprojReferenceIdeal_pre_finite_inputs := by
  intro m ρ m' ρ' hpre hagree
  refine ⟨fun c => (Cert.InprojIdeal.Gen.dats m 0 c).arrAt 4 Cert.InprojIdeal.cfg0.N, Cert.InprojIdeal.Value.run_blocks m ρ, ?_⟩
  refine (θ_run Cert.InprojReferenceIdeal.defs _ _).mono (fun _ h c => ⟨?_, (h c).2⟩) (Cert.InprojReferenceIdeal.Value.run (F := Ideal) m' ρ')
  rw [(h c).1, Cert.InprojReferenceIdeal.Read.val_main_v51_eq, (hagree c).1, (hagree c).2.1, (hagree c).2.2.1, (hagree c).2.2.2]
  refine Eq.trans ?_ (Cert.InprojIdeal.In.array_eq m c).symm
  obtain ⟨hX, hG, hW⟩ := Cert.Pre_finite_inputs.real_of_fn _ _ _ _ (hpre c)
  funext i
  idx_vars i
  exact (Cert.InprojReferenceIdeal.In.result _ _ _ _ _ _ _).trans (Cert.InprojIdeal.In.result_eq m c hX hG hW _ _ _).symm

theorem outproj_first_reference_quiescent : quiescent_OutprojFirstReferenceIdeal := fun m ρ _ =>
  (θ_run Cert.OutprojFirstReferenceIdeal.defs _ _).mono (fun r h => ⟨fun c => (h c).2.2, sem_eq_zero_of_no_sems (by decide) r.2⟩)
    (Cert.OutprojFirstReferenceIdeal.Value.run (F := Ideal) m ρ)

/-- The first output projection's kernel and its reference end with equal residual rows and equal normalised rows. -/
theorem outproj_first : algebraic_OutprojFirstIdeal_OutprojFirstReferenceIdeal := by
  intro m ρ m' ρ' _ hagree
  refine ⟨fun c => (Cert.OutprojFirstIdeal.Gen.dats m 0 c).arrAt 6 Cert.OutprojFirstIdeal.cfg0.N,
    fun c => (Cert.OutprojFirstIdeal.Gen.dats m 0 c).arrAt 7 Cert.OutprojFirstIdeal.cfg0.N, Cert.OutprojFirstIdeal.Value.run_blocks m ρ, ?_⟩
  refine (θ_run Cert.OutprojFirstReferenceIdeal.defs _ _).mono (fun _ h c => ⟨?_, ?_, (h c).2.2⟩) (Cert.OutprojFirstReferenceIdeal.Value.run (F := Ideal) m' ρ')
  · rw [(h c).1, Cert.OutprojFirstReferenceIdeal.Read.val_main_v3_eq, (hagree c).1, (hagree c).2.1, (hagree c).2.2.1, (hagree c).2.2.2.1,
      (hagree c).2.2.2.2.1]
    refine Eq.trans ?_ (Cert.OutprojFirstIdeal.Out.rows_eq m c).symm
    funext i
    idx_vars i
    refine (Cert.OutprojFirstReferenceIdeal.Out.v3 _ _ _ _ _ _ _).trans ?_
    unfold Cert.OutprojFirstReferenceIdeal.Out.row
    change _ = Norm.residual (Norm.beside (fun e => Cert.OutprojFirstIdeal.Out.rowsA m c (ix2 i0 e)) (fun e => Cert.OutprojFirstIdeal.Out.rowsB m c (ix2 i0 e))
      (fun e => Cert.OutprojFirstIdeal.Out.rowsC m c (ix2 i0 e))) (fun d => Cert.OutprojFirstIdeal.Out.rowsX m c (ix2 i0 d)) (fun e d => Cert.OutprojFirstIdeal.Out.weights m c (ix2 e d)) i1
    rw [funext fun e => Cert.OutprojFirstIdeal.Out.rowsA_apply m c i0 e, funext fun e => Cert.OutprojFirstIdeal.Out.rowsB_apply m c i0 e,
      funext fun e => Cert.OutprojFirstIdeal.Out.rowsC_apply m c i0 e, funext fun d => Cert.OutprojFirstIdeal.Out.rowsX_apply m c i0 d,
      funext fun e => funext fun d => Cert.OutprojFirstIdeal.Out.weights_apply m c e d]
  · rw [(h c).2.1, Cert.OutprojFirstReferenceIdeal.Read.val_main_v18_eq, (hagree c).1, (hagree c).2.1, (hagree c).2.2.1, (hagree c).2.2.2.1,
      (hagree c).2.2.2.2.1, (hagree c).2.2.2.2.2]
    refine Eq.trans ?_ (Cert.OutprojFirstIdeal.Out.array_eq m c).symm
    funext i
    idx_vars i
    refine (Cert.OutprojFirstReferenceIdeal.Out.v18 _ _ _ _ _ _ _ _).trans ?_
    unfold Cert.OutprojFirstReferenceIdeal.Out.row
    change _ = Norm.norm (Norm.residual (Norm.beside (fun e => Cert.OutprojFirstIdeal.Out.rowsA m c (ix2 i0 e)) (fun e => Cert.OutprojFirstIdeal.Out.rowsB m c (ix2 i0 e))
      (fun e => Cert.OutprojFirstIdeal.Out.rowsC m c (ix2 i0 e))) (fun d => Cert.OutprojFirstIdeal.Out.rowsX m c (ix2 i0 d)) (fun e d => Cert.OutprojFirstIdeal.Out.weights m c (ix2 e d))) (fun d => Cert.OutprojFirstIdeal.Out.gain m c (ix2 0 d)) i1
    rw [funext fun e => Cert.OutprojFirstIdeal.Out.rowsA_apply m c i0 e, funext fun e => Cert.OutprojFirstIdeal.Out.rowsB_apply m c i0 e,
      funext fun e => Cert.OutprojFirstIdeal.Out.rowsC_apply m c i0 e, funext fun d => Cert.OutprojFirstIdeal.Out.rowsX_apply m c i0 d,
      funext fun e => funext fun d => Cert.OutprojFirstIdeal.Out.weights_apply m c e d, funext fun d => Cert.OutprojFirstIdeal.Out.gain_apply m c d]

theorem inproj_second_reference_quiescent : quiescent_InprojSecondReferenceIdeal := fun m ρ _ =>
  (θ_run Cert.InprojSecondReferenceIdeal.defs _ _).mono (fun r h => ⟨fun c => (h c).2, sem_eq_zero_of_no_sems (by decide) r.2⟩)
    (Cert.InprojSecondReferenceIdeal.Value.run (F := Ideal) m ρ)

theorem inproj_second_reference_quiescent_finite : quiescent_InprojSecondReferenceIdeal_pre_finite_rows :=
  fun m ρ _ => inproj_second_reference_quiescent m ρ trivial

/-- The second input projection's kernel and its reference end with equal results. -/
theorem inproj_second : algebraic_InprojSecondIdeal_InprojSecondReferenceIdeal_pre_finite_rows := by
  intro m ρ m' ρ' hpre hagree
  refine ⟨fun c => (Cert.InprojSecondIdeal.Gen.dats m 0 c).arrAt 3 Cert.InprojSecondIdeal.cfg0.N, Cert.InprojSecondIdeal.Value.run_blocks m ρ, ?_⟩
  refine (θ_run Cert.InprojSecondReferenceIdeal.defs _ _).mono (fun _ h c => ⟨?_, (h c).2⟩) (Cert.InprojSecondReferenceIdeal.Value.run (F := Ideal) m' ρ')
  rw [(h c).1, Cert.InprojSecondReferenceIdeal.Read.val_main_v38_eq, (hagree c).1, (hagree c).2.1, (hagree c).2.2]
  refine Eq.trans ?_ (Cert.InprojSecondIdeal.In.array_eq m c).symm
  obtain ⟨hX, hW⟩ := Cert.Pre_finite_rows.real_of_fn _ _ _ (hpre c)
  funext i
  idx_vars i
  exact (Cert.InprojSecondReferenceIdeal.In.result _ _ _ _ _ _).trans (Cert.InprojSecondIdeal.In.result_eq m c hX hW _ _ _).symm

theorem claim : Cert.Claim := ⟨Cert.Kernel.Gen.facts, Cert.KernelIdeal.Gen.facts, Cert.ReferenceIdeal.Gen.facts,
  Cert.Outproj.Gen.facts, Cert.OutprojIdeal.Gen.facts, Cert.OutprojReferenceIdeal.Gen.facts,
  Cert.Inproj.Gen.facts, Cert.InprojIdeal.Gen.facts, Cert.InprojReferenceIdeal.Gen.facts,
  Cert.OutprojFirst.Gen.facts, Cert.OutprojFirstIdeal.Gen.facts, Cert.OutprojFirstReferenceIdeal.Gen.facts,
  Cert.InprojSecond.Gen.facts, Cert.InprojSecondIdeal.Gen.facts, Cert.InprojSecondReferenceIdeal.Gen.facts,
  Cert.Pre_finite_scores.Gen.facts, Cert.Pre_finite_inputs.Gen.facts, Cert.Pre_finite_rows.Gen.facts,
  fun m ρ _ => Cert.Kernel.Gen.frame m ρ, fun m ρ _ => Cert.KernelIdeal.Gen.frame m ρ, fun m ρ _ => Cert.KernelIdeal.Gen.frame m ρ,
  reference_quiescent, reference_quiescent_finite,
  fun m ρ _ => Cert.Outproj.Gen.frame m ρ, fun m ρ _ => Cert.OutprojIdeal.Gen.frame m ρ, outproj_reference_quiescent,
  fun m ρ _ => Cert.Inproj.Gen.frame m ρ, fun m ρ _ => Cert.InprojIdeal.Gen.frame m ρ, fun m ρ _ => Cert.InprojIdeal.Gen.frame m ρ,
  inproj_reference_quiescent, inproj_reference_quiescent_finite,
  fun m ρ _ => Cert.OutprojFirst.Gen.frame m ρ, fun m ρ _ => Cert.OutprojFirstIdeal.Gen.frame m ρ, outproj_first_reference_quiescent,
  fun m ρ _ => Cert.InprojSecond.Gen.frame m ρ, fun m ρ _ => Cert.InprojSecondIdeal.Gen.frame m ρ, fun m ρ _ => Cert.InprojSecondIdeal.Gen.frame m ρ,
  inproj_second_reference_quiescent, inproj_second_reference_quiescent_finite,
  (trivial : preserves_Kernel_KernelIdeal), band, (trivial : preserves_Outproj_OutprojIdeal), outproj,
  (trivial : preserves_Inproj_InprojIdeal), inproj,
  (trivial : preserves_OutprojFirst_OutprojFirstIdeal), outproj_first, (trivial : preserves_InprojSecond_InprojSecondIdeal), inproj_second⟩

end Cert.Proof

end
